-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Experts [hPre_moe_plan : Cert.Pre_moe_plan.Facts] (m : (ℓ : Loc Cert.Experts.nD Cert.Experts.τ Cert.Experts.sig) → Buf (Elt Bits) ℓ) : Prop :=
  ∀ c : Dev Cert.Experts.nD,
    (Cert.Pre_moe_plan.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_moe_plan : Cert.Pre_moe_plan.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_moe_plan.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_DenseIdeal (m : (ℓ : Loc Cert.DenseIdeal.nD Cert.DenseIdeal.τ Cert.DenseIdeal.sig) → Buf (Elt Ideal) ℓ) : Prop :=
  True

def Pre_DenseIdeal_moe_plan [hPre_moe_plan : Cert.Pre_moe_plan.Facts] (m : (ℓ : Loc Cert.DenseIdeal.nD Cert.DenseIdeal.τ Cert.DenseIdeal.sig) → Buf (Elt Ideal) ℓ) : Prop :=
  ∀ c : Dev Cert.DenseIdeal.nD,
    (Cert.Pre_moe_plan.fn (F := Ideal) (m ((c.tc : Thread Cert.DenseIdeal.nD Cert.DenseIdeal.τ).loc Cert.DenseIdeal.main_arg0)) (m ((c.tc : Thread Cert.DenseIdeal.nD Cert.DenseIdeal.τ).loc Cert.DenseIdeal.main_arg1)) (m ((c.tc : Thread Cert.DenseIdeal.nD Cert.DenseIdeal.τ).loc Cert.DenseIdeal.main_arg2)) (m ((c.tc : Thread Cert.DenseIdeal.nD Cert.DenseIdeal.τ).loc Cert.DenseIdeal.main_arg3)) (m ((c.tc : Thread Cert.DenseIdeal.nD Cert.DenseIdeal.τ).loc Cert.DenseIdeal.main_arg4)) (m ((c.tc : Thread Cert.DenseIdeal.nD Cert.DenseIdeal.τ).loc Cert.DenseIdeal.main_arg5))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_ProjectionIdeal (m : (ℓ : Loc Cert.ProjectionIdeal.nD Cert.ProjectionIdeal.τ Cert.ProjectionIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Experts [hExperts : Cert.Experts.Facts] [hPre_moe_plan : Cert.Pre_moe_plan.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_moe_plan : Cert.Pre_moe_plan.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5))
      ∧ r.2.sem = fun _ => 0)

def quiescent_DenseIdeal_pre_moe_plan [hDenseIdeal : Cert.DenseIdeal.Facts] [hPre_moe_plan : Cert.Pre_moe_plan.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal_moe_plan m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Experts_ExpertsIdeal : Prop :=
  True

def algebraic_ExpertsIdeal_DenseIdeal_on_blocks_used [hExpertsIdeal : Cert.ExpertsIdeal.Facts] [hDenseIdeal : Cert.DenseIdeal.Facts] [hPre_moe_plan : Cert.Pre_moe_plan.Facts] [hOn_blocks_used : Cert.On_blocks_used.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.DenseIdeal.nD Cert.DenseIdeal.τ Cert.DenseIdeal.sig) → Buf (Elt Ideal) ℓ) (g' : Dev Cert.DenseIdeal.nD → PrngReg), Pre_ExpertsIdeal m →
    (∀ c : Dev Cert.ExpertsIdeal.nD,
      m' ((c.tc : Thread Cert.DenseIdeal.nD Cert.DenseIdeal.τ).loc Cert.DenseIdeal.main_arg0) = m ((c.tc : Thread Cert.ExpertsIdeal.nD Cert.ExpertsIdeal.τ).loc Cert.ExpertsIdeal.main_arg0)
      ∧ m' ((c.tc : Thread Cert.DenseIdeal.nD Cert.DenseIdeal.τ).loc Cert.DenseIdeal.main_arg1) = m ((c.tc : Thread Cert.ExpertsIdeal.nD Cert.ExpertsIdeal.τ).loc Cert.ExpertsIdeal.main_arg1)
      ∧ m' ((c.tc : Thread Cert.DenseIdeal.nD Cert.DenseIdeal.τ).loc Cert.DenseIdeal.main_arg2) = m ((c.tc : Thread Cert.ExpertsIdeal.nD Cert.ExpertsIdeal.τ).loc Cert.ExpertsIdeal.main_arg2)
      ∧ m' ((c.tc : Thread Cert.DenseIdeal.nD Cert.DenseIdeal.τ).loc Cert.DenseIdeal.main_arg3) = m ((c.tc : Thread Cert.ExpertsIdeal.nD Cert.ExpertsIdeal.τ).loc Cert.ExpertsIdeal.main_arg3)
      ∧ m' ((c.tc : Thread Cert.DenseIdeal.nD Cert.DenseIdeal.τ).loc Cert.DenseIdeal.main_arg4) = m ((c.tc : Thread Cert.ExpertsIdeal.nD Cert.ExpertsIdeal.τ).loc Cert.ExpertsIdeal.main_arg4)
      ∧ m' ((c.tc : Thread Cert.DenseIdeal.nD Cert.DenseIdeal.τ).loc Cert.DenseIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          (∀ i : (⟨2, ![97280, 2048]⟩ : Shape).Idx, (Cert.On_blocks_used.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) i = 1#1 → r.2.mem ((c.tc : Thread Cert.ExpertsIdeal.nD Cert.ExpertsIdeal.τ).loc Cert.ExpertsIdeal.main_v0) i = v0 c i)
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.DenseIdeal.defs (F := Ideal)) (onTc (τ := Cert.DenseIdeal.τ) (Cert.DenseIdeal.main (F := Ideal))) ⟨m', fun _ => 0, g'⟩ (fun r => ∀ c : Dev Cert.DenseIdeal.nD,
          (∀ i : (⟨2, ![97280, 2048]⟩ : Shape).Idx, (Cert.On_blocks_used.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) i = 1#1 → r.2.mem ((c.tc : Thread Cert.DenseIdeal.nD Cert.DenseIdeal.τ).loc Cert.DenseIdeal.main_v125) i = v0 c i)
          ∧ r.2.mem ((c.tc : Thread Cert.DenseIdeal.nD Cert.DenseIdeal.τ).loc Cert.DenseIdeal.main_arg0) = m' ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m' ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m' ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m' ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m' ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m' ((c.tc : Thread Cert.DenseIdeal.nD Cert.DenseIdeal.τ).loc Cert.DenseIdeal.main_arg5))

def preserves_Inproj_InprojIdeal : Prop :=
  True

def algebraic_InprojIdeal_ProjectionIdeal_on_finite_tail [hInprojIdeal : Cert.InprojIdeal.Facts] [hProjectionIdeal : Cert.ProjectionIdeal.Facts] [hOn_finite_tail : Cert.On_finite_tail.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.ProjectionIdeal.nD Cert.ProjectionIdeal.τ Cert.ProjectionIdeal.sig) → Buf (Elt Ideal) ℓ) (g' : Dev Cert.ProjectionIdeal.nD → PrngReg), Pre_InprojIdeal m →
    (∀ c : Dev Cert.InprojIdeal.nD,
      m' ((c.tc : Thread Cert.ProjectionIdeal.nD Cert.ProjectionIdeal.τ).loc Cert.ProjectionIdeal.main_arg0) = m ((c.tc : Thread Cert.InprojIdeal.nD Cert.InprojIdeal.τ).loc Cert.InprojIdeal.main_arg0)
      ∧ m' ((c.tc : Thread Cert.ProjectionIdeal.nD Cert.ProjectionIdeal.τ).loc Cert.ProjectionIdeal.main_arg1) = m ((c.tc : Thread Cert.InprojIdeal.nD Cert.InprojIdeal.τ).loc Cert.InprojIdeal.main_arg1)
      ∧ m' ((c.tc : Thread Cert.ProjectionIdeal.nD Cert.ProjectionIdeal.τ).loc Cert.ProjectionIdeal.main_arg2) = m ((c.tc : Thread Cert.InprojIdeal.nD Cert.InprojIdeal.τ).loc Cert.InprojIdeal.main_arg2)
      ∧ m' ((c.tc : Thread Cert.ProjectionIdeal.nD Cert.ProjectionIdeal.τ).loc Cert.ProjectionIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v18_0)) (v1 : (c : Dev Cert.InprojIdeal.nD) → Buf (Elt Ideal) ((c.tc : Thread Cert.InprojIdeal.nD Cert.InprojIdeal.τ).loc Cert.InprojIdeal.main_v18_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          (∀ i : (⟨2, ![8192, 6656]⟩ : Shape).Idx, (Cert.On_finite_tail.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3))).1 i = 1#1 → r.2.mem ((c.tc : Thread Cert.InprojIdeal.nD Cert.InprojIdeal.τ).loc Cert.InprojIdeal.main_v18_0) i = v0 c i)
          ∧ (∀ i : (⟨2, ![8192, 384]⟩ : Shape).Idx, (Cert.On_finite_tail.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3))).2 i = 1#1 → r.2.mem ((c.tc : Thread Cert.InprojIdeal.nD Cert.InprojIdeal.τ).loc Cert.InprojIdeal.main_v18_1) i = v1 c i)
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.ProjectionIdeal.defs (F := Ideal)) (onTc (τ := Cert.ProjectionIdeal.τ) (Cert.ProjectionIdeal.main (F := Ideal))) ⟨m', fun _ => 0, g'⟩ (fun r => ∀ c : Dev Cert.ProjectionIdeal.nD,
          (∀ i : (⟨2, ![8192, 6656]⟩ : Shape).Idx, (Cert.On_finite_tail.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3))).1 i = 1#1 → r.2.mem ((c.tc : Thread Cert.ProjectionIdeal.nD Cert.ProjectionIdeal.τ).loc Cert.ProjectionIdeal.main_v11) i = v0 c i)
          ∧ (∀ i : (⟨2, ![8192, 384]⟩ : Shape).Idx, (Cert.On_finite_tail.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3))).2 i = 1#1 → r.2.mem ((c.tc : Thread Cert.ProjectionIdeal.nD Cert.ProjectionIdeal.τ).loc Cert.ProjectionIdeal.main_v18) i = v1 c i)
          ∧ r.2.mem ((c.tc : Thread Cert.ProjectionIdeal.nD Cert.ProjectionIdeal.τ).loc Cert.ProjectionIdeal.main_arg0) = m' ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m' ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m' ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m' ((c.tc : Thread Cert.ProjectionIdeal.nD Cert.ProjectionIdeal.τ).loc Cert.ProjectionIdeal.main_arg3))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hDenseIdeal : Cert.DenseIdeal.Facts) (hInproj : Cert.Inproj.Facts) (hInprojIdeal : Cert.InprojIdeal.Facts) (hProjectionIdeal : Cert.ProjectionIdeal.Facts) (hPre_moe_plan : Cert.Pre_moe_plan.Facts) (hOn_blocks_used : Cert.On_blocks_used.Facts) (hOn_finite_tail : Cert.On_finite_tail.Facts),
    quiescent_Kernel (hKernel := hKernel)
    ∧ quiescent_KernelIdeal (hKernelIdeal := hKernelIdeal)
    ∧ quiescent_ReferenceIdeal (hReferenceIdeal := hReferenceIdeal)
    ∧ quiescent_Experts (hExperts := hExperts) (hPre_moe_plan := hPre_moe_plan)
    ∧ quiescent_ExpertsIdeal (hExpertsIdeal := hExpertsIdeal) (hPre_moe_plan := hPre_moe_plan)
    ∧ quiescent_DenseIdeal (hDenseIdeal := hDenseIdeal)
    ∧ quiescent_DenseIdeal_pre_moe_plan (hDenseIdeal := hDenseIdeal) (hPre_moe_plan := hPre_moe_plan)
    ∧ quiescent_Inproj (hInproj := hInproj)
    ∧ quiescent_InprojIdeal (hInprojIdeal := hInprojIdeal)
    ∧ quiescent_ProjectionIdeal (hProjectionIdeal := hProjectionIdeal)
    ∧ preserves_Kernel_KernelIdeal
    ∧ algebraic_KernelIdeal_ReferenceIdeal (hKernelIdeal := hKernelIdeal) (hReferenceIdeal := hReferenceIdeal)
    ∧ preserves_Experts_ExpertsIdeal
    ∧ algebraic_ExpertsIdeal_DenseIdeal_on_blocks_used (hExpertsIdeal := hExpertsIdeal) (hDenseIdeal := hDenseIdeal) (hPre_moe_plan := hPre_moe_plan) (hOn_blocks_used := hOn_blocks_used)
    ∧ preserves_Inproj_InprojIdeal
    ∧ algebraic_InprojIdeal_ProjectionIdeal_on_finite_tail (hInprojIdeal := hInprojIdeal) (hProjectionIdeal := hProjectionIdeal) (hOn_finite_tail := hOn_finite_tail)
-- ==== On_blocks_used.lean ====
abbrev S380 : Shape := ⟨1, ![380]⟩
abbrev S1 : Shape := ⟨1, ![1]⟩
abbrev S97280x2432 : Shape := ⟨2, ![97280, 2432]⟩
abbrev S64x2048x512 : Shape := ⟨3, ![64, 2048, 512]⟩
abbrev S64x512x2048 : Shape := ⟨3, ![64, 512, 2048]⟩
abbrev S97280x2048 : Shape := ⟨2, ![97280, 2048]⟩
abbrev S_ : Shape := ⟨0, ![]⟩

class Facts : Prop where
  shapeCasts_S1_S_ : S1.ShapeCasts S_
  bcast_S_S97280x2048 : S_.BroadcastsInDim S97280x2048 (![] : Fin 0 → Fin S97280x2048.rank)

variable [Facts]

def fn {F : FTy → Type} [FloatOps F] (main_arg0 : IVec S380 32) (main_arg1 : IVec S1 32) (main_arg2 : FVec F S97280x2432 .bf16) (main_arg3 : FVec F S64x2048x512 .f32) (main_arg4 : FVec F S64x2048x512 .f32) (main_arg5 : FVec F S64x512x2048 .f32) : IVec S97280x2048 1 :=
  let main_v0 : IVec S97280x2048 32 := iotaInDim S97280x2048 32 0
  let main_v1 : IVec S_ 32 := shapeCast S_ main_arg1 shapeCasts_S1_S_
  let main_c : IVec S_ 32 := constantI S_ 32 256#32
  let main_v2 : IVec S_ 32 := muli main_v1 main_c
  let main_v3 : IVec S97280x2048 32 := broadcastInDim S97280x2048 ![] bcast_S_S97280x2048 main_v2
  let main_v4 : IVec S97280x2048 1 := cmpi .slt main_v0 main_v3
  main_v4
-- ==== On_finite_tail.lean ====
abbrev S2x4096x2048 : Shape := ⟨3, ![2, 4096, 2048]⟩
abbrev S2x1x2048 : Shape := ⟨3, ![2, 1, 2048]⟩
abbrev S2048x6752 : Shape := ⟨2, ![2048, 6752]⟩
abbrev S_ : Shape := ⟨0, ![]⟩
abbrev S8192x6656 : Shape := ⟨2, ![8192, 6656]⟩
abbrev S8192x384 : Shape := ⟨2, ![8192, 384]⟩

class Facts : Prop where
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel
  bcast_S_S2x1x2048 : S_.BroadcastsInDim S2x1x2048 (![] : Fin 0 → Fin S2x1x2048.rank)
  reducesTo_S2x1x2048_S_d0_1_2 : S2x1x2048.ReducesTo [0, 1, 2] S_
  bcast_S_S2048x6752 : S_.BroadcastsInDim S2048x6752 (![] : Fin 0 → Fin S2048x6752.rank)
  reducesTo_S2048x6752_S_d0_1 : S2048x6752.ReducesTo [0, 1] S_
  bcast_S_S8192x6656 : S_.BroadcastsInDim S8192x6656 (![] : Fin 0 → Fin S8192x6656.rank)
  bcast_S_S8192x384 : S_.BroadcastsInDim S8192x384 (![] : Fin 0 → Fin S8192x384.rank)

variable [Facts]

def fn_part1 {F : FTy → Type} [FloatOps F] (main_v13 : IVec S_ 1) (main_v16 : IVec S2048x6752 1) : IVec S8192x6656 1 × IVec S8192x384 1 :=
  let main_c_5 : IVec S_ 1 := constantI S_ 1 1#1
  let main_v17 : IVec S_ 1 := (fun x v => Host.reduce IntOp.andi x v reducesTo_S2048x6752_S_d0_1 h_S_) main_v16 main_c_5
  let main_v18 : IVec S_ 1 := andi main_v13 main_v17
  let main_c_6 : IVec S_ 1 := constantI S_ 1 1#1
  let main_v19 : IVec S8192x6656 1 := broadcastInDim S8192x6656 ![] bcast_S_S8192x6656 main_c_6
  let main_v20 : IVec S8192x384 1 := broadcastInDim S8192x384 ![] bcast_S_S8192x384 main_v18
  (main_v19, main_v20)

def fn {F : FTy → Type} [FloatOps F] (main_arg0 : FVec F S2x4096x2048 .f32) (main_arg1 : FVec F S2x1x2048 .f32) (main_arg2 : FVec F S2x1x2048 .f32) (main_arg3 : FVec F S2048x6752 .f32) : IVec S8192x6656 1 × IVec S8192x384 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_c : IVec S_ 1 := constantI S_ 1 1#1
  let main_v3 : IVec S_ 1 := (fun x v => Host.reduce IntOp.andi x v reducesTo_S2x4096x2048_S_d0_1_2 h_S_) main_v2 main_c
  let main_v4 : FVec F S2x1x2048 .f32 := Host.absf main_arg1
  let main_cst_0 : FVec F S_ .f32 := constant S_ .f32 0x7F800000#32
  let main_v5 : FVec F S2x1x2048 .f32 := broadcastInDim S2x1x2048 ![] bcast_S_S2x1x2048 main_cst_0
  let main_v6 : IVec S2x1x2048 1 := cmpf .olt main_v4 main_v5
  let main_c_1 : IVec S_ 1 := constantI S_ 1 1#1
  let main_v7 : IVec S_ 1 := (fun x v => Host.reduce IntOp.andi x v reducesTo_S2x1x2048_S_d0_1_2 h_S_) main_v6 main_c_1
  let main_v8 : IVec S_ 1 := andi main_v3 main_v7
  let main_v9 : FVec F S2x1x2048 .f32 := Host.absf main_arg2
  let main_cst_2 : FVec F S_ .f32 := constant S_ .f32 0x7F800000#32
  let main_v10 : FVec F S2x1x2048 .f32 := broadcastInDim S2x1x2048 ![] bcast_S_S2x1x2048 main_cst_2
  let main_v11 : IVec S2x1x2048 1 := cmpf .olt main_v9 main_v10
  let main_c_3 : IVec S_ 1 := constantI S_ 1 1#1
  let main_v12 : IVec S_ 1 := (fun x v => Host.reduce IntOp.andi x v reducesTo_S2x1x2048_S_d0_1_2 h_S_) main_v11 main_c_3
  let main_v13 : IVec S_ 1 := andi main_v8 main_v12
  let main_v14 : FVec F S2048x6752 .f32 := Host.absf main_arg3
  let main_cst_4 : FVec F S_ .f32 := constant S_ .f32 0x7F800000#32
  let main_v15 : FVec F S2048x6752 .f32 := broadcastInDim S2048x6752 ![] bcast_S_S2048x6752 main_cst_4
  let main_v16 : IVec S2048x6752 1 := cmpf .olt main_v14 main_v15
  fn_part1 (F := F) main_v13 main_v16
-- ==== Pre_moe_plan.lean ====
abbrev S380 : Shape := ⟨1, ![380]⟩
abbrev S1 : Shape := ⟨1, ![1]⟩
abbrev S97280x2432 : Shape := ⟨2, ![97280, 2432]⟩
abbrev S64x2048x512 : Shape := ⟨3, ![64, 2048, 512]⟩
abbrev S64x512x2048 : Shape := ⟨3, ![64, 512, 2048]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S380 : S_.BroadcastsInDim S380 (![] : Fin 0 → Fin S380.rank)
  reducesTo_S380_S_d0 : S380.ReducesTo [0] S_

variable [Facts]

def fn {F : FTy → Type} [FloatOps F] (main_arg0 : IVec S380 32) (main_arg1 : IVec S1 32) (main_arg2 : FVec F S97280x2432 .bf16) (main_arg3 : FVec F S64x2048x512 .f32) (main_arg4 : FVec F S64x2048x512 .f32) (main_arg5 : FVec F S64x512x2048 .f32) : IVec S_ 1 :=
  let main_c : IVec S_ 32 := constantI S_ 32 1#32
  let main_v0 : IVec S1 32 := broadcastInDim S1 ![] bcast_S_S1 main_c
  let main_v1 : IVec S1 1 := cmpi .sge main_arg1 main_v0
  let main_c_0 : IVec S_ 32 := constantI S_ 32 380#32
  let main_v2 : IVec S1 32 := broadcastInDim S1 ![] bcast_S_S1 main_c_0
  let main_v3 : IVec S1 1 := cmpi .sle main_arg1 main_v2
  let main_v4 : IVec S1 1 := andi main_v1 main_v3
  let main_c_1 : IVec S_ 1 := constantI S_ 1 1#1
  let main_v5 : IVec S_ 1 := (fun x v => Host.reduce IntOp.andi x v reducesTo_S1_S_d0 h_S_) main_v4 main_c_1
  let main_c_2 : IVec S_ 32 := constantI S_ 32 0#32
  let main_v6 : IVec S380 32 := broadcastInDim S380 ![] bcast_S_S380 main_c_2
  let main_v7 : IVec S380 1 := cmpi .sge main_arg0 main_v6
  let main_c_3 : IVec S_ 32 := constantI S_ 32 64#32
  let main_v8 : IVec S380 32 := broadcastInDim S380 ![] bcast_S_S380 main_c_3
  let main_v9 : IVec S380 1 := cmpi .slt main_arg0 main_v8
  let main_v10 : IVec S380 1 := andi main_v7 main_v9
  let main_c_4 : IVec S_ 1 := constantI S_ 1 1#1
  let main_v11 : IVec S_ 1 := (fun x v => Host.reduce IntOp.andi x v reducesTo_S380_S_d0 h_S_) main_v10 main_c_4
  let main_v12 : IVec S_ 1 := andi main_v5 main_v11
  main_v12
-- ==== Kernel.lean ====
abbrev S2x4096x6752 : Shape := ⟨3, ![2, 4096, 6752]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S8192x6752 : Shape := ⟨2, ![8192, 6752]⟩
abbrev S8192x2048 : Shape := ⟨2, ![8192, 2048]⟩
abbrev S8192x4096 : Shape := ⟨2, ![8192, 4096]⟩
abbrev S8192x512 : Shape := ⟨2, ![8192, 512]⟩
abbrev S8192x6656 : Shape := ⟨2, ![8192, 6656]⟩
abbrev S8192x16 : Shape := ⟨2, ![8192, 16]⟩
abbrev S_ : Shape := ⟨0, ![]⟩
abbrev S8192x128 : Shape := ⟨2, ![8192, 128]⟩
abbrev S8192x64 : Shape := ⟨2, ![8192, 64]⟩
abbrev S8192x384 : Shape := ⟨2, ![8192, 384]⟩
abbrev S4x1024 : Shape := ⟨2, ![4, 1024]⟩
abbrev S4x512 : Shape := ⟨2, ![4, 512]⟩
abbrev S1x1024 : Shape := ⟨2, ![1, 1024]⟩
abbrev S512 : Shape := ⟨1, ![512]⟩
abbrev S1x512 : Shape := ⟨2, ![1, 512]⟩
abbrev S128x1024 : Shape := ⟨2, ![128, 1024]⟩
abbrev S128x2048 : Shape := ⟨2, ![128, 2048]⟩
abbrev S128x128 : Shape := ⟨2, ![128, 128]⟩
abbrev S128 : Shape := ⟨1, ![128]⟩
abbrev S1x128 : Shape := ⟨2, ![1, 128]⟩
abbrev S16x64 : Shape := ⟨2, ![16, 64]⟩
abbrev S8192x1024 : Shape := ⟨2, ![8192, 1024]⟩
abbrev S128x512 : Shape := ⟨2, ![128, 512]⟩
abbrev S136x1024 : Shape := ⟨2, ![136, 1024]⟩
abbrev S136x512 : Shape := ⟨2, ![136, 512]⟩
abbrev S8x1024 : Shape := ⟨2, ![8, 1024]⟩
abbrev S8x512 : Shape := ⟨2, ![8, 512]⟩
abbrev S128x1 : Shape := ⟨2, ![128, 1]⟩

abbrev nBuf : Space → Nat
  | .hbm => 74
  | .vmem => 24
  | .smem => 0
  | _ => 0

abbrev bufTy : (tb : Table) → Fin (tcTables nBuf tb) → BufTy
  | .hbm, ⟨0, _⟩ => ⟨S2x4096x6752, .f32⟩
  | .hbm, ⟨1, _⟩ => ⟨S4x1536, .f32⟩
  | .hbm, ⟨2, _⟩ => ⟨S1536, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S1024, .f32⟩
  | .hbm, ⟨7, _⟩ => ⟨S8192x6752, .f32⟩
  | .hbm, ⟨8, _⟩ => ⟨S8192x2048, .f32⟩
  | .hbm, ⟨9, _⟩ => ⟨S8192x4096, .f32⟩
  | .hbm, ⟨10, _⟩ => ⟨S8192x512, .f32⟩
  | .hbm, ⟨11, _⟩ => ⟨S8192x6656, .f32⟩
  | .hbm, ⟨12, _⟩ => ⟨S8192x16, .f32⟩
  | .hbm, ⟨13, _⟩ => ⟨S_, .i32⟩
  | .hbm, ⟨14, _⟩ => ⟨S_, .f32⟩
  | .hbm, ⟨15, _⟩ => ⟨S8192x128, .f32⟩
  | .hbm, ⟨16, _⟩ => ⟨S8192x64, .f32⟩
  | .hbm, ⟨17, _⟩ => ⟨S_, .i32⟩
  | .hbm, ⟨18, _⟩ => ⟨S_, .f32⟩
  | .hbm, ⟨19, _⟩ => ⟨S8192x128, .f32⟩
  | .hbm, ⟨20, _⟩ => ⟨S8192x16, .f32⟩
  | .hbm, ⟨21, _⟩ => ⟨S_, .i32⟩
  | .hbm, ⟨22, _⟩ => ⟨S_, .f32⟩
  | .hbm, ⟨23, _⟩ => ⟨S8192x128, .f32⟩
  | .hbm, ⟨24, _⟩ => ⟨S8192x384, .f32⟩
  | .hbm, ⟨25, _⟩ => ⟨S4x1024, .f32⟩
  | .hbm, ⟨26, _⟩ => ⟨S4x512, .f32⟩
  | .hbm, ⟨27, _⟩ => ⟨S1024, .f32⟩
  | .hbm, ⟨28, _⟩ => ⟨S1x1024, .f32⟩
  | .hbm, ⟨29, _⟩ => ⟨S512, .f32⟩
  | .hbm, ⟨30, _⟩ => ⟨S1x512, .f32⟩
  | .hbm, ⟨31, _⟩ => ⟨S128x1024, .i32⟩
  | .hbm, ⟨32, _⟩ => ⟨S128x1024, .i32⟩
  | .hbm, ⟨33, _⟩ => ⟨S_, .i32⟩
  | .hbm, ⟨34, _⟩ => ⟨S128x1024, .i32⟩
  | .hbm, ⟨35, _⟩ => ⟨S128x1024, .i32⟩
  | .hbm, ⟨36, _⟩ => ⟨S128x1024, .i1⟩
  | .hbm, ⟨37, _⟩ => ⟨S_, .f32⟩
  | .hbm, ⟨38, _⟩ => ⟨S_, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S128x2048, .i32⟩
  | .hbm, ⟨43, _⟩ => ⟨S128x2048, .i32⟩
  | .hbm, ⟨44, _⟩ => ⟨S_, .i32⟩
  | .hbm, ⟨45, _⟩ => ⟨S128x2048, .i32⟩
  | .hbm, ⟨46, _⟩ => ⟨S128x2048, .i32⟩
  | .hbm, ⟨47, _⟩ => ⟨S128x2048, .i1⟩
  | .hbm, ⟨48, _⟩ => ⟨S_, .f32⟩
  | .hbm, ⟨49, _⟩ => ⟨S_, .f32⟩
  | .hbm, ⟨50, _⟩ => ⟨S128x2048, .f32⟩
  | .hbm, ⟨51, _⟩ => ⟨S128x2048, .f32⟩
  | .hbm, ⟨52, _⟩ => ⟨S128x2048, .f32⟩
  | .hbm, ⟨53, _⟩ => ⟨S128x128, .i32⟩
  | .hbm, ⟨54, _⟩ => ⟨S128x128, .i32⟩
  | .hbm, ⟨55, _⟩ => ⟨S128x128, .i1⟩
  | .hbm, ⟨56, _⟩ => ⟨S_, .f32⟩
  | .hbm, ⟨57, _⟩ => ⟨S_, .f32⟩
  | .hbm, ⟨58, _⟩ => ⟨S128x128, .f32⟩
  | .hbm, ⟨59, _⟩ => ⟨S128x128, .f32⟩
  | .hbm, ⟨60, _⟩ => ⟨S128x128, .f32⟩
  | .hbm, ⟨61, _⟩ => ⟨S_, .i32⟩
  | .hbm, ⟨62, _⟩ => ⟨S_, .f32⟩
  | .hbm, ⟨63, _⟩ => ⟨S128, .f32⟩
  | .hbm, ⟨64, _⟩ => ⟨S1x128, .f32⟩
  | .hbm, ⟨65, _⟩ => ⟨S_, .i32⟩
  | .hbm, ⟨66, _⟩ => ⟨S_, .f32⟩
  | .hbm, ⟨67, _⟩ => ⟨S128, .f32⟩
  | .hbm, ⟨68, _⟩ => ⟨S1x128, .f32⟩
  | .hbm, ⟨69, _⟩ => ⟨S16x64, .f32⟩
  | .hbm, ⟨70, _⟩ => ⟨S1024, .f32⟩
  | .hbm, ⟨71, _⟩ => ⟨S1x1024, .f32⟩
  | .hbm, ⟨72, _⟩ => ⟨S1x1024, .f32⟩
  | .hbm, ⟨73, _⟩ => ⟨S8192x1024, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x512, .f32⟩
  | .local _ .vmem, ⟨5, _⟩ => ⟨S128x512, .f32⟩
  | .local _ .vmem, ⟨6, _⟩ => ⟨S128x128, .f32⟩
  | .local _ .vmem, ⟨7, _⟩ => ⟨S128x128, .f32⟩
  | .local _ .vmem, ⟨8, _⟩ => ⟨S4x1024, .f32⟩
  | .local _ .vmem, ⟨9, _⟩ => ⟨S1x1024, .f32⟩
  | .local _ .vmem, ⟨10, _⟩ => ⟨S4x512, .f32⟩
  | .local _ .vmem, ⟨11, _⟩ => ⟨S1x512, .f32⟩
  | .local _ .vmem, ⟨12, _⟩ => ⟨S1x128, .f32⟩
  | .local _ .vmem, ⟨13, _⟩ => ⟨S1x128, .f32⟩
  | .local _ .vmem, ⟨14, _⟩ => ⟨S1x1024, .f32⟩
  | .local _ .vmem, ⟨15, _⟩ => ⟨S1x1024, .f32⟩
  | .local _ .vmem, ⟨16, _⟩ => ⟨S128x1024, .f32⟩
  | .local _ .vmem, ⟨17, _⟩ => ⟨S128x2048, .f32⟩
  | .local _ .vmem, ⟨18, _⟩ => ⟨S128x128, .f32⟩
  | .local _ .vmem, ⟨19, _⟩ => ⟨S128x1024, .bf16⟩
  | .local _ .vmem, ⟨20, _⟩ => ⟨S128x1024, .bf16⟩
  | .local _ .vmem, ⟨21, _⟩ => ⟨S136x1024, .f32⟩
  | .local _ .vmem, ⟨22, _⟩ => ⟨S136x512, .f32⟩
  | .local _ .vmem, ⟨23, _⟩ => ⟨S128x1024, .f32⟩
  | _, _ => ⟨S2x4096x6752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_call2_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_cst_3 : Ref sig .tc := ⟨.hbm, 38, rfl⟩
abbrev main_call3_v0 : Ref sig .tc := ⟨.hbm, 39, rfl⟩
abbrev main_call3_v1 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_cst_6 : Ref sig .tc := ⟨.hbm, 49, rfl⟩
abbrev main_call4_v0 : Ref sig .tc := ⟨.hbm, 50, rfl⟩
abbrev main_call4_v1 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_7 : Ref sig .tc := ⟨.hbm, 56, rfl⟩
abbrev main_cst_8 : Ref sig .tc := ⟨.hbm, 57, rfl⟩
abbrev main_call5_v0 : Ref sig .tc := ⟨.hbm, 58, rfl⟩
abbrev main_call5_v1 : Ref sig .tc := ⟨.hbm, 59, rfl⟩
abbrev main_v33 : Ref sig .tc := ⟨.hbm, 60, rfl⟩
abbrev main_c_9 : Ref sig .tc := ⟨.hbm, 61, rfl⟩
abbrev main_call6_v0 : Ref sig .tc := ⟨.hbm, 62, rfl⟩
abbrev main_v34 : Ref sig .tc := ⟨.hbm, 63, rfl⟩
abbrev main_v35 : Ref sig .tc := ⟨.hbm, 64, rfl⟩
abbrev main_c_10 : Ref sig .tc := ⟨.hbm, 65, rfl⟩
abbrev main_call7_v0 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c12_i32 : BitVec 32 := 12#32
  let c0_i32 : BitVec 32 := 0#32
  ![v1.toNat, c12_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S128x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ReferenceIdeal.lean ====
abbrev S2x4096x6752 : Shape := ⟨3, ![2, 4096, 6752]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S2x4096x1024 : Shape := ⟨3, ![2, 4096, 1024]⟩
abbrev S2x4096x1536 : Shape := ⟨3, ![2, 4096, 1536]⟩
abbrev S2x4096x16 : Shape := ⟨3, ![2, 4096, 16]⟩
abbrev S_ : Shape := ⟨0, ![]⟩
abbrev S2x4099x1536 : Shape := ⟨3, ![2, 4099, 1536]⟩
abbrev S1x1536 : Shape := ⟨2, ![1, 1536]⟩
abbrev S1x1x1536 : Shape := ⟨3, ![1, 1, 1536]⟩
abbrev S2x4096x256 : Shape := ⟨3, ![2, 4096, 256]⟩
abbrev S2x4096x16x64 : Shape := ⟨4, ![2, 4096, 16, 64]⟩
abbrev S1x1x16 : Shape := ⟨3, ![1, 1, 16]⟩
abbrev S2x4096x2x128 : Shape := ⟨4, ![2, 4096, 2, 128]⟩
abbrev S2x32x128x2x8x64 : Shape := ⟨6, ![2, 32, 128, 2, 8, 64]⟩
abbrev S2x32x128x2x8 : Shape := ⟨5, ![2, 32, 128, 2, 8]⟩
abbrev S2x32x128x2x8x1 : Shape := ⟨6, ![2, 32, 128, 2, 8, 1]⟩
abbrev S2x32x128x2x128 : Shape := ⟨5, ![2, 32, 128, 2, 128]⟩
abbrev S2x8 : Shape := ⟨2, ![2, 8]⟩
abbrev S1x1x1x2x8 : Shape := ⟨5, ![1, 1, 1, 2, 8]⟩
abbrev S128x128 : Shape := ⟨2, ![128, 128]⟩
abbrev S128x128x1x1 : Shape := ⟨4, ![128, 128, 1, 1]⟩
abbrev S2x32x128x1x2x8 : Shape := ⟨6, ![2, 32, 128, 1, 2, 8]⟩
abbrev S2x32x1x128x2x8 : Shape := ⟨6, ![2, 32, 1, 128, 2, 8]⟩
abbrev S2x32x128x128x2x8 : Shape := ⟨6, ![2, 32, 128, 128, 2, 8]⟩
abbrev S2x32x2x128x128 : Shape := ⟨5, ![2, 32, 2, 128, 128]⟩
abbrev S2x32x128x128x2 : Shape := ⟨5, ![2, 32, 128, 128, 2]⟩
abbrev S2x32x128x128x2x1 : Shape := ⟨6, ![2, 32, 128, 128, 2, 1]⟩
abbrev S2x32x2x8x64x128 : Shape := ⟨6, ![2, 32, 2, 8, 64, 128]⟩
abbrev S2x32x1x2x8 : Shape := ⟨5, ![2, 32, 1, 2, 8]⟩
abbrev S2x32x2x8 : Shape := ⟨4, ![2, 32, 2, 8]⟩
abbrev S2x2x8x64x128 : Shape := ⟨5, ![2, 2, 8, 64, 128]⟩
abbrev S32x2x2x8x64x128 : Shape := ⟨6, ![32, 2, 2, 8, 64, 128]⟩
abbrev S32x2x2x8 : Shape := ⟨4, ![32, 2, 2, 8]⟩
abbrev S1x2x2x8x64x128 : Shape := ⟨6, ![1, 2, 2, 8, 64, 128]⟩
abbrev S1x2x2x8 : Shape := ⟨4, ![1, 2, 2, 8]⟩
abbrev S2x2x8 : Shape := ⟨3, ![2, 2, 8]⟩
abbrev S2x2x8x1x1 : Shape := ⟨5, ![2, 2, 8, 1, 1]⟩
abbrev S16x1 : Shape := ⟨2, ![16, 1]⟩
abbrev S1x1x16x1 : Shape := ⟨4, ![1, 1, 16, 1]⟩
abbrev S2x4096 : Shape := ⟨2, ![2, 4096]⟩
abbrev S2x4096x1 : Shape := ⟨3, ![2, 4096, 1]⟩
abbrev S1x1x1024 : Shape := ⟨3, ![1, 1, 1024]⟩
abbrev S8192x1024 : Shape := ⟨2, ![8192, 1024]⟩

abbrev nBuf : Space → Nat
  | .hbm => 217
  | .vmem => 0
  | .smem => 0
  | _ => 0

abbrev hbmTy0_0 (i : Nat) : BufTy := match i % 128 with
  | 0 => ⟨S2x4096x6752, .f32⟩
  | 1 => ⟨S4x1536, .f32⟩
  | 2 => ⟨S1536, .f32⟩
  | 3 => ⟨S16, .f32⟩
  | 4 => ⟨S16, .f32⟩
  | 5 => ⟨S16, .f32⟩
  | 6 => ⟨S1024, .f32⟩
  | 7 => ⟨S2x4096x1024, .f32⟩
  | 8 => ⟨S2x4096x1536, .f32⟩
  | 9 => ⟨S2x4096x16, .f32⟩
  | 10 => ⟨S_, .i32⟩
  | 11 => ⟨S_, .f32⟩
  | 12 => ⟨S2x4099x1536, .f32⟩
  | 13 => ⟨S2x4096x1536, .f32⟩
  | 14 => ⟨S1x1536, .f32⟩
  | 15 => ⟨S1536, .f32⟩
  | 16 => ⟨S1x1x1536, .f32⟩
  | 17 => ⟨S2x4096x1536, .f32⟩
  | 18 => ⟨S2x4096x1536, .f32⟩
  | 19 => ⟨S_, .f32⟩
  | 20 => ⟨S2x4096x1536, .f32⟩
  | 21 => ⟨S2x4096x1536, .f32⟩
  | 22 => ⟨S2x4096x1536, .f32⟩
  | 23 => ⟨S1x1536, .f32⟩
  | 24 => ⟨S1536, .f32⟩
  | 25 => ⟨S1x1x1536, .f32⟩
  | 26 => ⟨S2x4096x1536, .f32⟩
  | 27 => ⟨S2x4096x1536, .f32⟩
  | 28 => ⟨S2x4096x1536, .f32⟩
  | 29 => ⟨S2x4096x1536, .f32⟩
  | 30 => ⟨S1x1536, .f32⟩
  | 31 => ⟨S1536, .f32⟩
  | 32 => ⟨S1x1x1536, .f32⟩
  | 33 => ⟨S2x4096x1536, .f32⟩
  | 34 => ⟨S2x4096x1536, .f32⟩
  | 35 => ⟨S2x4096x1536, .f32⟩
  | 36 => ⟨S2x4096x1536, .f32⟩
  | 37 => ⟨S1x1536, .f32⟩
  | 38 => ⟨S1536, .f32⟩
  | 39 => ⟨S1x1x1536, .f32⟩
  | 40 => ⟨S2x4096x1536, .f32⟩
  | 41 => ⟨S2x4096x1536, .f32⟩
  | 42 => ⟨S2x4096x1536, .f32⟩
  | 43 => ⟨S1x1x1536, .f32⟩
  | 44 => ⟨S2x4096x1536, .f32⟩
  | 45 => ⟨S2x4096x1536, .f32⟩
  | 46 => ⟨S2x4096x1536, .f32⟩
  | 47 => ⟨S2x4096x1536, .f32⟩
  | 48 => ⟨S_, .f32⟩
  | 49 => ⟨S2x4096x1536, .f32⟩
  | 50 => ⟨S2x4096x1536, .f32⟩
  | 51 => ⟨S_, .f32⟩
  | 52 => ⟨S2x4096x1536, .f32⟩
  | 53 => ⟨S2x4096x1536, .f32⟩
  | 54 => ⟨S2x4096x1536, .f32⟩
  | 55 => ⟨S2x4096x1024, .f32⟩
  | 56 => ⟨S2x4096x256, .f32⟩
  | 57 => ⟨S2x4096x256, .f32⟩
  | 58 => ⟨S2x4096x16x64, .f32⟩
  | 59 => ⟨S1x1x16, .f32⟩
  | 60 => ⟨S2x4096x16, .f32⟩
  | 61 => ⟨S2x4096x16, .f32⟩
  | 62 => ⟨S_, .f32⟩
  | 63 => ⟨S2x4096x16, .f32⟩
  | 64 => ⟨S2x4096x16, .f32⟩
  | 65 => ⟨S2x4096x16, .f32⟩
  | 66 => ⟨S2x4096x16, .f32⟩
  | 67 => ⟨S2x4096x16, .i1⟩
  | 68 => ⟨S2x4096x16, .f32⟩
  | 69 => ⟨S2x4096x16, .f32⟩
  | 70 => ⟨S2x4096x16, .f32⟩
  | 71 => ⟨S2x4096x16, .f32⟩
  | 72 => ⟨S2x4096x16, .f32⟩
  | 73 => ⟨S2x4096x16, .f32⟩
  | 74 => ⟨S2x4096x16, .f32⟩
  | 75 => ⟨S2x4096x16, .f32⟩
  | 76 => ⟨S16, .f32⟩
  | 77 => ⟨S16, .f32⟩
  | 78 => ⟨S2x4096x2x128, .f32⟩
  | 79 => ⟨S2x4096x2x128, .f32⟩
  | 80 => ⟨S2x32x128x2x8x64, .f32⟩
  | 81 => ⟨S2x32x128x2x8, .f32⟩
  | 82 => ⟨S2x32x128x2x8x1, .f32⟩
  | 83 => ⟨S2x32x128x2x8x64, .f32⟩
  | 84 => ⟨S2x32x128x2x8x64, .f32⟩
  | 85 => ⟨S2x32x128x2x128, .f32⟩
  | 86 => ⟨S2x32x128x2x128, .f32⟩
  | 87 => ⟨S2x8, .f32⟩
  | 88 => ⟨S1x1x1x2x8, .f32⟩
  | 89 => ⟨S2x32x128x2x8, .f32⟩
  | 90 => ⟨S2x32x128x2x8, .f32⟩
  | 91 => ⟨S_, .f32⟩
  | 92 => ⟨S_, .f32⟩
  | 93 => ⟨S2x32x128x2x8, .f32⟩
  | 94 => ⟨S_, .i1⟩
  | 95 => ⟨S128x128, .i1⟩
  | 96 => ⟨S128x128, .i32⟩
  | 97 => ⟨S_, .i32⟩
  | 98 => ⟨S128x128, .i32⟩
  | 99 => ⟨S128x128, .i32⟩
  | 100 => ⟨S128x128, .i32⟩
  | 101 => ⟨S128x128, .i1⟩
  | 102 => ⟨S_, .i1⟩
  | 103 => ⟨S128x128, .i1⟩
  | 104 => ⟨S128x128, .i1⟩
  | 105 => ⟨S128x128x1x1, .i1⟩
  | 106 => ⟨S2x32x128x1x2x8, .f32⟩
  | 107 => ⟨S2x32x1x128x2x8, .f32⟩
  | 108 => ⟨S2x32x128x128x2x8, .f32⟩
  | 109 => ⟨S2x32x128x128x2x8, .f32⟩
  | 110 => ⟨S2x32x128x128x2x8, .f32⟩
  | 111 => ⟨S_, .f32⟩
  | 112 => ⟨S_, .f32⟩
  | 113 => ⟨S2x32x128x128x2x8, .i1⟩
  | 114 => ⟨S2x32x128x128x2x8, .f32⟩
  | 115 => ⟨S2x32x128x128x2x8, .f32⟩
  | 116 => ⟨S2x32x128x128x2x8, .f32⟩
  | 117 => ⟨S2x32x2x128x128, .f32⟩
  | 118 => ⟨S2x32x128x128x2, .f32⟩
  | 119 => ⟨S2x32x128x128x2x1, .f32⟩
  | 120 => ⟨S2x32x128x128x2x8, .f32⟩
  | 121 => ⟨S2x32x128x128x2x8, .f32⟩
  | 122 => ⟨S2x32x2x8x64x128, .f32⟩
  | 123 => ⟨S2x32x128x2x8x64, .f32⟩
  | 124 => ⟨S2x32x1x2x8, .f32⟩
  | 125 => ⟨S2x32x128x2x8, .f32⟩
  | 126 => ⟨S2x32x128x2x8, .f32⟩
  | 127 => ⟨S2x32x128x2x8, .f32⟩
  | _ => ⟨S2x4096x6752, .f32⟩

abbrev hbmTy0_1 (i : Nat) : BufTy := match i % 128 with
  | 0 => ⟨S2x32x128x2x8x1, .f32⟩
  | 1 => ⟨S2x32x128x2x8x64, .f32⟩
  | 2 => ⟨S2x32x128x2x8x64, .f32⟩
  | 3 => ⟨S2x32x2x8x64x128, .f32⟩
  | 4 => ⟨S2x32x1x2x8, .f32⟩
  | 5 => ⟨S2x32x2x8, .f32⟩
  | 6 => ⟨S2x32x2x8, .f32⟩
  | 7 => ⟨S_, .f32⟩
  | 8 => ⟨S2x2x8x64x128, .f32⟩
  | 9 => ⟨S32x2x2x8x64x128, .f32⟩
  | 10 => ⟨S32x2x2x8, .f32⟩
  | 11 => ⟨S_, .f32⟩
  | 12 => ⟨S32x2x2x8x64x128, .f32⟩
  | 13 => ⟨S_, .i32⟩
  | 14 => ⟨S32x2x2x8x64x128, .f32⟩
  | 15 => ⟨S32x2x2x8, .f32⟩
  | 16 => ⟨S_, .i32⟩
  | 17 => ⟨S2x2x8x64x128, .f32⟩
  | 18 => ⟨S32x2x2x8x64x128, .f32⟩
  | 19 => ⟨S_, .i32⟩
  | 20 => ⟨S_, .i1⟩
  | 21 => ⟨S_, .i32⟩
  | 22 => ⟨S_, .i32⟩
  | 23 => ⟨S_, .i32⟩
  | 24 => ⟨S_, .i32⟩
  | 25 => ⟨S_, .i32⟩
  | 26 => ⟨S1x2x2x8x64x128, .f32⟩
  | 27 => ⟨S2x2x8x64x128, .f32⟩
  | 28 => ⟨S_, .i32⟩
  | 29 => ⟨S_, .i32⟩
  | 30 => ⟨S_, .i32⟩
  | 31 => ⟨S1x2x2x8, .f32⟩
  | 32 => ⟨S2x2x8, .f32⟩
  | 33 => ⟨S2x2x8x1x1, .f32⟩
  | 34 => ⟨S2x2x8x64x128, .f32⟩
  | 35 => ⟨S2x2x8x64x128, .f32⟩
  | 36 => ⟨S2x2x8x64x128, .f32⟩
  | 37 => ⟨S1x2x2x8x64x128, .f32⟩
  | 38 => ⟨S_, .i32⟩
  | 39 => ⟨S_, .i32⟩
  | 40 => ⟨S_, .i32⟩
  | 41 => ⟨S_, .i32⟩
  | 42 => ⟨S_, .i32⟩
  | 43 => ⟨S32x2x2x8x64x128, .f32⟩
  | 44 => ⟨S_, .i32⟩
  | 45 => ⟨S_, .i32⟩
  | 46 => ⟨S2x32x2x8x64x128, .f32⟩
  | 47 => ⟨S2x32x2x8x64x128, .f32⟩
  | 48 => ⟨S2x32x128x2x8x64, .f32⟩
  | 49 => ⟨S2x32x128x2x8, .f32⟩
  | 50 => ⟨S2x32x128x2x8x1, .f32⟩
  | 51 => ⟨S2x32x128x2x8x64, .f32⟩
  | 52 => ⟨S2x32x128x2x8x64, .f32⟩
  | 53 => ⟨S2x32x128x2x8x64, .f32⟩
  | 54 => ⟨S2x4096x16x64, .f32⟩
  | 55 => ⟨S16x1, .f32⟩
  | 56 => ⟨S1x1x16x1, .f32⟩
  | 57 => ⟨S2x4096x16x64, .f32⟩
  | 58 => ⟨S2x4096x16x64, .f32⟩
  | 59 => ⟨S2x4096x16x64, .f32⟩
  | 60 => ⟨S2x4096x1024, .f32⟩
  | 61 => ⟨S2x4096x1024, .f32⟩
  | 62 => ⟨S2x4096x1024, .f32⟩
  | 63 => ⟨S_, .f32⟩
  | 64 => ⟨S2x4096x1024, .f32⟩
  | 65 => ⟨S2x4096x1024, .f32⟩
  | 66 => ⟨S_, .f32⟩
  | 67 => ⟨S2x4096x1024, .f32⟩
  | 68 => ⟨S2x4096x1024, .f32⟩
  | 69 => ⟨S2x4096x1024, .f32⟩
  | 70 => ⟨S2x4096x1024, .f32⟩
  | 71 => ⟨S2x4096x1024, .f32⟩
  | 72 => ⟨S_, .f32⟩
  | 73 => ⟨S2x4096, .f32⟩
  | 74 => ⟨S2x4096x1, .f32⟩
  | 75 => ⟨S_, .f32⟩
  | 76 => ⟨S2x4096x1, .f32⟩
  | 77 => ⟨S2x4096x1, .f32⟩
  | 78 => ⟨S_, .f32⟩
  | 79 => ⟨S2x4096x1, .f32⟩
  | 80 => ⟨S2x4096x1, .f32⟩
  | 81 => ⟨S2x4096x1, .f32⟩
  | 82 => ⟨S2x4096x1024, .f32⟩
  | 83 => ⟨S2x4096x1024, .f32⟩
  | 84 => ⟨S1x1x1024, .f32⟩
  | 85 => ⟨S2x4096x1024, .f32⟩
  | 86 => ⟨S2x4096x1024, .f32⟩
  | 87 => ⟨S8192x1024, .f32⟩
  | 88 => ⟨S8192x1024, .bf16⟩
  | _ => ⟨S2x4096x6752, .f32⟩

abbrev hbmTy (i : Nat) : BufTy := match i / 128 with
  | 0 => hbmTy0_0 i
  | 1 => hbmTy0_1 i
  | _ => ⟨S2x4096x6752, .f32⟩

abbrev bufTy : (tb : Table) → Fin (tcTables nBuf tb) → BufTy
  | .hbm, ⟨i, _⟩ => hbmTy i
  | _, _ => ⟨S2x4096x6752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call2_cst : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_call3_call0_cst : Ref sig .tc := ⟨.hbm, 91, rfl⟩
abbrev main_call3_call0_v0 : Ref sig .tc := ⟨.hbm, 92, rfl⟩
abbrev main_v60 : Ref sig .tc := ⟨.hbm, 93, rfl⟩
abbrev main_c_0 : Ref sig .tc := ⟨.hbm, 94, rfl⟩
abbrev main_v61 : Ref sig .tc := ⟨.hbm, 95, rfl⟩
abbrev main_call4_v0 : Ref sig .tc := ⟨.hbm, 96, rfl⟩
abbrev main_call4_c : Ref sig .tc := ⟨.hbm, 97, rfl⟩
abbrev main_call4_v1 : Ref sig .tc := ⟨.hbm, 98, rfl⟩
abbrev main_call4_v2 : Ref sig .tc := ⟨.hbm, 99, rfl⟩
abbrev main_call4_v3 : Ref sig .tc := ⟨.hbm, 100, rfl⟩
abbrev main_call4_v4 : Ref sig .tc := ⟨.hbm, 101, rfl⟩
abbrev main_call4_c_0 : Ref sig .tc := ⟨.hbm, 102, rfl⟩
abbrev main_call4_v5 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_cst_1 : Ref sig .tc := ⟨.hbm, 111, rfl⟩
abbrev main_call5_v0 : Ref sig .tc := ⟨.hbm, 112, rfl⟩
abbrev main_call5_v1 : Ref sig .tc := ⟨.hbm, 113, rfl⟩
abbrev main_call5_v2 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_cst_2 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_cst_3 : Ref sig .tc := ⟨.hbm, 139, rfl⟩
abbrev main_v92 : Ref sig .tc := ⟨.hbm, 140, rfl⟩
abbrev main_c_4 : Ref sig .tc := ⟨.hbm, 141, rfl⟩
abbrev main_v93_0 : Ref sig .tc := ⟨.hbm, 142, rfl⟩
abbrev main_v93_1 : Ref sig .tc := ⟨.hbm, 143, rfl⟩
abbrev main_v93_2 : Ref sig .tc := ⟨.hbm, 144, rfl⟩
abbrev main_v93_3 : Ref sig .tc := ⟨.hbm, 145, rfl⟩
abbrev main_v93_4 : Ref sig .tc := ⟨.hbm, 146, rfl⟩
abbrev main_while0c_c_12 : Ref sig .tc := ⟨.hbm, 147, rfl⟩
abbrev main_while0c_v126 : Ref sig .tc := ⟨.hbm, 148, rfl⟩
abbrev main_while0b_call6_c : Ref sig .tc := ⟨.hbm, 149, rfl⟩
abbrev main_while0b_call6_c_0 : Ref sig .tc := ⟨.hbm, 150, rfl⟩
abbrev main_while0b_call6_c_1 : Ref sig .tc := ⟨.hbm, 151, rfl⟩
abbrev main_while0b_call6_c_2 : Ref sig .tc := ⟨.hbm, 152, rfl⟩
abbrev main_while0b_call6_c_3 : Ref sig .tc := ⟨.hbm, 153, rfl⟩
abbrev main_while0b_call6_v0 : Ref sig .tc := ⟨.hbm, 154, rfl⟩
abbrev main_while0b_v126 : Ref sig .tc := ⟨.hbm, 155, rfl⟩
abbrev main_while0b_call7_c : Ref sig .tc := ⟨.hbm, 156, rfl⟩
abbrev main_while0b_call7_c_0 : Ref sig .tc := ⟨.hbm, 157, rfl⟩
abbrev main_while0b_call7_c_1 : Ref sig .tc := ⟨.hbm, 158, rfl⟩
abbrev main_while0b_call7_v0 : Ref sig .tc := ⟨.hbm, 159, rfl⟩
abbrev main_while0b_v127 : Ref sig .tc := ⟨.hbm, 160, rfl⟩
abbrev main_while0b_v128 : Ref sig .tc := ⟨.hbm, 161, rfl⟩
abbrev main_while0b_v129 : Ref sig .tc := ⟨.hbm, 162, rfl⟩
abbrev main_while0b_v130 : Ref sig .tc := ⟨.hbm, 163, rfl⟩
abbrev main_while0b_v131 : Ref sig .tc := ⟨.hbm, 164, rfl⟩
abbrev main_while0b_call8_v0 : Ref sig .tc := ⟨.hbm, 165, rfl⟩
abbrev main_while0b_call8_c : Ref sig .tc := ⟨.hbm, 166, rfl⟩
abbrev main_while0b_call8_c_0 : Ref sig .tc := ⟨.hbm, 167, rfl⟩
abbrev main_while0b_call8_c_1 : Ref sig .tc := ⟨.hbm, 168, rfl⟩
abbrev main_while0b_call8_c_2 : Ref sig .tc := ⟨.hbm, 169, rfl⟩
abbrev main_while0b_call8_c_3 : Ref sig .tc := ⟨.hbm, 170, rfl⟩
abbrev main_while0b_v132 : Ref sig .tc := ⟨.hbm, 171, rfl⟩
abbrev main_while0b_c_12 : Ref sig .tc := ⟨.hbm, 172, rfl⟩
abbrev main_while0b_v133 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_call9_v0 : Ref sig .tc := ⟨.hbm, 189, rfl⟩
abbrev main_call9_v1 : Ref sig .tc := ⟨.hbm, 190, rfl⟩
abbrev main_call9_cst : Ref sig .tc := ⟨.hbm, 191, rfl⟩
abbrev main_call9_v2 : Ref sig .tc := ⟨.hbm, 192, rfl⟩
abbrev main_call9_v3 : Ref sig .tc := ⟨.hbm, 193, rfl⟩
abbrev main_call9_cst_0 : Ref sig .tc := ⟨.hbm, 194, rfl⟩
abbrev main_call9_v4 : Ref sig .tc := ⟨.hbm, 195, rfl⟩
abbrev main_call9_v5 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_cst_5 : Ref sig .tc := ⟨.hbm, 200, rfl⟩
abbrev main_v112 : Ref sig .tc := ⟨.hbm, 201, rfl⟩
abbrev main_v113 : Ref sig .tc := ⟨.hbm, 202, rfl⟩
abbrev main_cst_6 : Ref sig .tc := ⟨.hbm, 203, rfl⟩
abbrev main_v114 : Ref sig .tc := ⟨.hbm, 204, rfl⟩
abbrev main_v115 : Ref sig .tc := ⟨.hbm, 205, rfl⟩
abbrev main_cst_7 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩

abbrev nD : Nat := 1
abbrev τ : Topo := Topo.v7x

variable {F : FTy → Type} [FloatOps F]

abbrev main_while0_count : Scf.Loop 32 := ⟨0#32, 32#32, 1#32⟩
-- ==== Experts.lean ====
abbrev S380 : Shape := ⟨1, ![380]⟩
abbrev S1 : Shape := ⟨1, ![1]⟩
abbrev S97280x2432 : Shape := ⟨2, ![97280, 2432]⟩
abbrev S64x2048x512 : Shape := ⟨3, ![64, 2048, 512]⟩
abbrev S64x512x2048 : Shape := ⟨3, ![64, 512, 2048]⟩
abbrev S97280x2048 : Shape := ⟨2, ![97280, 2048]⟩
abbrev S256x2432 : Shape := ⟨2, ![256, 2432]⟩
abbrev S1x2048x512 : Shape := ⟨3, ![1, 2048, 512]⟩
abbrev S1x512x2048 : Shape := ⟨3, ![1, 512, 2048]⟩
abbrev S256x2048 : Shape := ⟨2, ![256, 2048]⟩
abbrev S2048x512 : Shape := ⟨2, ![2048, 512]⟩
abbrev S512x2048 : Shape := ⟨2, ![512, 2048]⟩
abbrev S256x128 : Shape := ⟨2, ![256, 128]⟩
abbrev S256 : Shape := ⟨1, ![256]⟩
abbrev S256x1 : Shape := ⟨2, ![256, 1]⟩
abbrev S256x512 : Shape := ⟨2, ![256, 512]⟩

abbrev nBuf : Space → Nat
  | .hbm => 5
  | .vmem => 13
  | .smem => 2
  | _ => 0

abbrev bufTy : (tb : Table) → Fin (tcTables nBuf tb) → BufTy
  | .hbm, ⟨0, _⟩ => ⟨S97280x2432, .bf16⟩
  | .hbm, ⟨1, _⟩ => ⟨S64x2048x512, .f32⟩
  | .hbm, ⟨2, _⟩ => ⟨S64x2048x512, .f32⟩
  | .hbm, ⟨3, _⟩ => ⟨S64x512x2048, .f32⟩
  | .hbm, ⟨4, _⟩ => ⟨S97280x2048, .bf16⟩
  | .local _ .vmem, ⟨0, _⟩ => ⟨S256x2432, .bf16⟩
  | .local _ .vmem, ⟨1, _⟩ => ⟨S256x2432, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S256x2048, .bf16⟩
  | .local _ .vmem, ⟨9, _⟩ => ⟨S256x2048, .bf16⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .smem, ⟨0, _⟩ => ⟨S380, .i32⟩
  | .local _ .smem, ⟨1, _⟩ => ⟨S1, .i32⟩
  | _, _ => ⟨S97280x2432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![380], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v4 : Index := Scalar.indexCast arg0
  ![v4.toNat]
def k0_off3 (i : grid0.Coords) : Fin 1 → Nat :=
  let arg0 : BitVec 32 := BitVec.ofNat 32 (i 0).val
  let c1_i32 : BitVec 32 := 1#32
  let v7 : BitVec 32 := Scalar.subi arg0 c1_i32
  let c0_i32_1 : BitVec 32 := 0#32
  let v8 : BitVec 32 := Scalar.maxsi v7 c0_i32_1
  let v9 : Index := Scalar.indexCast v8
  ![v9.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S380.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S380) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S380.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S380) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S380.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S380) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S256x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DenseIdeal.lean ====
abbrev S380 : Shape := ⟨1, ![380]⟩
abbrev S1 : Shape := ⟨1, ![1]⟩
abbrev S97280x2432 : Shape := ⟨2, ![97280, 2432]⟩
abbrev S64x2048x512 : Shape := ⟨3, ![64, 2048, 512]⟩
abbrev S64x512x2048 : Shape := ⟨3, ![64, 512, 2048]⟩
abbrev S97280x2048 : Shape := ⟨2, ![97280, 2048]⟩
abbrev S97280x64 : Shape := ⟨2, ![97280, 64]⟩
abbrev S380x1 : Shape := ⟨2, ![380, 1]⟩
abbrev S380x256 : Shape := ⟨2, ![380, 256]⟩
abbrev S97280 : Shape := ⟨1, ![97280]⟩
abbrev S97280x1 : Shape := ⟨2, ![97280, 1]⟩
abbrev S64 : Shape := ⟨1, ![64]⟩
abbrev S1x64 : Shape := ⟨2, ![1, 64]⟩
abbrev S_ : Shape := ⟨0, ![]⟩
abbrev S8x2048x512 : Shape := ⟨3, ![8, 2048, 512]⟩
abbrev S97280x8x512 : Shape := ⟨3, ![97280, 8, 512]⟩
abbrev S97280x8 : Shape := ⟨2, ![97280, 8]⟩
abbrev S97280x8x1 : Shape := ⟨3, ![97280, 8, 1]⟩
abbrev S8x512x2048 : Shape := ⟨3, ![8, 512, 2048]⟩

abbrev nBuf : Space → Nat
  | .hbm => 200
  | .vmem => 0
  | .smem => 0
  | _ => 0

abbrev hbmTy0_0 (i : Nat) : BufTy := match i % 128 with
  | 0 => ⟨S380, .i32⟩
  | 1 => ⟨S1, .i32⟩
  | 2 => ⟨S97280x2432, .bf16⟩
  | 3 => ⟨S64x2048x512, .f32⟩
  | 4 => ⟨S64x2048x512, .f32⟩
  | 5 => ⟨S64x512x2048, .f32⟩
  | 6 => ⟨S97280x2048, .bf16⟩
  | 7 => ⟨S97280x2048, .f32⟩
  | 8 => ⟨S97280x64, .bf16⟩
  | 9 => ⟨S97280x64, .f32⟩
  | 10 => ⟨S97280x64, .bf16⟩
  | 11 => ⟨S97280x64, .f32⟩
  | 12 => ⟨S97280x64, .bf16⟩
  | 13 => ⟨S97280x64, .f32⟩
  | 14 => ⟨S380x1, .i32⟩
  | 15 => ⟨S380x256, .i32⟩
  | 16 => ⟨S97280, .i32⟩
  | 17 => ⟨S97280x1, .i32⟩
  | 18 => ⟨S64, .i32⟩
  | 19 => ⟨S1x64, .i32⟩
  | 20 => ⟨S97280x64, .i32⟩
  | 21 => ⟨S97280x64, .i32⟩
  | 22 => ⟨S97280x64, .i1⟩
  | 23 => ⟨S97280x64, .f32⟩
  | 24 => ⟨S97280x64, .f32⟩
  | 25 => ⟨S_, .f32⟩
  | 26 => ⟨S_, .f32⟩
  | 27 => ⟨S97280x64, .f32⟩
  | 28 => ⟨S97280x64, .f32⟩
  | 29 => ⟨S_, .f32⟩
  | 30 => ⟨S97280x2048, .f32⟩
  | 31 => ⟨S8x2048x512, .f32⟩
  | 32 => ⟨S97280x8x512, .f32⟩
  | 33 => ⟨S97280x8x512, .f32⟩
  | 34 => ⟨S97280x8x512, .f32⟩
  | 35 => ⟨S_, .f32⟩
  | 36 => ⟨S97280x8x512, .f32⟩
  | 37 => ⟨S97280x8x512, .f32⟩
  | 38 => ⟨S_, .f32⟩
  | 39 => ⟨S97280x8x512, .f32⟩
  | 40 => ⟨S97280x8x512, .f32⟩
  | 41 => ⟨S97280x8x512, .f32⟩
  | 42 => ⟨S8x2048x512, .f32⟩
  | 43 => ⟨S97280x8x512, .f32⟩
  | 44 => ⟨S97280x8x512, .f32⟩
  | 45 => ⟨S97280x8, .f32⟩
  | 46 => ⟨S97280x8x1, .f32⟩
  | 47 => ⟨S97280x8x512, .f32⟩
  | 48 => ⟨S97280x8x512, .f32⟩
  | 49 => ⟨S8x512x2048, .f32⟩
  | 50 => ⟨S97280x2048, .f32⟩
  | 51 => ⟨S97280x2048, .f32⟩
  | 52 => ⟨S8x2048x512, .f32⟩
  | 53 => ⟨S97280x8x512, .f32⟩
  | 54 => ⟨S97280x8x512, .f32⟩
  | 55 => ⟨S97280x8x512, .f32⟩
  | 56 => ⟨S_, .f32⟩
  | 57 => ⟨S97280x8x512, .f32⟩
  | 58 => ⟨S97280x8x512, .f32⟩
  | 59 => ⟨S_, .f32⟩
  | 60 => ⟨S97280x8x512, .f32⟩
  | 61 => ⟨S97280x8x512, .f32⟩
  | 62 => ⟨S97280x8x512, .f32⟩
  | 63 => ⟨S8x2048x512, .f32⟩
  | 64 => ⟨S97280x8x512, .f32⟩
  | 65 => ⟨S97280x8x512, .f32⟩
  | 66 => ⟨S97280x8, .f32⟩
  | 67 => ⟨S97280x8x1, .f32⟩
  | 68 => ⟨S97280x8x512, .f32⟩
  | 69 => ⟨S97280x8x512, .f32⟩
  | 70 => ⟨S8x512x2048, .f32⟩
  | 71 => ⟨S97280x2048, .f32⟩
  | 72 => ⟨S97280x2048, .f32⟩
  | 73 => ⟨S8x2048x512, .f32⟩
  | 74 => ⟨S97280x8x512, .f32⟩
  | 75 => ⟨S97280x8x512, .f32⟩
  | 76 => ⟨S97280x8x512, .f32⟩
  | 77 => ⟨S_, .f32⟩
  | 78 => ⟨S97280x8x512, .f32⟩
  | 79 => ⟨S97280x8x512, .f32⟩
  | 80 => ⟨S_, .f32⟩
  | 81 => ⟨S97280x8x512, .f32⟩
  | 82 => ⟨S97280x8x512, .f32⟩
  | 83 => ⟨S97280x8x512, .f32⟩
  | 84 => ⟨S8x2048x512, .f32⟩
  | 85 => ⟨S97280x8x512, .f32⟩
  | 86 => ⟨S97280x8x512, .f32⟩
  | 87 => ⟨S97280x8, .f32⟩
  | 88 => ⟨S97280x8x1, .f32⟩
  | 89 => ⟨S97280x8x512, .f32⟩
  | 90 => ⟨S97280x8x512, .f32⟩
  | 91 => ⟨S8x512x2048, .f32⟩
  | 92 => ⟨S97280x2048, .f32⟩
  | 93 => ⟨S97280x2048, .f32⟩
  | 94 => ⟨S8x2048x512, .f32⟩
  | 95 => ⟨S97280x8x512, .f32⟩
  | 96 => ⟨S97280x8x512, .f32⟩
  | 97 => ⟨S97280x8x512, .f32⟩
  | 98 => ⟨S_, .f32⟩
  | 99 => ⟨S97280x8x512, .f32⟩
  | 100 => ⟨S97280x8x512, .f32⟩
  | 101 => ⟨S_, .f32⟩
  | 102 => ⟨S97280x8x512, .f32⟩
  | 103 => ⟨S97280x8x512, .f32⟩
  | 104 => ⟨S97280x8x512, .f32⟩
  | 105 => ⟨S8x2048x512, .f32⟩
  | 106 => ⟨S97280x8x512, .f32⟩
  | 107 => ⟨S97280x8x512, .f32⟩
  | 108 => ⟨S97280x8, .f32⟩
  | 109 => ⟨S97280x8x1, .f32⟩
  | 110 => ⟨S97280x8x512, .f32⟩
  | 111 => ⟨S97280x8x512, .f32⟩
  | 112 => ⟨S8x512x2048, .f32⟩
  | 113 => ⟨S97280x2048, .f32⟩
  | 114 => ⟨S97280x2048, .f32⟩
  | 115 => ⟨S8x2048x512, .f32⟩
  | 116 => ⟨S97280x8x512, .f32⟩
  | 117 => ⟨S97280x8x512, .f32⟩
  | 118 => ⟨S97280x8x512, .f32⟩
  | 119 => ⟨S_, .f32⟩
  | 120 => ⟨S97280x8x512, .f32⟩
  | 121 => ⟨S97280x8x512, .f32⟩
  | 122 => ⟨S_, .f32⟩
  | 123 => ⟨S97280x8x512, .f32⟩
  | 124 => ⟨S97280x8x512, .f32⟩
  | 125 => ⟨S97280x8x512, .f32⟩
  | 126 => ⟨S8x2048x512, .f32⟩
  | 127 => ⟨S97280x8x512, .f32⟩
  | _ => ⟨S380, .i32⟩

abbrev hbmTy0_1 (i : Nat) : BufTy := match i % 128 with
  | 0 => ⟨S97280x8x512, .f32⟩
  | 1 => ⟨S97280x8, .f32⟩
  | 2 => ⟨S97280x8x1, .f32⟩
  | 3 => ⟨S97280x8x512, .f32⟩
  | 4 => ⟨S97280x8x512, .f32⟩
  | 5 => ⟨S8x512x2048, .f32⟩
  | 6 => ⟨S97280x2048, .f32⟩
  | 7 => ⟨S97280x2048, .f32⟩
  | 8 => ⟨S8x2048x512, .f32⟩
  | 9 => ⟨S97280x8x512, .f32⟩
  | 10 => ⟨S97280x8x512, .f32⟩
  | 11 => ⟨S97280x8x512, .f32⟩
  | 12 => ⟨S_, .f32⟩
  | 13 => ⟨S97280x8x512, .f32⟩
  | 14 => ⟨S97280x8x512, .f32⟩
  | 15 => ⟨S_, .f32⟩
  | 16 => ⟨S97280x8x512, .f32⟩
  | 17 => ⟨S97280x8x512, .f32⟩
  | 18 => ⟨S97280x8x512, .f32⟩
  | 19 => ⟨S8x2048x512, .f32⟩
  | 20 => ⟨S97280x8x512, .f32⟩
  | 21 => ⟨S97280x8x512, .f32⟩
  | 22 => ⟨S97280x8, .f32⟩
  | 23 => ⟨S97280x8x1, .f32⟩
  | 24 => ⟨S97280x8x512, .f32⟩
  | 25 => ⟨S97280x8x512, .f32⟩
  | 26 => ⟨S8x512x2048, .f32⟩
  | 27 => ⟨S97280x2048, .f32⟩
  | 28 => ⟨S97280x2048, .f32⟩
  | 29 => ⟨S8x2048x512, .f32⟩
  | 30 => ⟨S97280x8x512, .f32⟩
  | 31 => ⟨S97280x8x512, .f32⟩
  | 32 => ⟨S97280x8x512, .f32⟩
  | 33 => ⟨S_, .f32⟩
  | 34 => ⟨S97280x8x512, .f32⟩
  | 35 => ⟨S97280x8x512, .f32⟩
  | 36 => ⟨S_, .f32⟩
  | 37 => ⟨S97280x8x512, .f32⟩
  | 38 => ⟨S97280x8x512, .f32⟩
  | 39 => ⟨S97280x8x512, .f32⟩
  | 40 => ⟨S8x2048x512, .f32⟩
  | 41 => ⟨S97280x8x512, .f32⟩
  | 42 => ⟨S97280x8x512, .f32⟩
  | 43 => ⟨S97280x8, .f32⟩
  | 44 => ⟨S97280x8x1, .f32⟩
  | 45 => ⟨S97280x8x512, .f32⟩
  | 46 => ⟨S97280x8x512, .f32⟩
  | 47 => ⟨S8x512x2048, .f32⟩
  | 48 => ⟨S97280x2048, .f32⟩
  | 49 => ⟨S97280x2048, .f32⟩
  | 50 => ⟨S8x2048x512, .f32⟩
  | 51 => ⟨S97280x8x512, .f32⟩
  | 52 => ⟨S97280x8x512, .f32⟩
  | 53 => ⟨S97280x8x512, .f32⟩
  | 54 => ⟨S_, .f32⟩
  | 55 => ⟨S97280x8x512, .f32⟩
  | 56 => ⟨S97280x8x512, .f32⟩
  | 57 => ⟨S_, .f32⟩
  | 58 => ⟨S97280x8x512, .f32⟩
  | 59 => ⟨S97280x8x512, .f32⟩
  | 60 => ⟨S97280x8x512, .f32⟩
  | 61 => ⟨S8x2048x512, .f32⟩
  | 62 => ⟨S97280x8x512, .f32⟩
  | 63 => ⟨S97280x8x512, .f32⟩
  | 64 => ⟨S97280x8, .f32⟩
  | 65 => ⟨S97280x8x1, .f32⟩
  | 66 => ⟨S97280x8x512, .f32⟩
  | 67 => ⟨S97280x8x512, .f32⟩
  | 68 => ⟨S8x512x2048, .f32⟩
  | 69 => ⟨S97280x2048, .f32⟩
  | 70 => ⟨S97280x2048, .f32⟩
  | 71 => ⟨S97280x2048, .bf16⟩
  | _ => ⟨S380, .i32⟩

abbrev hbmTy (i : Nat) : BufTy := match i / 128 with
  | 0 => hbmTy0_0 i
  | 1 => hbmTy0_1 i
  | _ => ⟨S380, .i32⟩

abbrev bufTy : (tb : Table) → Fin (tcTables nBuf tb) → BufTy
  | .hbm, ⟨i, _⟩ => hbmTy i
  | _, _ => ⟨S380, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call2_v0 : Ref sig .tc := ⟨.hbm, 54, rfl⟩
abbrev main_call2_v1 : Ref sig .tc := ⟨.hbm, 55, rfl⟩
abbrev main_call2_cst : Ref sig .tc := ⟨.hbm, 56, rfl⟩
abbrev main_call2_v2 : Ref sig .tc := ⟨.hbm, 57, rfl⟩
abbrev main_call2_v3 : Ref sig .tc := ⟨.hbm, 58, rfl⟩
abbrev main_call2_cst_0 : Ref sig .tc := ⟨.hbm, 59, rfl⟩
abbrev main_call2_v4 : Ref sig .tc := ⟨.hbm, 60, rfl⟩
abbrev main_call2_v5 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call3_v0 : Ref sig .tc := ⟨.hbm, 75, rfl⟩
abbrev main_call3_v1 : Ref sig .tc := ⟨.hbm, 76, rfl⟩
abbrev main_call3_cst : Ref sig .tc := ⟨.hbm, 77, rfl⟩
abbrev main_call3_v2 : Ref sig .tc := ⟨.hbm, 78, rfl⟩
abbrev main_call3_v3 : Ref sig .tc := ⟨.hbm, 79, rfl⟩
abbrev main_call3_cst_0 : Ref sig .tc := ⟨.hbm, 80, rfl⟩
abbrev main_call3_v4 : Ref sig .tc := ⟨.hbm, 81, rfl⟩
abbrev main_call3_v5 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_call4_v0 : Ref sig .tc := ⟨.hbm, 96, rfl⟩
abbrev main_call4_v1 : Ref sig .tc := ⟨.hbm, 97, rfl⟩
abbrev main_call4_cst : Ref sig .tc := ⟨.hbm, 98, rfl⟩
abbrev main_call4_v2 : Ref sig .tc := ⟨.hbm, 99, rfl⟩
abbrev main_call4_v3 : Ref sig .tc := ⟨.hbm, 100, rfl⟩
abbrev main_call4_cst_0 : Ref sig .tc := ⟨.hbm, 101, rfl⟩
abbrev main_call4_v4 : Ref sig .tc := ⟨.hbm, 102, rfl⟩
abbrev main_call4_v5 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_call5_v0 : Ref sig .tc := ⟨.hbm, 117, rfl⟩
abbrev main_call5_v1 : Ref sig .tc := ⟨.hbm, 118, rfl⟩
abbrev main_call5_cst : Ref sig .tc := ⟨.hbm, 119, rfl⟩
abbrev main_call5_v2 : Ref sig .tc := ⟨.hbm, 120, rfl⟩
abbrev main_call5_v3 : Ref sig .tc := ⟨.hbm, 121, rfl⟩
abbrev main_call5_cst_0 : Ref sig .tc := ⟨.hbm, 122, rfl⟩
abbrev main_call5_v4 : Ref sig .tc := ⟨.hbm, 123, rfl⟩
abbrev main_call5_v5 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_call6_v0 : Ref sig .tc := ⟨.hbm, 138, rfl⟩
abbrev main_call6_v1 : Ref sig .tc := ⟨.hbm, 139, rfl⟩
abbrev main_call6_cst : Ref sig .tc := ⟨.hbm, 140, rfl⟩
abbrev main_call6_v2 : Ref sig .tc := ⟨.hbm, 141, rfl⟩
abbrev main_call6_v3 : Ref sig .tc := ⟨.hbm, 142, rfl⟩
abbrev main_call6_cst_0 : Ref sig .tc := ⟨.hbm, 143, rfl⟩
abbrev main_call6_v4 : Ref sig .tc := ⟨.hbm, 144, rfl⟩
abbrev main_call6_v5 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_call7_v0 : Ref sig .tc := ⟨.hbm, 159, rfl⟩
abbrev main_call7_v1 : Ref sig .tc := ⟨.hbm, 160, rfl⟩
abbrev main_call7_cst : Ref sig .tc := ⟨.hbm, 161, rfl⟩
abbrev main_call7_v2 : Ref sig .tc := ⟨.hbm, 162, rfl⟩
abbrev main_call7_v3 : Ref sig .tc := ⟨.hbm, 163, rfl⟩
abbrev main_call7_cst_0 : Ref sig .tc := ⟨.hbm, 164, rfl⟩
abbrev main_call7_v4 : Ref sig .tc := ⟨.hbm, 165, rfl⟩
abbrev main_call7_v5 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_call8_v0 : Ref sig .tc := ⟨.hbm, 180, rfl⟩
abbrev main_call8_v1 : Ref sig .tc := ⟨.hbm, 181, rfl⟩
abbrev main_call8_cst : Ref sig .tc := ⟨.hbm, 182, rfl⟩
abbrev main_call8_v2 : Ref sig .tc := ⟨.hbm, 183, rfl⟩
abbrev main_call8_v3 : Ref sig .tc := ⟨.hbm, 184, rfl⟩
abbrev main_call8_cst_0 : Ref sig .tc := ⟨.hbm, 185, rfl⟩
abbrev main_call8_v4 : Ref sig .tc := ⟨.hbm, 186, rfl⟩
abbrev main_call8_v5 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩

abbrev nD : Nat := 1
abbrev τ : Topo := Topo.v7x

variable {F : FTy → Type} [FloatOps F]
-- ==== Inproj.lean ====
abbrev S2x4096x2048 : Shape := ⟨3, ![2, 4096, 2048]⟩
abbrev S2x1x2048 : Shape := ⟨3, ![2, 1, 2048]⟩
abbrev S2048x6752 : Shape := ⟨2, ![2048, 6752]⟩
abbrev S8192x2048 : Shape := ⟨2, ![8192, 2048]⟩
abbrev S2048x1024 : Shape := ⟨2, ![2048, 1024]⟩
abbrev S2048x4096 : Shape := ⟨2, ![2048, 4096]⟩
abbrev S2048x512 : Shape := ⟨2, ![2048, 512]⟩
abbrev S2048x6656 : Shape := ⟨2, ![2048, 6656]⟩
abbrev S2048x16 : Shape := ⟨2, ![2048, 16]⟩
abbrev S_ : Shape := ⟨0, ![]⟩
abbrev S2048x128 : Shape := ⟨2, ![2048, 128]⟩
abbrev S2048x64 : Shape := ⟨2, ![2048, 64]⟩
abbrev S2048x384 : Shape := ⟨2, ![2048, 384]⟩
abbrev S8192x6656 : Shape := ⟨2, ![8192, 6656]⟩
abbrev S8192x384 : Shape := ⟨2, ![8192, 384]⟩
abbrev S1024x2048 : Shape := ⟨2, ![1024, 2048]⟩
abbrev S1x1x2048 : Shape := ⟨3, ![1, 1, 2048]⟩
abbrev S1024x512 : Shape := ⟨2, ![1024, 512]⟩
abbrev S1024x384 : Shape := ⟨2, ![1024, 384]⟩
abbrev S1x2048 : Shape := ⟨2, ![1, 2048]⟩

abbrev nBuf : Space → Nat
  | .hbm => 30
  | .vmem => 15
  | .smem => 0
  | _ => 0

abbrev bufTy : (tb : Table) → Fin (tcTables nBuf tb) → BufTy
  | .hbm, ⟨0, _⟩ => ⟨S2x4096x2048, .f32⟩
  | .hbm, ⟨1, _⟩ => ⟨S2x1x2048, .f32⟩
  | .hbm, ⟨2, _⟩ => ⟨S2x1x2048, .f32⟩
  | .hbm, ⟨3, _⟩ => ⟨S2048x6752, .f32⟩
  | .hbm, ⟨4, _⟩ => ⟨S8192x2048, .f32⟩
  | .hbm, ⟨5, _⟩ => ⟨S2048x1024, .f32⟩
  | .hbm, ⟨6, _⟩ => ⟨S2048x1024, .f32⟩
  | .hbm, ⟨7, _⟩ => ⟨S2048x4096, .f32⟩
  | .hbm, ⟨8, _⟩ => ⟨S2048x512, .f32⟩
  | .hbm, ⟨9, _⟩ => ⟨S2048x6656, .f32⟩
  | .hbm, ⟨10, _⟩ => ⟨S2048x6656, .bf16⟩
  | .hbm, ⟨11, _⟩ => ⟨S2048x16, .f32⟩
  | .hbm, ⟨12, _⟩ => ⟨S_, .i32⟩
  | .hbm, ⟨13, _⟩ => ⟨S_, .f32⟩
  | .hbm, ⟨14, _⟩ => ⟨S2048x128, .f32⟩
  | .hbm, ⟨15, _⟩ => ⟨S2048x64, .f32⟩
  | .hbm, ⟨16, _⟩ => ⟨S_, .i32⟩
  | .hbm, ⟨17, _⟩ => ⟨S_, .f32⟩
  | .hbm, ⟨18, _⟩ => ⟨S2048x128, .f32⟩
  | .hbm, ⟨19, _⟩ => ⟨S2048x16, .f32⟩
  | .hbm, ⟨20, _⟩ => ⟨S_, .i32⟩
  | .hbm, ⟨21, _⟩ => ⟨S_, .f32⟩
  | .hbm, ⟨22, _⟩ => ⟨S2048x128, .f32⟩
  | .hbm, ⟨23, _⟩ => ⟨S2048x384, .f32⟩
  | .hbm, ⟨24, _⟩ => ⟨S2048x384, .bf16⟩
  | .hbm, ⟨25, _⟩ => ⟨S2048x384, .f32⟩
  | .hbm, ⟨26, _⟩ => ⟨S2048x384, .f32⟩
  | .hbm, ⟨27, _⟩ => ⟨S2048x384, .bf16⟩
  | .hbm, ⟨28, _⟩ => ⟨S8192x6656, .f32⟩
  | .hbm, ⟨29, _⟩ => ⟨S8192x384, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x512, .bf16⟩
  | .local _ .vmem, ⟨7, _⟩ => ⟨S2048x512, .bf16⟩
  | .local _ .vmem, ⟨8, _⟩ => ⟨S2048x384, .bf16⟩
  | .local _ .vmem, ⟨9, _⟩ => ⟨S2048x384, .bf16⟩
  | .local _ .vmem, ⟨10, _⟩ => ⟨S1024x512, .f32⟩
  | .local _ .vmem, ⟨11, _⟩ => ⟨S1024x512, .f32⟩
  | .local _ .vmem, ⟨12, _⟩ => ⟨S1024x384, .f32⟩
  | .local _ .vmem, ⟨13, _⟩ => ⟨S1024x384, .f32⟩
  | .local _ .vmem, ⟨14, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_call1_v0 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_call2_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 13], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ProjectionIdeal.lean ====
abbrev S2x4096x2048 : Shape := ⟨3, ![2, 4096, 2048]⟩
abbrev S2x1x2048 : Shape := ⟨3, ![2, 1, 2048]⟩
abbrev S2048x6752 : Shape := ⟨2, ![2048, 6752]⟩
abbrev S_ : Shape := ⟨0, ![]⟩
abbrev S2x4096x6752 : Shape := ⟨3, ![2, 4096, 6752]⟩
abbrev S8192x6752 : Shape := ⟨2, ![8192, 6752]⟩
abbrev S8192x2048 : Shape := ⟨2, ![8192, 2048]⟩
abbrev S8192x4096 : Shape := ⟨2, ![8192, 4096]⟩
abbrev S8192x512 : Shape := ⟨2, ![8192, 512]⟩
abbrev S8192x6656 : Shape := ⟨2, ![8192, 6656]⟩
abbrev S8192x16 : Shape := ⟨2, ![8192, 16]⟩
abbrev S8192x128 : Shape := ⟨2, ![8192, 128]⟩
abbrev S8192x64 : Shape := ⟨2, ![8192, 64]⟩
abbrev S8192x384 : Shape := ⟨2, ![8192, 384]⟩

abbrev nBuf : Space → Nat
  | .hbm => 30
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x1x2048, .f32⟩
  | .hbm, ⟨2, _⟩ => ⟨S2x1x2048, .f32⟩
  | .hbm, ⟨3, _⟩ => ⟨S2048x6752, .f32⟩
  | .hbm, ⟨4, _⟩ => ⟨S_, .f32⟩
  | .hbm, ⟨5, _⟩ => ⟨S2x1x2048, .f32⟩
  | .hbm, ⟨6, _⟩ => ⟨S2x1x2048, .f32⟩
  | .hbm, ⟨7, _⟩ => ⟨S2x4096x2048, .f32⟩
  | .hbm, ⟨8, _⟩ => ⟨S2x4096x2048, .f32⟩
  | .hbm, ⟨9, _⟩ => ⟨S2x4096x2048, .f32⟩
  | .hbm, ⟨10, _⟩ => ⟨S2x4096x2048, .f32⟩
  | .hbm, ⟨11, _⟩ => ⟨S2x4096x6752, .f32⟩
  | .hbm, ⟨12, _⟩ => ⟨S8192x6752, .f32⟩
  | .hbm, ⟨13, _⟩ => ⟨S8192x2048, .f32⟩
  | .hbm, ⟨14, _⟩ => ⟨S8192x4096, .f32⟩
  | .hbm, ⟨15, _⟩ => ⟨S8192x512, .f32⟩
  | .hbm, ⟨16, _⟩ => ⟨S8192x6656, .f32⟩
  | .hbm, ⟨17, _⟩ => ⟨S8192x16, .f32⟩
  | .hbm, ⟨18, _⟩ => ⟨S_, .i32⟩
  | .hbm, ⟨19, _⟩ => ⟨S_, .f32⟩
  | .hbm, ⟨20, _⟩ => ⟨S8192x128, .f32⟩
  | .hbm, ⟨21, _⟩ => ⟨S8192x64, .f32⟩
  | .hbm, ⟨22, _⟩ => ⟨S_, .i32⟩
  | .hbm, ⟨23, _⟩ => ⟨S_, .f32⟩
  | .hbm, ⟨24, _⟩ => ⟨S8192x128, .f32⟩
  | .hbm, ⟨25, _⟩ => ⟨S8192x16, .f32⟩
  | .hbm, ⟨26, _⟩ => ⟨S_, .i32⟩
  | .hbm, ⟨27, _⟩ => ⟨S_, .f32⟩
  | .hbm, ⟨28, _⟩ => ⟨S8192x128, .f32⟩
  | .hbm, ⟨29, _⟩ => ⟨S8192x384, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_call1_v0 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_call2_v0 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== Proof.Ssd.lean ====
module
public import Idealize.ShloMosaic.Lib.Pointwise
@[expose] public section
noncomputable section
/-! The state-space recurrence of the layer, one element at a time over the extended reals. Arrays are functions of natural-number coordinates.
A chunk is 128 rows; the 16 heads have 64 columns each, and head `h` belongs to group `h / 8`, that is column `d` to head `d / 64` and group `d / 512`. -/
namespace Cert.Ssd
open Idealize.ShloMosaic

/-! ## Scalar functions -/

/-- `v` times the logistic function of `v`. -/
def silu (v : EReal) : EReal := v * Ideal.div 1 (1 + Ideal.exp (-v))

/-- The softplus function, `max v 0 + log (1 + exp (-|v|))`. -/
def softplus (v : EReal) : EReal := max v 0 + Ideal.log1p (Ideal.exp (-(max v (-v))))

/-- The float pattern of minus infinity. -/
theorem ninf_bits : Ideal.ofBits .f32 0xFF800000#32 = (⊥ : EReal) := by
  simp [Ideal.ofBits, Ideal.ieee]

/-! ## Products with tables of zeros and ones -/

/-- A product with a column that has a single one picks an element. -/
theorem pick {n : ℕ} (a : Fin n → EReal) (e : Fin n → EReal) (c : Fin n) (he : ∀ k, e k = if k = c then 1 else 0) :
    ∑ k, a k * e k = a c := by
  simp [he]

/-- A product with a row of ones up to a position sums the elements up to it. -/
theorem sum_upto {n : ℕ} (a : Fin n → EReal) (t : Fin n → EReal) (l : ℕ) (ht : ∀ k, t k = if k.val ≤ l then 1 else 0) :
    ∑ k, t k * a k = ∑ k : Fin n, if k.val ≤ l then a k else 0 := by
  refine Finset.sum_congr rfl fun k _ => ?_
  rw [ht k]; split <;> simp

/-! ## The normalisation -/

/-- The root-mean-square normalisation of a row, with the kernel's two constants. -/
def norm (f : Fin 1024 → EReal) (d : Fin 1024) : EReal :=
  f d * Ideal.rsqrt (Ideal.div (∑ i, f i * f i) (Ideal.ofBits .f32 0x44800000#32) + Ideal.ofBits .f32 0x3727C5AC#32)

/-! ## The recurrence -/

/-- The arrays the recurrence reads: the input projection by sequence, position and column, the convolution's taps and bias, and the vectors over heads and columns. -/
structure Args where
  proj : ℕ → ℕ → ℕ → EReal
  w : ℕ → ℕ → EReal
  b : ℕ → EReal
  dtb : ℕ → EReal
  al : ℕ → EReal
  ds : ℕ → EReal
  nw : ℕ → EReal

/-- The column `ch` of the convolution's input `3 - k` positions before `t`; zero before the sequence begins. -/
def tap (A : Args) (b k t ch : ℕ) : EReal := if t + k < 3 then 0 else A.proj b (t + k - 3) (1024 + ch)

/-- The convolution over four positions, activated. -/
def act (A : Args) (b t ch : ℕ) : EReal :=
  silu (tap A b 0 t ch * A.w 0 ch + tap A b 1 t ch * A.w 1 ch + tap A b 2 t ch * A.w 2 ch + tap A b 3 t ch * A.w 3 ch + A.b ch)

/-- The step size of a head. -/
def dt (A : Args) (b t h : ℕ) : EReal := softplus (A.proj b t (2560 + h) + A.dtb h)

/-- The logarithm of a head's decay over one position. -/
def la (A : Args) (b t h : ℕ) : EReal := dt A b t h * -Ideal.exp (A.al h)

/-- The logarithm of the decay from the chunk's beginning to its row `l`. -/
def cs (A : Args) (b c l h : ℕ) : EReal := ∑ k : Fin 128, if k.val ≤ l then la A b (128 * c + k.val) h else 0

/-! ### One chunk

`U` holds the chunk's activated columns, `S` the logarithms of its decays, `X` its scaled inputs and `H` the state that enters it. -/

/-- Row `l`'s query column against row `s`'s key column. -/
def cbm (U : ℕ → ℕ → EReal) (g l s : ℕ) : EReal := ∑ n : Fin 128, U l (1280 + 128 * g + n.val) * U s (1024 + 128 * g + n.val)

/-- The decay from row `s` to row `l`, zero for a row after `l`. -/
def dec (S : ℕ → ℕ → EReal) (h l s : ℕ) : EReal := Ideal.exp (if s ≤ l then S l h - S s h else ⊥)

/-- What the chunk's own rows give to row `l`. -/
def yd (U S X : ℕ → ℕ → EReal) (l d : ℕ) : EReal := ∑ s : Fin 128, cbm U (d / 512) l s.val * dec S (d / 64) l s.val * X s.val d

/-- What the state that enters the chunk gives to row `l`. -/
def yo (U S H : ℕ → ℕ → EReal) (l d : ℕ) : EReal := (∑ n : Fin 128, U l (1280 + 128 * (d / 512) + n.val) * H n.val d) * Ideal.exp (S l (d / 64))

/-- The state that leaves the chunk. -/
def hn (U S X H : ℕ → ℕ → EReal) (n d : ℕ) : EReal :=
  Ideal.exp (S 127 (d / 64)) * H n d
    + ∑ s : Fin 128, U s.val (1024 + 128 * (d / 512) + n) * (X s.val d * Ideal.exp (S 127 (d / 64) - S s.val (d / 64)))

/-- The gated row before its normalisation. -/
def yf (U S X H : ℕ → ℕ → EReal) (ds : ℕ → EReal) (z : EReal) (l d : ℕ) : EReal :=
  (yd U S X l d + yo U S H l d + ds (d / 64) * U l d) * silu z

/-! ### All chunks -/

/-- The activated columns of a chunk. -/
def U (A : Args) (b c l ch : ℕ) : EReal := act A b (128 * c + l) ch

/-- The scaled inputs of a chunk. -/
def X (A : Args) (b c s d : ℕ) : EReal := U A b c s d * dt A b (128 * c + s) (d / 64)

/-- The state that enters chunk `c`. -/
def st (A : Args) (b : ℕ) : ℕ → ℕ → ℕ → EReal
  | 0, _, _ => 0
  | c + 1, n, d => hn (U A b c) (cs A b c) (X A b c) (st A b c) n d

/-- The gated output row of a chunk. -/
def gated (A : Args) (b c l d : ℕ) : EReal :=
  yf (U A b c) (cs A b c) (X A b c) (st A b c) A.ds (A.proj b (128 * c + l) d) l d

/-- The result: the gated row normalised and scaled. -/
def out (A : Args) (b c l : ℕ) (d : Fin 1024) : EReal :=
  norm (fun i => gated A b c l i.val) d * A.nw d.val

end Cert.Ssd
end
-- ==== Proof.Reads.lean ====
module
public import proofs.«01_k».proof.Proof.Ssd
@[expose] public section
noncomputable section
namespace Cert.Ssd
open Idealize.ShloMosaic

/-- A vector as a function of natural numbers, zero past its end. -/
def ext1 {n : ℕ} (f : Fin n → EReal) (i : ℕ) : EReal := if h : i < n then f ⟨i, h⟩ else 0

/-- A matrix as a function of natural numbers, zero outside. -/
def ext2 {n k : ℕ} (f : Fin n → Fin k → EReal) (i j : ℕ) : EReal := ext1 (fun x => ext1 (f x) j) i

/-- An array of three axes as a function of natural numbers, zero outside. -/
def ext3 {n k l : ℕ} (f : Fin n → Fin k → Fin l → EReal) (i j r : ℕ) : EReal := ext1 (fun x => ext2 (f x) j r) i

/-- Inside its length the extension is the vector. -/
theorem ext1_of_lt {n : ℕ} (f : Fin n → EReal) (i : ℕ) (h : i < n) : ext1 f i = f ⟨i, h⟩ := dif_pos h

/-- Inside its extents the extension is the matrix. -/
theorem ext2_of_lt {n k : ℕ} (f : Fin n → Fin k → EReal) (i j : ℕ) (hi : i < n) (hj : j < k) : ext2 f i j = f ⟨i, hi⟩ ⟨j, hj⟩ := by
  rw [ext2, ext1_of_lt _ _ hi, ext1_of_lt _ _ hj]

/-- Inside its extents the extension is the array. -/
theorem ext3_of_lt {n k l : ℕ} (f : Fin n → Fin k → Fin l → EReal) (i j r : ℕ) (hi : i < n) (hj : j < k) (hr : r < l) :
    ext3 f i j r = f ⟨i, hi⟩ ⟨j, hj⟩ ⟨r, hr⟩ := by
  rw [ext3, ext1_of_lt _ _ hi, ext2_of_lt _ _ _ hj hr]

/-- The recurrence's inputs from the seven argument arrays. -/
def argsOf (p : Fin 2 → Fin 4096 → Fin 6752 → EReal) (w : Fin 4 → Fin 1536 → EReal) (b : Fin 1536 → EReal)
    (dtb al ds : Fin 16 → EReal) (nw : Fin 1024 → EReal) : Args :=
  ⟨ext3 p, ext2 w, ext1 b, ext1 dtb, ext1 al, ext1 ds, ext1 nw⟩

end Cert.Ssd
end
-- ==== Proof.KHost.lean ====
module
public import proofs.«01_k».proof.Proof.Gen.KernelIdeal.Value
public import proofs.«01_k».proof.Proof.Reads
public import Idealize.ShloMosaic.Lib.Pipeline.ValueKit
public import Idealize.ShloMosaic.Lib.Pointwise
public import Idealize.ShloMosaic.Lib.Routing.Words
public import Idealize.ShloMosaic.Lib.Tactic.WordOmega
public import Idealize.ShloMosaic.Lib.StableHlo.ReadAt
@[expose] public section
set_option maxRecDepth 16384
noncomputable section

namespace Cert.KernelIdeal.Value
open Cert.KernelIdeal Cert.KernelIdeal.Gen Idealize.ShloMosaic Idealize.ShloMosaic.TcCoe Idealize.SL.Sem
open Idealize.ShloMosaic.Pipeline (Dat)
variable (m : (ℓ : Loc nD τ sig) → Buf (Elt Ideal) ℓ)

/-- The block indices of every window at every grid point. -/
theorem idx : ∀ t : Fin cfg0.N, win0_0.index t = ![t.val, 0] ∧ win0_1.index t = ![t.val, 1] ∧ win0_2.index t = ![t.val, 12]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![t.val, 0] :=
  (by decide +kernel : ∀ t : Fin grid0.N, _)

/-- The recurrence's inputs as core `c`'s argument arrays hold them. -/
def args (c : Dev nD) : Ssd.Args :=
  Ssd.argsOf (fun b t ch => (m ((c : Thread nD τ).loc main_arg0) : S2x4096x6752.Idx → EReal) (ix3 b t ch))
    (fun k ch => (m ((c : Thread nD τ).loc main_arg1) : S4x1536.Idx → EReal) (ix2 k ch))
    (fun ch => (m ((c : Thread nD τ).loc main_arg2) : S1536.Idx → EReal) (ix1 ch))
    (fun h => (m ((c : Thread nD τ).loc main_arg3) : S16.Idx → EReal) (ix1 h))
    (fun h => (m ((c : Thread nD τ).loc main_arg4) : S16.Idx → EReal) (ix1 h))
    (fun h => (m ((c : Thread nD τ).loc main_arg5) : S16.Idx → EReal) (ix1 h))
    (fun d => (m ((c : Thread nD τ).loc main_arg6) : S1024.Idx → EReal) (ix1 d))

/-- The projection's columns at a row of the flattened array. -/
theorem args_proj (c : Dev nD) (b t ch : ℕ) (hb : b < 2) (ht : t < 4096) (hc : ch < 6752) :
    (args m c).proj b t ch = (m ((c : Thread nD τ).loc main_arg0) : S2x4096x6752.Idx → EReal) (ix3 ⟨b, hb⟩ ⟨t, ht⟩ ⟨ch, hc⟩) := by
  unfold args Ssd.argsOf
  dsimp only
  rw [Ssd.ext3_of_lt _ _ _ _ hb ht hc]

/-- The convolution's taps. -/
theorem args_w (c : Dev nD) (k ch : ℕ) (hk : k < 4) (hc : ch < 1536) :
    (args m c).w k ch = (m ((c : Thread nD τ).loc main_arg1) : S4x1536.Idx → EReal) (ix2 ⟨k, hk⟩ ⟨ch, hc⟩) := by
  unfold args Ssd.argsOf
  dsimp only
  rw [Ssd.ext2_of_lt _ _ _ hk hc]
/-- The convolution's bias. -/
theorem args_b (c : Dev nD) (ch : ℕ) (h : ch < 1536) :
    (args m c).b ch = (m ((c : Thread nD τ).loc main_arg2) : S1536.Idx → EReal) (ix1 ⟨ch, h⟩) := by
  unfold args Ssd.argsOf
  dsimp only
  rw [Ssd.ext1_of_lt _ _ h]
/-- The step sizes' bias. -/
theorem args_dtb (c : Dev nD) (i : ℕ) (h : i < 16) :
    (args m c).dtb i = (m ((c : Thread nD τ).loc main_arg3) : S16.Idx → EReal) (ix1 ⟨i, h⟩) := by
  unfold args Ssd.argsOf
  dsimp only
  rw [Ssd.ext1_of_lt _ _ h]
/-- The decay rates' logarithms. -/
theorem args_al (c : Dev nD) (i : ℕ) (h : i < 16) :
    (args m c).al i = (m ((c : Thread nD τ).loc main_arg4) : S16.Idx → EReal) (ix1 ⟨i, h⟩) := by
  unfold args Ssd.argsOf
  dsimp only
  rw [Ssd.ext1_of_lt _ _ h]
/-- The skip weights. -/
theorem args_ds (c : Dev nD) (i : ℕ) (h : i < 16) :
    (args m c).ds i = (m ((c : Thread nD τ).loc main_arg5) : S16.Idx → EReal) (ix1 ⟨i, h⟩) := by
  unfold args Ssd.argsOf
  dsimp only
  rw [Ssd.ext1_of_lt _ _ h]
/-- The normalisation's weights. -/
theorem args_nw (c : Dev nD) (i : ℕ) (h : i < 1024) :
    (args m c).nw i = (m ((c : Thread nD τ).loc main_arg6) : S1024.Idx → EReal) (ix1 ⟨i, h⟩) := by
  unfold args Ssd.argsOf
  dsimp only
  rw [Ssd.ext1_of_lt _ _ h]

/-- The first 2048 columns the region reads are the projection's. -/
theorem v4_lo (c : Dev nD) (r : Fin 8192) (d : Fin 6656) (hd : d.val < 2048) :
    (V m c main_v4 : S8192x6656.Idx → EReal) (ix2 r d) = (args m c).proj (r.val / 4096) (r.val % 4096) d.val := by
  rw [args_proj _ _ _ _ _ (by omega) (by omega) (by omega)]
  unfold V
  after_reads_at
  rw [dif_pos hd]
  after_reads_simp
  pointwise
/-- The last 512 columns the region reads are the projection's columns from 2048. -/
theorem v4_hi (c : Dev nD) (r : Fin 8192) (d : Fin 6656) (hd : 6144 ≤ d.val) :
    (V m c main_v4 : S8192x6656.Idx → EReal) (ix2 r d) = (args m c).proj (r.val / 4096) (r.val % 4096) (d.val - 4096) := by
  rw [args_proj _ _ _ _ _ (by omega) (by omega) (by omega)]
  unfold V
  after_reads_at
  rw [dif_neg (by omega), dif_neg (by omega)]
  after_reads_simp
  pointwise
  exact congrArg (fun x => (m ((c : Thread nD τ).loc main_arg0) : S2x4096x6752.Idx → EReal) (ix3 _ _ x)) (Fin.ext (by dsimp only; omega))
/-- The step-size columns. -/
theorem v11_lo (c : Dev nD) (r : Fin 8192) (d : Fin 384) (hd : d.val < 16) :
    (V m c main_v11 : S8192x384.Idx → EReal) (ix2 r d) = (args m c).proj (r.val / 4096) (r.val % 4096) (2560 + d.val) := by
  rw [args_proj _ _ _ _ _ (by omega) (by omega) (by omega)]
  unfold V
  after_reads_at
  rw [dif_pos (show d.val < 128 by omega)]
  after_reads_at
  rw [dif_pos hd]

/-- The taps of the scanned columns, as prepared on the host. -/
theorem v12 (c : Dev nD) (k : Fin 4) (d : Fin 1024) : (V m c main_v12 : S4x1024.Idx → EReal) (ix2 k d) = (args m c).w k.val d.val := by
  rw [args_w _ _ _ _ k.isLt (by omega)]
  unfold V
  after_reads_at
/-- The taps of the columns that enter and read the state. -/
theorem v13 (c : Dev nD) (k : Fin 4) (d : Fin 512) : (V m c main_v13 : S4x512.Idx → EReal) (ix2 k d) = (args m c).w k.val (1024 + d.val) := by
  rw [args_w _ _ _ _ k.isLt (by omega)]
  unfold V
  after_reads_at
/-- The bias of the scanned columns. -/
theorem v15 (c : Dev nD) (d : Fin 1024) : (V m c main_v15 : S1x1024.Idx → EReal) (ix2 0 d) = (args m c).b d.val := by
  rw [args_b _ _ _ (by omega)]
  unfold V
  after_reads_at
/-- The bias of the columns that enter and read the state. -/
theorem v17 (c : Dev nD) (d : Fin 512) : (V m c main_v17 : S1x512.Idx → EReal) (ix2 0 d) = (args m c).b (1024 + d.val) := by
  rw [args_b _ _ _ (by omega)]
  unfold V
  after_reads_at
/-- The step sizes' bias, padded. -/
theorem v35 (c : Dev nD) (d : Fin 128) (hd : d.val < 16) : (V m c main_v35 : S1x128.Idx → EReal) (ix2 0 d) = (args m c).dtb d.val := by
  rw [args_dtb _ _ _ (by omega)]
  unfold V
  after_reads_at
  rw [dif_pos hd]
/-- The decay rates' logarithms, padded. -/
theorem v37 (c : Dev nD) (d : Fin 128) (hd : d.val < 16) : (V m c main_v37 : S1x128.Idx → EReal) (ix2 0 d) = (args m c).al d.val := by
  rw [args_al _ _ _ (by omega)]
  unfold V
  after_reads_at
  rw [dif_pos hd]
/-- The skip weights, repeated over each head. -/
theorem v40 (c : Dev nD) (d : Fin 1024) : (V m c main_v40 : S1x1024.Idx → EReal) (ix2 0 d) = (args m c).ds (d.val / 64) := by
  rw [args_ds _ _ _ (by omega)]
  unfold V
  after_reads_at
/-- The normalisation's weights. -/
theorem v41 (c : Dev nD) (d : Fin 1024) : (V m c main_v41 : S1x1024.Idx → EReal) (ix2 0 d) = (args m c).nw d.val := by
  rw [args_nw _ _ _ (by omega)]
  unfold V
  after_reads_at
/-- The table that spreads a head over its 64 columns. -/
theorem v23 (c : Dev nD) (k : Fin 128) (d : Fin 1024) :
    (V m c main_v23 : S128x1024.Idx → EReal) (ix2 k d) = if k.val = d.val / 64 then (1 : EReal) else 0 := by
  unfold V
  after_reads_at
  rw [show (64#32 : BitVec 32) = BitVec.ofNat 32 64 from rfl, Routing.divsi_word _ (by omega) (by omega) (by omega)]
  word_omega
/-- The table that spreads a head over 128 columns. -/
theorem v29 (c : Dev nD) (k : Fin 128) (d : Fin 2048) :
    (V m c main_v29 : S128x2048.Idx → EReal) (ix2 k d) = if k.val = d.val / 128 then (1 : EReal) else 0 := by
  unfold V
  after_reads_at
  rw [show (128#32 : BitVec 32) = BitVec.ofNat 32 128 from rfl, Routing.divsi_word _ (by omega) (by omega) (by omega)]
  word_omega
/-- The lower triangular table of ones. -/
theorem v33 (c : Dev nD) (k : Fin 128) (d : Fin 128) :
    (V m c main_v33 : S128x128.Idx → EReal) (ix2 k d) = if d.val ≤ k.val then (1 : EReal) else 0 := by
  unfold V
  after_reads_at
  word_omega

/-- The block of gating columns at a point. -/
theorem w0 (c : Dev nD) (t : Fin cfg0.N) (l : Fin 128) (d : Fin 1024) : X0_0 m c t (ix2 l d) = (args m c).proj (t.val / 32) (128 * (t.val % 32) + l.val) d.val := by
  have hN := lt_of_lt_of_eq t.isLt N_0
  have := v4_lo m c ⟨128 * t.val + l.val, by omega⟩ ⟨d.val, by omega⟩ (by dsimp only; omega)
  rw [show (128 * t.val + l.val) / 4096 = t.val / 32 by omega, show (128 * t.val + l.val) % 4096 = 128 * (t.val % 32) + l.val by omega] at this
  rw [← this]
  unfold X0_0 Pipeline.Window.fill
  rw [dif_pos (moved0_0 t _)]
  blk_ext [iblk, idx t]
/-- The block of value columns at a point. -/
theorem w1 (c : Dev nD) (t : Fin cfg0.N) (l : Fin 128) (d : Fin 1024) : X0_1 m c t (ix2 l d) = (args m c).proj (t.val / 32) (128 * (t.val % 32) + l.val) (1024 + d.val) := by
  have hN := lt_of_lt_of_eq t.isLt N_0
  have := v4_lo m c ⟨128 * t.val + l.val, by omega⟩ ⟨1024 + d.val, by omega⟩ (by dsimp only; omega)
  rw [show (128 * t.val + l.val) / 4096 = t.val / 32 by omega, show (128 * t.val + l.val) % 4096 = 128 * (t.val % 32) + l.val by omega] at this
  rw [← this]
  unfold X0_1 Pipeline.Window.fill
  rw [dif_pos (moved0_1 t _)]
  blk_ext [iblk, idx t]
/-- The block of key and query columns at a point. -/
theorem w2 (c : Dev nD) (t : Fin cfg0.N) (l : Fin 128) (d : Fin 512) : iblk m c 2 t (ix2 l d) = (args m c).proj (t.val / 32) (128 * (t.val % 32) + l.val) (2048 + d.val) := by
  have hN := lt_of_lt_of_eq t.isLt N_0
  have := v4_hi m c ⟨128 * t.val + l.val, by omega⟩ ⟨6144 + d.val, by omega⟩ (by dsimp only; omega)
  rw [show (128 * t.val + l.val) / 4096 = t.val / 32 by omega, show (128 * t.val + l.val) % 4096 = 128 * (t.val % 32) + l.val by omega, show 6144 + d.val - 4096 = 2048 + d.val by omega] at this
  rw [← this]
  blk_ext [iblk, idx t]
/-- The block of step-size columns at a point. -/
theorem w3 (c : Dev nD) (t : Fin cfg0.N) (l : Fin 128) (d : Fin 128) (hd : d.val < 16) : iblk m c 3 t (ix2 l d) = (args m c).proj (t.val / 32) (128 * (t.val % 32) + l.val) (2560 + d.val) := by
  have hN := lt_of_lt_of_eq t.isLt N_0
  have := v11_lo m c ⟨128 * t.val + l.val, by omega⟩ ⟨d.val, by omega⟩ hd
  rw [show (128 * t.val + l.val) / 4096 = t.val / 32 by omega, show (128 * t.val + l.val) % 4096 = 128 * (t.val % 32) + l.val by omega] at this
  rw [← this]
  blk_ext [iblk, idx t]
/-- The values' taps. -/
theorem w4 (c : Dev nD) (t : Fin cfg0.N) (k : Fin 4) (d : Fin 1024) : (iblk m c 4 t (ix2 k d) : EReal) = (args m c).w k.val d.val := by
  rw [← v12 m c k d]
  blk_ext [iblk, idx t]
/-- The keys' and queries' taps. -/
theorem w6 (c : Dev nD) (t : Fin cfg0.N) (k : Fin 4) (d : Fin 512) : (iblk m c 6 t (ix2 k d) : EReal) = (args m c).w k.val (1024 + d.val) := by
  rw [← v13 m c k d]
  blk_ext [iblk, idx t]
/-- The values' convolution bias. -/
theorem w5 (c : Dev nD) (t : Fin cfg0.N) (d : Fin 1024) : (iblk m c 5 t (ix2 0 d) : EReal) = (args m c).b d.val := by
  rw [← v15 m c d]
  blk_ext [iblk, idx t]
/-- The keys' and queries' convolution bias. -/
theorem w7 (c : Dev nD) (t : Fin cfg0.N) (d : Fin 512) : (iblk m c 7 t (ix2 0 d) : EReal) = (args m c).b (1024 + d.val) := by
  rw [← v17 m c d]
  blk_ext [iblk, idx t]
/-- The step sizes' bias. -/
theorem w8 (c : Dev nD) (t : Fin cfg0.N) (d : Fin 128) (hd : d.val < 16) : (iblk m c 8 t (ix2 0 d) : EReal) = (args m c).dtb d.val := by
  rw [← v35 m c d hd]
  blk_ext [iblk, idx t]
/-- The logarithms of the decay rates. -/
theorem w9 (c : Dev nD) (t : Fin cfg0.N) (d : Fin 128) (hd : d.val < 16) : (iblk m c 9 t (ix2 0 d) : EReal) = (args m c).al d.val := by
  rw [← v37 m c d hd]
  blk_ext [iblk, idx t]
/-- The skip weights, one per column. -/
theorem w10 (c : Dev nD) (t : Fin cfg0.N) (d : Fin 1024) : (iblk m c 10 t (ix2 0 d) : EReal) = (args m c).ds (d.val / 64) := by
  rw [← v40 m c d]
  blk_ext [iblk, idx t]
/-- The normalisation weights. -/
theorem w11 (c : Dev nD) (t : Fin cfg0.N) (d : Fin 1024) : (iblk m c 11 t (ix2 0 d) : EReal) = (args m c).nw d.val := by
  rw [← v41 m c d]
  blk_ext [iblk, idx t]
/-- The head of each value column. -/
theorem w12 (c : Dev nD) (t : Fin cfg0.N) (k : Fin 128) (d : Fin 1024) : (iblk m c 12 t (ix2 k d) : EReal) = if k.val = d.val / 64 then (1 : EReal) else 0 := by
  rw [← v23 m c k d]
  blk_ext [iblk, idx t]
/-- The head of each row of 128. -/
theorem w13 (c : Dev nD) (t : Fin cfg0.N) (k : Fin 128) (d : Fin 2048) : (iblk m c 13 t (ix2 k d) : EReal) = if k.val = d.val / 128 then (1 : EReal) else 0 := by
  rw [← v29 m c k d]
  blk_ext [iblk, idx t]
/-- The lower triangle. -/
theorem w14 (c : Dev nD) (t : Fin cfg0.N) (k : Fin 128) (d : Fin 128) : (iblk m c 14 t (ix2 k d) : EReal) = if d.val ≤ k.val then (1 : EReal) else 0 := by
  rw [← v33 m c k d]
  blk_ext [iblk, idx t]
end Cert.KernelIdeal.Value
end
-- ==== Proof.Block.lean ====
module
public import proofs.«01_k».proof.Proof.Gen.KernelIdeal.Skeleton
public import proofs.«01_k».proof.Proof.Ssd
public import Idealize.ShloMosaic.Lib.Pointwise
@[expose] public section
set_option maxRecDepth 16384
noncomputable section
/-! What one grid point of the kernel computes, read one element at a time. -/
namespace Cert.KernelIdeal.Block
open Cert.KernelIdeal Cert.KernelIdeal.Gen Idealize.ShloMosaic Cert.Ssd

/-! ## The stages of the body -/

section Stages
variable {F : FTy → Type} [FloatOps F]

/-- The activated convolution of the inputs' 1024 columns. -/
def aX (cb w0 w1 w2 w3 : Vec F S1x1024 .f32) (p0 p1 p2 p3 : Vec F S128x1024 .f32) : FVec F S128x1024 .f32 :=
  k0_pay9 (k0_pay6 cb w0 p0 w1 p1 w2 p2) (k0_pay7 w3) p3
/-- The activated convolution of the keys' and queries' 512 columns. -/
def aB (cb w0 w1 w2 w3 : Vec F S1x512 .f32) (p0 p1 p2 p3 : Vec F S128x512 .f32) : FVec F S128x512 .f32 :=
  k0_pay13 (k0_pay11 cb w0 p0 w1 p1) w2 p2 w3 p3
/-- The step sizes. -/
def dtV (d : Vec F S128x128 .f32) (b : Vec F S1x128 .f32) : FVec F S128x128 .f32 := k0_pay18 (k0_pay15 d b) (k0_pay16 d b) k0_pay17
/-- The running sums of the logarithms of the decays. -/
def csV (d : Vec F S128x128 .f32) (b a : Vec F S1x128 .f32) (t : Vec F S128x128 .f32) : FVec F S128x128 .f32 :=
  k0_pay19 (k0_pay15 d b) (k0_pay16 d b) k0_pay17 a t
/-- The running sums spread over each head's 64 columns. -/
def csE (d : Vec F S128x128 .f32) (b a : Vec F S1x128 .f32) (t : Vec F S128x128 .f32) (e : Vec F S128x1024 .f32) : FVec F S128x1024 .f32 :=
  k0_pay20 (k0_pay15 d b) (k0_pay16 d b) k0_pay17 a t e
/-- The running sums spread over 128 columns for each head. -/
def csC (d : Vec F S128x128 .f32) (b a : Vec F S1x128 .f32) (t : Vec F S128x128 .f32) (e2 : Vec F S128x2048 .f32) : FVec F S128x2048 .f32 :=
  k0_pay21 (k0_pay15 d b) (k0_pay16 d b) k0_pay17 a t e2
/-- The running sums, one row for each head. -/
def csT (d : Vec F S128x128 .f32) (b a : Vec F S1x128 .f32) (t : Vec F S128x128 .f32) : FVec F S128x128 .f32 :=
  k0_pay22 (k0_pay15 d b) (k0_pay16 d b) k0_pay17 a t
/-- The chunk's last running sums, spread over each head's 64 columns. -/
def csL (d : Vec F S128x128 .f32) (b a : Vec F S1x128 .f32) (t : Vec F S128x128 .f32) (e : Vec F S128x1024 .f32) : FVec F S1x1024 .f32 :=
  k0_pay23 (k0_pay15 d b) (k0_pay16 d b) k0_pay17 a t e
/-- The inputs scaled by the step sizes. -/
def xV (AX : FVec F S128x1024 .f32) (d : Vec F S128x128 .f32) (b : Vec F S1x128 .f32) (e : Vec F S128x1024 .f32) : FVec F S128x1024 .f32 :=
  k0_pay24 AX (k0_pay15 d b) (k0_pay16 d b) k0_pay17 e
/-- The first 128 columns of the scaled inputs. -/
def x0V (AX : FVec F S128x1024 .f32) (d : Vec F S128x128 .f32) (b : Vec F S1x128 .f32) (e : Vec F S128x1024 .f32) : FVec F S128x128 .f32 :=
  k0_pay28 AX (k0_pay15 d b) (k0_pay16 d b) k0_pay17 e
/-- The first head's decays from row to row. -/
def e0V (d : Vec F S128x128 .f32) (b a : Vec F S1x128 .f32) (t : Vec F S128x128 .f32) (e2 : Vec F S128x2048 .f32) : FVec F S128x128 .f32 :=
  k0_pay29 (k0_pay15 d b) (k0_pay16 d b) k0_pay17 a t e2
/-- The rows before the gate, from the running sums spread over columns and over rows. -/
def yV (AX : FVec F S128x1024 .f32) (AB : FVec F S128x512 .f32) (CSE : FVec F S128x1024 .f32) (C : FVec F S128x2048 .f32) (CT : FVec F S128x128 .f32)
    (XD : FVec F S128x1024 .f32) (X0 E0 : FVec F S128x128 .f32) (s0 s1 : Vec F S128x512 .f32) (dk : Vec F S1x1024 .f32) : FVec F S128x1024 .f32 :=
  k0_pay47 AX AB CSE k0_pay25 k0_pay26 (k0_pay30 C CT k0_pay25 k0_pay26 (k0_pay27 AB) X0 E0) (k0_pay31 C CT XD k0_pay25 k0_pay26 (k0_pay27 AB))
    (k0_pay35 k0_pay26 (k0_pay32 XD) (k0_pay33 C CT XD k0_pay25 (k0_pay27 AB)) (k0_pay34 C CT k0_pay25 (k0_pay27 AB)))
    (k0_pay36 C CT XD k0_pay25 k0_pay26 (k0_pay27 AB)) (k0_pay37 AB) (k0_pay38 AB C CT XD k0_pay25 k0_pay26)
    (k0_pay41 C CT k0_pay25 k0_pay26 (k0_pay37 AB) (k0_pay39 XD) (k0_pay40 C CT)) (k0_pay42 C CT XD k0_pay25 k0_pay26 (k0_pay37 AB)) (k0_pay43 XD)
    (k0_pay44 C CT XD k0_pay25 (k0_pay37 AB)) (k0_pay45 C CT) (Scalar.ofBits .f32 0xFF800000#32) s0 s1 dk
end Stages

/-! ## Words that compare row and column numbers -/

/-- A choice on the comparison of a lane number with 64. -/
theorem sel_slt {α : Type} (j : Fin 128) (x y : α) :
    Scalar.select (IntOp.cmpi CmpIPredicate.slt (BitVec.ofNat 32 j.val) 64#32) x y = if j.val < 64 then x else y := by
  have h : IntOp.cmpi CmpIPredicate.slt (BitVec.ofNat 32 j.val) 64#32 = if j.val < 64 then 1#1 else 0#1 := by
    revert j; decide +kernel
  rw [h]; split <;> rfl

/-- A choice on the comparison of two row numbers. -/
theorem sel_sge {α : Type} (l k : Fin 128) (x y : α) :
    Scalar.select (IntOp.cmpi CmpIPredicate.sge (BitVec.ofNat 32 l.val) (BitVec.ofNat 32 k.val)) x y = if k.val ≤ l.val then x else y := by
  have h : IntOp.cmpi CmpIPredicate.sge (BitVec.ofNat 32 l.val) (BitVec.ofNat 32 k.val) = if k.val ≤ l.val then 1#1 else 0#1 := by
    revert l k; decide +kernel
  rw [h]; split <;> rfl

/-! ## The pieces of the diagonal part -/

/-- Two heads of a column pair, chosen by the column's half. -/
theorem pair_val (U S X : ℕ → ℕ → EReal) (p : ℕ) (l j : Fin 128) :
    (if j.val < 64 then ∑ s : Fin 128, cbm U (p / 4) l.val s.val * dec S (2 * p) l.val s.val * X s.val (128 * p + j.val)
      else ∑ s : Fin 128, cbm U (p / 4) l.val s.val * dec S (2 * p + 1) l.val s.val * X s.val (128 * p + j.val)) = yd U S X l.val (128 * p + j.val) := by
  have h1 : (128 * p + j.val) / 512 = p / 4 := by omega
  unfold yd
  rw [h1]
  split
  · rw [show (128 * p + j.val) / 64 = 2 * p by omega]
  · rw [show (128 * p + j.val) / 64 = 2 * p + 1 by omega]

section Pieces
variable (U S X : ℕ → ℕ → EReal) (AX XD : FVec Ideal S128x1024 .f32) (AB : FVec Ideal S128x512 .f32)
  (C : FVec Ideal S128x2048 .f32) (CT X0 E0 : FVec Ideal S128x128 .f32)
  (hB : ∀ (l : Fin 128) (ch : Fin 512), AB (ix2 l ch) = U l.val (1024 + ch.val))
  (hX : ∀ (l : Fin 128) (d : Fin 1024), XD (ix2 l d) = X l.val d.val)
  (hT : ∀ (h l : Fin 128), h.val < 16 → CT (ix2 h l) = S l.val h.val)
  (hC : ∀ (l : Fin 128) (d : Fin 2048), C (ix2 l d) = S l.val (d.val / 128))
include hB hX hT hC

omit hX hT hC in
/-- A query row against a key row, as the body reads it. -/
theorem cb_val (g : ℕ) (l s : Fin 128) (q k : Fin 128 → Fin 512) (hq : ∀ n, (q n).val = 256 + 128 * g + n.val) (hk : ∀ n, (k n).val = 128 * g + n.val) :
    ∑ n, AB (ix2 l (q n)) * AB (ix2 s (k n)) = cbm U g l.val s.val := by
  refine Finset.sum_congr rfl fun n _ => ?_
  rw [hB, hB, hq, hk, show 1024 + (256 + 128 * g + n.val) = 1280 + 128 * g + n.val by omega, show 1024 + (128 * g + n.val) = 1024 + 128 * g + n.val by omega]

omit hB hX in
/-- The decay from row to row of a head, as the body reads it. -/
theorem dec_val (h : ℕ) (l s : Fin 128) (c : Fin 2048) (r : Fin 128) (hc : c.val / 128 = h) (hr : r.val = h) (hh : h < 16) :
    Ideal.exp (Scalar.select (IntOp.cmpi CmpIPredicate.sge (BitVec.ofNat 32 l.val) (BitVec.ofNat 32 s.val))
        (C (ix2 l c) - CT (ix2 r s)) (Ideal.ofBits FTy.f32 0xFF800000#32)) = dec S h l.val s.val := by
  rw [sel_sge, hC, hT r s (by omega), hc, hr, ninf_bits, dec]

/-- One term of a head's sum over the chunk's rows, as the body reads it. -/
theorem term_val (g h d : ℕ) (l s : Fin 128) (q k : Fin 128 → Fin 512) (c : Fin 2048) (r : Fin 128) (e : Fin 1024)
    (hq : ∀ n, (q n).val = 256 + 128 * g + n.val) (hk : ∀ n, (k n).val = 128 * g + n.val) (hc : c.val / 128 = h) (hr : r.val = h) (hh : h < 16) (he : e.val = d) :
    (∑ n, AB (ix2 l (q n)) * AB (ix2 s (k n))) *
        Ideal.exp (Scalar.select (IntOp.cmpi CmpIPredicate.sge (BitVec.ofNat 32 l.val) (BitVec.ofNat 32 s.val))
          (C (ix2 l c) - CT (ix2 r s)) (Ideal.ofBits FTy.f32 0xFF800000#32)) *
      XD (ix2 s e) = cbm U g l.val s.val * dec S h l.val s.val * X s.val d := by
  rw [cb_val U AB hB g l s q k hq hk, dec_val S C CT hT hC h l s c r hc hr hh, hX, he]

/-- The diagonal part at the columns of pair 0 of heads. -/
theorem piece0 (h0 : ∀ l j : Fin 128, X0 (ix2 l j) = X l.val j.val) (h1 : ∀ l s : Fin 128, E0 (ix2 l s) = dec S 0 l.val s.val) (l j : Fin 128) :
    k0_pay30 C CT k0_pay25 k0_pay26 (k0_pay27 AB) X0 E0 (ix2 l j) = yd U S X l.val (128 * 0 + j.val) := by
  refine Eq.trans ?_ (pair_val U S X 0 l j)
  pointwise [k0_pay30, k0_pay27, k0_pay25, k0_pay26]
  rw [sel_slt]
  refine if_congr Iff.rfl (Finset.sum_congr rfl fun s _ => ?_) (Finset.sum_congr rfl fun s _ => ?_)
  · refine congrArg₂ (· * ·) (congrArg₂ (· * ·) (cb_val U AB hB 0 l s _ _ ?_ ?_) (h1 l s)) ((h0 s j).trans (congrArg (X s.val) (by omega)))
    all_goals intro n; simp
  · refine congrArg₂ (· * ·) (congrArg₂ (· * ·) (cb_val U AB hB 0 l s _ _ ?_ ?_) (dec_val S C CT hT hC 1 l s _ _ ?_ ?_ ?_)) ((h0 s j).trans (congrArg (X s.val) (by omega)))
    all_goals (try intro n) <;> simp <;> omega

/-- The diagonal part at the columns of pair 1 of heads. -/
theorem piece1 (l j : Fin 128) : k0_pay31 C CT XD k0_pay25 k0_pay26 (k0_pay27 AB) (ix2 l j) = yd U S X l.val (128 * 1 + j.val) := by
  refine Eq.trans ?_ (pair_val U S X 1 l j)
  pointwise [k0_pay31, k0_pay27, k0_pay25, k0_pay26]
  rw [sel_slt]
  refine if_congr Iff.rfl (Finset.sum_congr rfl fun s _ => ?_) (Finset.sum_congr rfl fun s _ => ?_)
  all_goals
    apply term_val U S X XD AB C CT hB hX hT hC <;> (try intro n) <;> simp <;> omega

/-- The diagonal part at the columns of pair 2 of heads. -/
theorem piece2 (l j : Fin 128) : k0_pay35 k0_pay26 (k0_pay32 XD) (k0_pay33 C CT XD k0_pay25 (k0_pay27 AB)) (k0_pay34 C CT k0_pay25 (k0_pay27 AB)) (ix2 l j) = yd U S X l.val (128 * 2 + j.val) := by
  refine Eq.trans ?_ (pair_val U S X 2 l j)
  pointwise [k0_pay35, k0_pay32, k0_pay33, k0_pay34, k0_pay27, k0_pay25, k0_pay26]
  rw [sel_slt]
  refine if_congr Iff.rfl (Finset.sum_congr rfl fun s _ => ?_) (Finset.sum_congr rfl fun s _ => ?_)
  all_goals
    apply term_val U S X XD AB C CT hB hX hT hC <;> (try intro n) <;> simp <;> omega

/-- The diagonal part at the columns of pair 3 of heads. -/
theorem piece3 (l j : Fin 128) : k0_pay36 C CT XD k0_pay25 k0_pay26 (k0_pay27 AB) (ix2 l j) = yd U S X l.val (128 * 3 + j.val) := by
  refine Eq.trans ?_ (pair_val U S X 3 l j)
  pointwise [k0_pay36, k0_pay27, k0_pay25, k0_pay26]
  rw [sel_slt]
  refine if_congr Iff.rfl (Finset.sum_congr rfl fun s _ => ?_) (Finset.sum_congr rfl fun s _ => ?_)
  all_goals
    apply term_val U S X XD AB C CT hB hX hT hC <;> (try intro n) <;> simp <;> omega

/-- The diagonal part at the columns of pair 4 of heads. -/
theorem piece4 (l j : Fin 128) : k0_pay38 AB C CT XD k0_pay25 k0_pay26 (ix2 l j) = yd U S X l.val (128 * 4 + j.val) := by
  refine Eq.trans ?_ (pair_val U S X 4 l j)
  pointwise [k0_pay38, k0_pay37, k0_pay25, k0_pay26]
  rw [sel_slt]
  refine if_congr Iff.rfl (Finset.sum_congr rfl fun s _ => ?_) (Finset.sum_congr rfl fun s _ => ?_)
  all_goals
    apply term_val U S X XD AB C CT hB hX hT hC <;> (try intro n) <;> simp <;> omega

/-- The diagonal part at the columns of pair 5 of heads. -/
theorem piece5 (l j : Fin 128) : k0_pay41 C CT k0_pay25 k0_pay26 (k0_pay37 AB) (k0_pay39 XD) (k0_pay40 C CT) (ix2 l j) = yd U S X l.val (128 * 5 + j.val) := by
  refine Eq.trans ?_ (pair_val U S X 5 l j)
  pointwise [k0_pay41, k0_pay39, k0_pay40, k0_pay37, k0_pay25, k0_pay26]
  rw [sel_slt]
  refine if_congr Iff.rfl (Finset.sum_congr rfl fun s _ => ?_) (Finset.sum_congr rfl fun s _ => ?_)
  all_goals
    apply term_val U S X XD AB C CT hB hX hT hC <;> (try intro n) <;> simp <;> omega

/-- The diagonal part at the columns of pair 6 of heads. -/
theorem piece6 (l j : Fin 128) : k0_pay42 C CT XD k0_pay25 k0_pay26 (k0_pay37 AB) (ix2 l j) = yd U S X l.val (128 * 6 + j.val) := by
  refine Eq.trans ?_ (pair_val U S X 6 l j)
  pointwise [k0_pay42, k0_pay37, k0_pay25, k0_pay26]
  rw [sel_slt]
  refine if_congr Iff.rfl (Finset.sum_congr rfl fun s _ => ?_) (Finset.sum_congr rfl fun s _ => ?_)
  all_goals
    apply term_val U S X XD AB C CT hB hX hT hC <;> (try intro n) <;> simp <;> omega

set_option maxHeartbeats 1000000 in
/-- The rows before the gate: the chunk's own part, the entering state's part and the skip connection. -/
theorem yV_val (CSE : FVec Ideal S128x1024 .f32) (s0 s1 : Vec Ideal S128x512 .f32) (dk : Vec Ideal S1x1024 .f32) (H : ℕ → ℕ → EReal) (ds : ℕ → EReal)
    (p0 : ∀ l j : Fin 128, X0 (ix2 l j) = X l.val j.val) (p1 : ∀ l s : Fin 128, E0 (ix2 l s) = dec S 0 l.val s.val)
    (hA : ∀ (l : Fin 128) (d : Fin 1024), AX (ix2 l d) = U l.val d.val) (hk : ∀ d : Fin 1024, dk (ix2 0 d) = ds (d.val / 64))
    (hE : ∀ (l : Fin 128) (d : Fin 1024), CSE (ix2 l d) = S l.val (d.val / 64))
    (h0 : ∀ (n : Fin 128) (d : Fin 512), s0 (ix2 n d) = H n.val d.val) (h1 : ∀ (n : Fin 128) (d : Fin 512), s1 (ix2 n d) = H n.val (512 + d.val))
    (l : Fin 128) (d : Fin 1024) :
    yV AX AB CSE C CT XD X0 E0 s0 s1 dk (ix2 l d) = yd U S X l.val d.val + yo U S H l.val d.val + ds (d.val / 64) * U l.val d.val := by
  have a0 := piece0 U S X XD AB C CT X0 E0 hB hX hT hC p0 p1 l
  have a1 := piece1 U S X XD AB C CT hB hX hT hC l
  have a2 := piece2 U S X XD AB C CT hB hX hT hC l
  have a3 := piece3 U S X XD AB C CT hB hX hT hC l
  have a4 := piece4 U S X XD AB C CT hB hX hT hC l
  have a5 := piece5 U S X XD AB C CT hB hX hT hC l
  have a6 := piece6 U S X XD AB C CT hB hX hT hC l
  have ht := term_val U S X XD AB C CT hB hX hT hC
  have hp := fun j => pair_val U S X 7 l j
  unfold yV
  generalize k0_pay30 (F := Ideal) _ _ _ _ _ _ _ = P0 at a0 ⊢
  generalize k0_pay31 (F := Ideal) _ _ _ _ _ _ = P1 at a1 ⊢
  generalize k0_pay35 (F := Ideal) _ _ _ _ = P2 at a2 ⊢
  generalize k0_pay36 (F := Ideal) _ _ _ _ _ _ = P3 at a3 ⊢
  generalize k0_pay38 (F := Ideal) _ _ _ _ _ _ = P4 at a4 ⊢
  generalize k0_pay41 (F := Ideal) _ _ _ _ _ _ _ = P5 at a5 ⊢
  generalize k0_pay42 (F := Ideal) _ _ _ _ _ _ = P6 at a6 ⊢
  pointwise [k0_pay47, k0_pay43, k0_pay44, k0_pay45, k0_pay37, k0_pay25, k0_pay26]
  rw [hk, hA]
  refine congrArg (· + _) ?_
  refine congrArg₂ (· + ·) ?_ ?_
  · iterate 7
      split
      · first
          | exact (a0 _).trans (congrArg (yd U S X l.val) (by simp))
          | exact (a1 _).trans (congrArg (yd U S X l.val) (by simp; omega))
          | exact (a2 _).trans (congrArg (yd U S X l.val) (by simp; omega))
          | exact (a3 _).trans (congrArg (yd U S X l.val) (by simp; omega))
          | exact (a4 _).trans (congrArg (yd U S X l.val) (by simp; omega))
          | exact (a5 _).trans (congrArg (yd U S X l.val) (by simp; omega))
          | exact (a6 _).trans (congrArg (yd U S X l.val) (by simp; omega))
    have hd := d.isLt
    have hj : d.val - 128 - 128 - 128 - 128 - 128 - 128 - 128 < 128 := by omega
    refine (sel_slt ⟨d.val - 128 - 128 - 128 - 128 - 128 - 128 - 128, hj⟩ _ _).trans (Eq.trans ?_ ((hp ⟨d.val - 128 - 128 - 128 - 128 - 128 - 128 - 128, hj⟩).trans (congrArg (yd U S X l.val) (by simp; omega))))
    refine if_congr Iff.rfl (Finset.sum_congr rfl fun s _ => ?_) (Finset.sum_congr rfl fun s _ => ?_)
    all_goals
      apply ht <;> (try intro n) <;> simp <;> omega
  · have hd := d.isLt
    rw [yo, hE]
    refine congrArg (· * _) ?_
    split
    · refine Finset.sum_congr rfl fun n _ => ?_
      rw [hB, h0, show d.val / 512 = 0 by omega]
      exact congrArg (fun k => U l.val k * H n.val d.val) (by simp; omega)
    · refine Finset.sum_congr rfl fun n _ => ?_
      rw [hB, h1, show d.val / 512 = 1 by omega]
      exact congrArg₂ (fun k k' => U l.val k * H n.val k') (by simp; omega) (by simp; omega)

omit hX hT hC in
/-- The state that leaves the chunk. -/
theorem stV_val (CSE : FVec Ideal S128x1024 .f32) (CL : FVec Ideal S1x1024 .f32) (st : Vec Ideal S128x1024 .f32) (H : ℕ → ℕ → EReal)
    (hX : ∀ (l : Fin 128) (d : Fin 1024), XD (ix2 l d) = X l.val d.val)
    (hE : ∀ (l : Fin 128) (d : Fin 1024), CSE (ix2 l d) = S l.val (d.val / 64)) (hL : ∀ d : Fin 1024, CL (ix2 0 d) = S 127 (d.val / 64))
    (hH : ∀ (n : Fin 128) (d : Fin 1024), st (ix2 n d) = H n.val d.val)
    (n : Fin 128) (d : Fin 1024) : k0_pay46 AB CSE CL XD st (ix2 n d) = hn U S X H n.val d.val := by
  pointwise [k0_pay46]
  have hd := d.isLt
  rw [hn, hL, hH]
  refine congrArg₂ (· + ·) rfl ?_
  split
  · refine Finset.sum_congr rfl fun s _ => ?_
    rw [hB, hX, hE, show d.val / 512 = 0 by omega]
  · refine Finset.sum_congr rfl fun s _ => ?_
    rw [hB, hX, hE, show d.val / 512 = 1 by omega]
    have e : 512 + (d.val - 512) = d.val := by omega
    simp only [e, hL]
    rw [show 1024 + (128 + n.val) = 1024 + 128 * 1 + n.val by omega]
end Pieces

/-! ## The stages at an index -/

section Values
variable (A : Args) (b c : ℕ)

/-- The activated columns of the inputs. -/
theorem aX_val (cb w0 w1 w2 w3 : Vec Ideal S1x1024 .f32) (p0 p1 p2 p3 : Vec Ideal S128x1024 .f32)
    (hc : ∀ d : Fin 1024, cb (ix2 0 d) = A.b d.val)
    (g0 : ∀ d : Fin 1024, w0 (ix2 0 d) = A.w 0 d.val) (g1 : ∀ d : Fin 1024, w1 (ix2 0 d) = A.w 1 d.val)
    (g2 : ∀ d : Fin 1024, w2 (ix2 0 d) = A.w 2 d.val) (g3 : ∀ d : Fin 1024, w3 (ix2 0 d) = A.w 3 d.val)
    (h0 : ∀ (l : Fin 128) (d : Fin 1024), p0 (ix2 l d) = tap A b 0 (128 * c + l.val) d.val)
    (h1 : ∀ (l : Fin 128) (d : Fin 1024), p1 (ix2 l d) = tap A b 1 (128 * c + l.val) d.val)
    (h2 : ∀ (l : Fin 128) (d : Fin 1024), p2 (ix2 l d) = tap A b 2 (128 * c + l.val) d.val)
    (h3 : ∀ (l : Fin 128) (d : Fin 1024), p3 (ix2 l d) = tap A b 3 (128 * c + l.val) d.val)
    (l : Fin 128) (d : Fin 1024) : aX cb w0 w1 w2 w3 p0 p1 p2 p3 (ix2 l d) = U A b c l.val d.val := by
  unfold aX
  pointwise [k0_pay9, k0_pay6, k0_pay7]
  rw [zero_sub, hc, g0, g1, g2, g3, h0, h1, h2, h3, U, act]
  exact congrArg silu (by ac_rfl)

/-- The activated columns of the keys and queries. -/
theorem aB_val (cb w0 w1 w2 w3 : Vec Ideal S1x512 .f32) (p0 p1 p2 p3 : Vec Ideal S128x512 .f32)
    (hc : ∀ d : Fin 512, cb (ix2 0 d) = A.b (1024 + d.val))
    (g0 : ∀ d : Fin 512, w0 (ix2 0 d) = A.w 0 (1024 + d.val)) (g1 : ∀ d : Fin 512, w1 (ix2 0 d) = A.w 1 (1024 + d.val))
    (g2 : ∀ d : Fin 512, w2 (ix2 0 d) = A.w 2 (1024 + d.val)) (g3 : ∀ d : Fin 512, w3 (ix2 0 d) = A.w 3 (1024 + d.val))
    (h0 : ∀ (l : Fin 128) (d : Fin 512), p0 (ix2 l d) = tap A b 0 (128 * c + l.val) (1024 + d.val))
    (h1 : ∀ (l : Fin 128) (d : Fin 512), p1 (ix2 l d) = tap A b 1 (128 * c + l.val) (1024 + d.val))
    (h2 : ∀ (l : Fin 128) (d : Fin 512), p2 (ix2 l d) = tap A b 2 (128 * c + l.val) (1024 + d.val))
    (h3 : ∀ (l : Fin 128) (d : Fin 512), p3 (ix2 l d) = tap A b 3 (128 * c + l.val) (1024 + d.val))
    (l : Fin 128) (d : Fin 512) : aB cb w0 w1 w2 w3 p0 p1 p2 p3 (ix2 l d) = U A b c l.val (1024 + d.val) := by
  unfold aB
  pointwise [k0_pay13, k0_pay11]
  rw [zero_sub, hc, g0, g1, g2, g3, h0, h1, h2, h3, U, act]
  exact congrArg silu (by ac_rfl)

section Steps
variable (dw : Vec Ideal S128x128 .f32) (db al : Vec Ideal S1x128 .f32) (t : Vec Ideal S128x128 .f32) (e : Vec Ideal S128x1024 .f32) (e2 : Vec Ideal S128x2048 .f32)
  (hd : ∀ l h : Fin 128, h.val < 16 → dw (ix2 l h) = A.proj b (128 * c + l.val) (2560 + h.val))
  (hb : ∀ h : Fin 128, h.val < 16 → db (ix2 0 h) = A.dtb h.val)
  (ha : ∀ h : Fin 128, h.val < 16 → al (ix2 0 h) = A.al h.val)
  (ht : ∀ l k : Fin 128, t (ix2 l k) = if k.val ≤ l.val then 1 else 0)
  (he : ∀ (k : Fin 128) (d : Fin 1024), e (ix2 k d) = if k.val = d.val / 64 then 1 else 0)
  (he2 : ∀ (k : Fin 128) (d : Fin 2048), e2 (ix2 k d) = if k.val = d.val / 128 then 1 else 0)
include hd hb

/-- The step size of a row and head. -/
theorem dtV_val (l h : Fin 128) (hh : h.val < 16) : dtV dw db (ix2 l h) = dt A b (128 * c + l.val) h.val := by
  unfold dtV
  pointwise [k0_pay14, k0_pay15, k0_pay16, k0_pay17, k0_pay18]
  rw [hd l h hh, hb h hh, dt, softplus, Ideal.log1p, zero_sub]
  rfl

/-- The scaled inputs. -/
theorem xV_val (AX : FVec Ideal S128x1024 .f32) (hx : ∀ (l : Fin 128) (d : Fin 1024), AX (ix2 l d) = U A b c l.val d.val)
    (he : ∀ (k : Fin 128) (d : Fin 1024), e (ix2 k d) = if k.val = d.val / 64 then 1 else 0) (l : Fin 128) (d : Fin 1024) :
    xV AX dw db e (ix2 l d) = X A b c l.val d.val := by
  have hlt := d.isLt
  unfold xV
  pointwise [k0_pay24]
  rw [hx, X]
  refine congrArg (_ * ·) ((pick (fun k => dtV dw db (ix2 l k)) _ ⟨d.val / 64, by omega⟩ fun k => ?_).trans ?_)
  · rw [he]; exact if_congr (by rw [Fin.ext_iff]) rfl rfl
  · exact dtV_val A b c dw db hd hb l _ (by simp; omega)

/-- Their first 128 columns. -/
theorem x0V_val (AX : FVec Ideal S128x1024 .f32) (hx : ∀ (l : Fin 128) (d : Fin 1024), AX (ix2 l d) = U A b c l.val d.val)
    (he : ∀ (k : Fin 128) (d : Fin 1024), e (ix2 k d) = if k.val = d.val / 64 then 1 else 0) (l j : Fin 128) :
    x0V AX dw db e (ix2 l j) = X A b c l.val j.val := by
  refine Eq.trans ?_ (xV_val A b c dw db e hd hb AX hx he l ⟨j.val, by omega⟩)
  unfold x0V xV
  pointwise [k0_pay28]

include ha ht
/-- The running sum of the logarithms of the decays. -/
theorem csV_val (l h : Fin 128) (hh : h.val < 16) : csV dw db al t (ix2 l h) = cs A b c l.val h.val := by
  unfold csV
  pointwise [k0_pay19]
  refine (sum_upto (fun k : Fin 128 => k0_pay18 (k0_pay15 dw db) (k0_pay16 dw db) k0_pay17 (ix2 k h) * (0 - Ideal.exp (al (ix2 0 h)))) _ l.val fun k => ht l k).trans ?_
  rw [cs]
  refine Finset.sum_congr rfl fun k _ => ?_
  have e1 : k0_pay18 (k0_pay15 dw db) (k0_pay16 dw db) k0_pay17 (ix2 k h) * (0 - Ideal.exp (al (ix2 0 h))) = la A b (128 * c + k.val) h.val := by
    rw [la, ← dtV_val A b c dw db hd hb k h hh, ha h hh, zero_sub]; rfl
  rw [e1]

/-- The running sums, one row for each head. -/
theorem csT_val (h l : Fin 128) (hh : h.val < 16) : csT dw db al t (ix2 h l) = cs A b c l.val h.val := by
  refine Eq.trans ?_ (csV_val A b c dw db al t hd hb ha ht l h hh)
  unfold csT csV
  pointwise [k0_pay22]

/-- The running sums spread over each head's 64 columns. -/
theorem csE_val (he : ∀ (k : Fin 128) (d : Fin 1024), e (ix2 k d) = if k.val = d.val / 64 then 1 else 0) (l : Fin 128) (d : Fin 1024) :
    csE dw db al t e (ix2 l d) = cs A b c l.val (d.val / 64) := by
  have hlt := d.isLt
  unfold csE
  pointwise [k0_pay20]
  refine (pick (fun k => csV dw db al t (ix2 l k)) _ ⟨d.val / 64, by omega⟩ fun k => ?_).trans ?_
  · rw [he]; exact if_congr (by rw [Fin.ext_iff]) rfl rfl
  · exact csV_val A b c dw db al t hd hb ha ht l _ (by simp; omega)

/-- The chunk's last running sums, spread over each head's 64 columns. -/
theorem csL_val (he : ∀ (k : Fin 128) (d : Fin 1024), e (ix2 k d) = if k.val = d.val / 64 then 1 else 0) (d : Fin 1024) :
    csL dw db al t e (ix2 0 d) = cs A b c 127 (d.val / 64) := by
  refine Eq.trans ?_ (csE_val A b c dw db al t e hd hb ha ht he 127 d)
  unfold csL csE
  pointwise [k0_pay23]

/-- The running sums spread over 128 columns for each head. -/
theorem csC_val (he2 : ∀ (k : Fin 128) (d : Fin 2048), e2 (ix2 k d) = if k.val = d.val / 128 then 1 else 0) (l : Fin 128) (d : Fin 2048) :
    csC dw db al t e2 (ix2 l d) = cs A b c l.val (d.val / 128) := by
  have hlt := d.isLt
  unfold csC
  pointwise [k0_pay21]
  refine (pick (fun k => csV dw db al t (ix2 l k)) _ ⟨d.val / 128, by omega⟩ fun k => ?_).trans ?_
  · rw [he2]; exact if_congr (by rw [Fin.ext_iff]) rfl rfl
  · exact csV_val A b c dw db al t hd hb ha ht l _ (by simp; omega)

/-- The first head's decays from row to row. -/
theorem e0V_val (he2 : ∀ (k : Fin 128) (d : Fin 2048), e2 (ix2 k d) = if k.val = d.val / 128 then 1 else 0) (l s : Fin 128) :
    e0V dw db al t e2 (ix2 l s) = dec (cs A b c) 0 l.val s.val := by
  have h1 := csC_val A b c dw db al t e2 hd hb ha ht he2 l ⟨s.val, by omega⟩
  have h2 := csT_val A b c dw db al t hd hb ha ht 0 s (by decide)
  unfold csC at h1
  unfold csT at h2
  unfold e0V
  pointwise [k0_pay29, k0_pay25]
  rw [sel_sge, h1, ninf_bits, dec, show s.val / 128 = 0 by omega]
  exact congrArg (fun v => Ideal.exp (if s.val ≤ l.val then _ - v else ⊥)) h2
end Steps

/-- The gated and normalised row, from the rows before the gate. -/
theorem out_val (Y : FVec Ideal S128x1024 .f32) (z : Vec Ideal S128x1024 .f32) (nw : Vec Ideal S1x1024 .f32)
    (hy : ∀ (l : Fin 128) (d : Fin 1024), Y (ix2 l d) = yd (U A b c) (cs A b c) (X A b c) l.val d.val + yo (U A b c) (cs A b c) (st A b c) l.val d.val + A.ds (d.val / 64) * U A b c l.val d.val)
    (hz : ∀ (l : Fin 128) (d : Fin 1024), z (ix2 l d) = A.proj b (128 * c + l.val) d.val)
    (hn : ∀ d : Fin 1024, nw (ix2 0 d) = A.nw d.val) (l : Fin 128) (d : Fin 1024) :
    k0_pay1 Y z nw (ix2 l d) = out A b c l.val d := by
  pointwise [k0_pay1]
  simp only [zero_sub, hy, hz, hn]
  rfl
end Values
end Cert.KernelIdeal.Block
end
-- ==== Proof.Rows.lean ====
module
public import Idealize.ShloMosaic.Lib.Pipeline.ValueKit
public import Idealize.ShloMosaic.Lib.Pipeline.ReadBack
public import Idealize.ShloMosaic.Lib.WritesUnit
public import Idealize.ShloMosaic.Lib.Pointwise
@[expose] public section
noncomputable section

namespace Cert.Ssd
open Idealize.ShloMosaic

variable {sig : RefSig} {κ : Kind} {sp : Space} {N : ℕ} (v : View sig κ sp (⟨2, ![136, N]⟩ : Shape) .f32) (f : v.ty.Contents (Elt Ideal))

/-- A row loaded from a matrix. -/
theorem ld_row {K : ℕ} (Y : (⟨2, ![K, N]⟩ : Shape).Idx → EReal) (k : ℕ) (hk : k < K)
    (inb : ∀ a : Fin 2, (![k, 0] : Fin 2 → ℕ) a + (![1, N] : Fin 2 → ℕ) a ≤ (![K, N] : Fin 2 → ℕ) a) (d : Fin N) :
    View.ld (Val := Elt Ideal) (e' := .f32) Y (Rect.unit (s := ⟨2, ![K, N]⟩) ![k, 0] ![1, N] inb) (ix2 0 d) = Y (ix2 ⟨k, hk⟩ d) :=
  congrArg Y (funext fun a => Fin.ext (by
    revert a
    refine Fin.forall_fin_two.mpr ⟨?_, ?_⟩
    · show k + 1 * 0 = k; omega
    · show 0 + 1 * d.val = d.val; omega))

/-- Rows loaded from a matrix, from row `k` on and column `o` on. -/
theorem ld_block {K M R : ℕ} (Y : (⟨2, ![K, N]⟩ : Shape).Idx → EReal) (k o : ℕ) (hk : k + R ≤ K) (ho : o + M ≤ N)
    (inb : ∀ a : Fin 2, (![k, o] : Fin 2 → ℕ) a + (![R, M] : Fin 2 → ℕ) a ≤ (![K, N] : Fin 2 → ℕ) a) (l : Fin R) (d : Fin M) :
    View.ld (Val := Elt Ideal) (e' := .f32) Y (Rect.unit (s := ⟨2, ![K, N]⟩) ![k, o] ![R, M] inb) (ix2 l d)
      = Y (ix2 ⟨k + l.val, by omega⟩ ⟨o + d.val, by omega⟩) :=
  congrArg Y (funext fun a => Fin.ext (by
    revert a
    refine Fin.forall_fin_two.mpr ⟨?_, ?_⟩
    · show k + 1 * l.val = k + l.val; omega
    · show o + 1 * d.val = o + d.val; omega))

/-- A buffer of 136 rows whose last 128 are written: those rows are the new ones, the first 8 are the old ones. -/
theorem read_tail (w : (⟨2, ![128, N]⟩ : Shape).Idx → EReal)
    (inb : ∀ a : Fin 2, (![8, 0] : Fin 2 → ℕ) a + (![128, N] : Fin 2 → ℕ) a ≤ (![136, N] : Fin 2 → ℕ) a)
    (L : List (View.Piece (Elt Ideal) (⟨2, ![136, N]⟩ : Shape) .f32)) (r : Fin 136) (d : Fin N) :
    v.read (Elt Ideal) (v.writes (Elt Ideal) f ((⟨Rect.unit (s := ⟨2, ![136, N]⟩) ![8, 0] ![128, N] inb, w⟩ : View.Piece (Elt Ideal) (⟨2, ![136, N]⟩ : Shape) .f32) :: L)) (ix2 r d)
      = if h : 8 ≤ r.val then w (ix2 ⟨r.val - 8, by omega⟩ d) else v.read (Elt Ideal) (v.writes (Elt Ideal) f L) (ix2 r d) := by
  by_cases h : 8 ≤ r.val
  · rw [dif_pos h]
    exact View.read_writes_cons_rows_of_mem v f inb w L (ix2 r d) (ix2 ⟨r.val - 8, by omega⟩ d) rfl (by show r.val = 8 + (r.val - 8); omega) rfl
  · rw [dif_neg h]
    exact View.read_writes_cons_rows_of_not_mem v f (W := 128) inb w L (ix2 r d) rfl rfl (Or.inl (by show r.val < 8; omega))

/-- A buffer of 136 rows whose first 8 are written, read in those. -/
theorem read_head (w : (⟨2, ![8, N]⟩ : Shape).Idx → EReal)
    (inb : ∀ a : Fin 2, (![0, 0] : Fin 2 → ℕ) a + (![8, N] : Fin 2 → ℕ) a ≤ (![136, N] : Fin 2 → ℕ) a)
    (L : List (View.Piece (Elt Ideal) (⟨2, ![136, N]⟩ : Shape) .f32)) (r : Fin 136) (d : Fin N) (h : r.val < 8) :
    v.read (Elt Ideal) (v.writes (Elt Ideal) f ((⟨Rect.unit (s := ⟨2, ![136, N]⟩) ![0, 0] ![8, N] inb, w⟩ : View.Piece (Elt Ideal) (⟨2, ![136, N]⟩ : Shape) .f32) :: L)) (ix2 r d)
      = w (ix2 ⟨r.val, h⟩ d) :=
  View.read_writes_cons_rows_of_mem v f inb w L (ix2 r d) (ix2 ⟨r.val, h⟩ d) rfl (by show r.val = 0 + r.val; omega) rfl

/-- A load of 128 rows from row `k` after the last 128 rows were written: rows past the eighth are the new ones. -/
theorem ld_tail (w : (⟨2, ![128, N]⟩ : Shape).Idx → EReal) (k : ℕ) (hk : k ≤ 8)
    (inb : ∀ a : Fin 2, (![8, 0] : Fin 2 → ℕ) a + (![128, N] : Fin 2 → ℕ) a ≤ (![136, N] : Fin 2 → ℕ) a)
    (inb' : ∀ a : Fin 2, (![k, 0] : Fin 2 → ℕ) a + (![128, N] : Fin 2 → ℕ) a ≤ (![136, N] : Fin 2 → ℕ) a)
    (L : List (View.Piece (Elt Ideal) (⟨2, ![136, N]⟩ : Shape) .f32)) (l : Fin 128) (d : Fin N) :
    View.ld (Val := Elt Ideal) (e' := .f32) (v.read (Elt Ideal) (v.writes (Elt Ideal) f ((⟨Rect.unit (s := ⟨2, ![136, N]⟩) ![8, 0] ![128, N] inb, w⟩ : View.Piece (Elt Ideal) (⟨2, ![136, N]⟩ : Shape) .f32) :: L)))
        (Rect.unit (s := ⟨2, ![136, N]⟩) ![k, 0] ![128, N] inb') (ix2 l d)
      = if h : 8 ≤ k + l.val then w (ix2 ⟨k + l.val - 8, by omega⟩ d) else v.read (Elt Ideal) (v.writes (Elt Ideal) f L) (ix2 ⟨k + l.val, by omega⟩ d) := by
  rw [ld_block _ k 0 (by omega) (by omega)]
  refine Eq.trans ?_ (read_tail v f w inb L ⟨k + l.val, by omega⟩ d)
  refine congrArg _ ?_
  exact congrArg (ix2 _) (Fin.ext (Nat.zero_add _))

/-- The same load where the first 8 rows were written before. -/
theorem cov_tail (w : (⟨2, ![128, N]⟩ : Shape).Idx → EReal) (z : (⟨2, ![8, N]⟩ : Shape).Idx → EReal) (k : ℕ) (hk : k ≤ 8)
    (inb : ∀ a : Fin 2, (![8, 0] : Fin 2 → ℕ) a + (![128, N] : Fin 2 → ℕ) a ≤ (![136, N] : Fin 2 → ℕ) a)
    (inb0 : ∀ a : Fin 2, (![0, 0] : Fin 2 → ℕ) a + (![8, N] : Fin 2 → ℕ) a ≤ (![136, N] : Fin 2 → ℕ) a)
    (inb' : ∀ a : Fin 2, (![k, 0] : Fin 2 → ℕ) a + (![128, N] : Fin 2 → ℕ) a ≤ (![136, N] : Fin 2 → ℕ) a) (l : Fin 128) (d : Fin N) :
    v.readCov (Val := Elt Ideal) [⟨Rect.unit (s := ⟨2, ![136, N]⟩) ![8, 0] ![128, N] inb, w⟩, ⟨Rect.unit (s := ⟨2, ![136, N]⟩) ![0, 0] ![8, N] inb0, z⟩]
        (Rect.unit (s := ⟨2, ![136, N]⟩) ![k, 0] ![128, N] inb').toLoadRect (ix2 l d)
      = if h : 8 ≤ k + l.val then w (ix2 ⟨k + l.val - 8, by omega⟩ d) else z (ix2 ⟨k + l.val, by omega⟩ d) := by
  refine (ld_tail v v.junk w k hk inb inb' [⟨Rect.unit (s := ⟨2, ![136, N]⟩) ![0, 0] ![8, N] inb0, z⟩] l d).trans ?_
  by_cases h : 8 ≤ k + l.val
  · rw [dif_pos h, dif_pos h]
  · rw [dif_neg h, dif_neg h]
    exact read_head v v.junk z inb0 [] ⟨k + l.val, by omega⟩ d (by show k + l.val < 8; omega)

/-- What is left in the first 8 rows is what was written there last. -/
theorem canon_head (w : (⟨2, ![8, N]⟩ : Shape).Idx → EReal)
    (inb : ∀ a : Fin 2, (![0, 0] : Fin 2 → ℕ) a + (![8, N] : Fin 2 → ℕ) a ≤ (![136, N] : Fin 2 → ℕ) a)
    (L : List (View.Piece (Elt Ideal) (⟨2, ![136, N]⟩ : Shape) .f32)) (r : Fin 136) (d : Fin N) (h : r.val < 8) :
    View.canon ((⟨Rect.unit (s := ⟨2, ![136, N]⟩) ![0, 0] ![8, N] inb, w⟩ : View.Piece (Elt Ideal) (⟨2, ![136, N]⟩ : Shape) .f32) :: L) (ix2 r d)
      = w (ix2 ⟨r.val, h⟩ d) := by
  refine Eq.trans (congrArg _ ?_) (View.canon_cons_emb (Rect.unit (s := ⟨2, ![136, N]⟩) ![0, 0] ![8, N] inb) w L (ix2 ⟨r.val, h⟩ d))
  refine funext fun a => Fin.ext ?_
  revert a
  refine Fin.forall_fin_two.mpr ⟨?_, ?_⟩
  · show r.val = 0 + 1 * r.val; omega
  · show d.val = 0 + 1 * d.val; omega

end Cert.Ssd
end
-- ==== Proof.KState.lean ====
module
public import proofs.«01_k».proof.Proof.KHost
public import proofs.«01_k».proof.Proof.Block
public import proofs.«01_k».proof.Proof.Rows
@[expose] public section
set_option maxRecDepth 16384
set_option pp.proofs false
noncomputable section

namespace Cert.KernelIdeal.Value
open Cert.KernelIdeal Cert.KernelIdeal.Gen Idealize.ShloMosaic Idealize.ShloMosaic.TcCoe Idealize.SL.Sem
open Idealize.ShloMosaic.Pipeline (Dat)
open Cert.Ssd Block
variable (m : (ℓ : Loc nD τ sig) → Buf (Elt Ideal) ℓ)

/-- A row of the convolution's input, `3 - k` positions back: from this chunk, or from the 8 rows kept from the chunk before. -/
theorem tap_val (A : Args) (b c k l ch ch' : ℕ) (hk : k ≤ 3) (hch : ch' = 1024 + ch) (x : EReal)
    (h1 : 8 ≤ 5 + k + l → x = A.proj b (128 * c + (5 + k + l - 8)) ch')
    (h2 : 5 + k + l < 8 → x = if c = 0 then 0 else A.proj b (128 * (c - 1) + 120 + (5 + k + l)) ch') : x = tap A b k (128 * c + l) ch := by
  subst hch
  unfold tap
  by_cases h : 8 ≤ 5 + k + l
  · rw [if_neg (by omega), h1 h, show 128 * c + (5 + k + l - 8) = 128 * c + l + k - 3 by omega]
  · rw [h2 (by omega)]
    by_cases hc : c = 0
    · rw [if_pos hc, if_pos (by omega)]
    · rw [if_neg hc, if_neg (by omega), show 128 * (c - 1) + 120 + (5 + k + l) = 128 * c + l + k - 3 by omega]

/-- What the two carried row buffers and the carried state hold after a point: the chunk's last 8 rows, and the state that leaves the chunk. -/
def Inv (c : Dev nD) (t : ℕ) (o : (S128x1024.Idx → EReal) × (S136x1024.Idx → EReal) × (S136x512.Idx → EReal) × (S128x1024.Idx → EReal)) : Prop :=
  (∀ (r : Fin 136) (d : Fin 1024), r.val < 8 → o.2.1 (ix2 r d) = (args m c).proj (t / 32) (128 * (t % 32) + 120 + r.val) (1024 + d.val))
  ∧ (∀ (r : Fin 136) (d : Fin 512), r.val < 8 → o.2.2.1 (ix2 r d) = (args m c).proj (t / 32) (128 * (t % 32) + 120 + r.val) (2048 + d.val))
  ∧ (∀ (n : Fin 128) (d : Fin 1024), o.2.2.2 (ix2 n d) = st (args m c) (t / 32) (t % 32 + 1) n.val d.val)

section Point
variable (c : Dev nD) (t : Fin cfg0.N)

/-- The scanned columns of the block. -/
theorem pay5 (l : Fin 128) (d : Fin 1024) : k0_pay5 (F := Ideal) (X0_1 m c t) (ix2 l d) = (args m c).proj (t.val / 32) (128 * (t.val % 32) + l.val) (1024 + d.val) := by
  refine Eq.trans ?_ (w1 m c t l d)
  pointwise [k0_pay5]
/-- The state columns of the block. -/
theorem pay10 (l : Fin 128) (d : Fin 512) : k0_pay10 (F := Ideal) (iblk m c 2 t) (ix2 l d) = (args m c).proj (t.val / 32) (128 * (t.val % 32) + l.val) (2048 + d.val) := by
  refine Eq.trans ?_ (w2 m c t l d)
  pointwise [k0_pay10]
/-- The first padding rows start at zero. -/
theorem pay2 (r : Fin 8) (d : Fin 1024) : k0_pay2 (F := Ideal) (ix2 r d) = 0 := by
  pointwise [k0_pay2]
/-- The second padding rows start at zero. -/
theorem pay3 (r : Fin 8) (d : Fin 512) : k0_pay3 (F := Ideal) (ix2 r d) = 0 := by
  pointwise [k0_pay3]
/-- The state starts at zero. -/
theorem pay4 (r : Fin 128) (d : Fin 1024) : k0_pay4 (F := Ideal) (ix2 r d) = 0 := by
  pointwise [k0_pay4]
/-- A stored value is the value itself (first padding). -/
theorem pay8 (Y : Vec Ideal S8x1024 .f32) (r : Fin 8) (d : Fin 1024) : k0_pay8 (F := Ideal) Y (ix2 r d) = Y (ix2 r d) := by
  pointwise [k0_pay8]
/-- A stored value is the value itself (second padding). -/
theorem pay12 (Y : Vec Ideal S8x512 .f32) (r : Fin 8) (d : Fin 512) : k0_pay12 (F := Ideal) Y (ix2 r d) = Y (ix2 r d) := by
  pointwise [k0_pay12]

/-- A tap of the scanned columns, read from its window. -/
theorem wt_x (k : ℕ) (hk : k < 4) (inb : ∀ a, (![k, 0] : Fin 2 → ℕ) a + (![1, 1024] : Fin 2 → ℕ) a ≤ S4x1024.size a) (d : Fin 1024) :
    View.ld (iblk m c 4 t) (Rect.unit (s := S4x1024) ![k, 0] ![1, 1024] inb) (ix2 0 d) = (args m c).w k d.val :=
  (ld_row (iblk m c 4 t : S4x1024.Idx → EReal) k hk inb d).trans (w4 m c t ⟨k, hk⟩ d)

/-- The newest tap reads this chunk's rows. -/
theorem tap3_x (L : List (View.Piece (Elt Ideal) S136x1024 .f32)) (inb : ∀ a, (![8, 0] : Fin 2 → ℕ) a + (![128, 1024] : Fin 2 → ℕ) a ≤ S136x1024.size a) (l : Fin 128) (d : Fin 1024) :
    (View.whole cc0_scratch0).readCov (Val := Elt Ideal) (⟨Rect.unit (s := S136x1024) ![8, 0] ![128, 1024] inb, k0_pay5 (X0_1 m c t)⟩ :: L) (Rect.unit (s := S136x1024) ![8, 0] ![128, 1024] inb).toLoadRect (ix2 l d)
      = tap (args m c) (t.val / 32) 3 (128 * (t.val % 32) + l.val) d.val := by
  rw [View.readCov_cons_toLoadRect]
  refine tap_val _ _ _ _ _ _ (1024 + d.val) (by omega) (by omega) _ (fun _ => ?_) (fun h => absurd h (by omega))
  rw [pay5, show 5 + 3 + l.val - 8 = l.val by omega]

/-- An older tap at a chunk that is not the first. -/
theorem tapB_x (h0 : ¬t.val % 32 = 0) (P : S136x1024.Idx → EReal)
    (hP : ∀ (r : Fin 136) (d : Fin 1024), r.val < 8 → P (ix2 r d) = (args m c).proj ((t.val - 1) / 32) (128 * ((t.val - 1) % 32) + 120 + r.val) (1024 + d.val))
    (hu) (k : ℕ) (hk : k ≤ 3) (inb : ∀ a, (![8, 0] : Fin 2 → ℕ) a + (![128, 1024] : Fin 2 → ℕ) a ≤ S136x1024.size a) (k' : ℕ) (inb' : ∀ a, (![k', 0] : Fin 2 → ℕ) a + (![128, 1024] : Fin 2 → ℕ) a ≤ S136x1024.size a) (hk' : k' = 5 + k) (l : Fin 128) (d : Fin 1024) :
    View.ld (View.read (Elt Ideal) (View.whole cc0_scratch0) ((View.whole cc0_scratch0).writes (Elt Ideal) (Memref.IsWhole.unread (Val := Elt Ideal) (m := Memref.whole cc0_scratch0) hu P)
        [⟨Rect.unit (s := S136x1024) ![8, 0] ![128, 1024] inb, k0_pay5 (X0_1 m c t)⟩])) (Rect.unit (s := S136x1024) ![k', 0] ![128, 1024] inb') (ix2 l d)
      = tap (args m c) (t.val / 32) k (128 * (t.val % 32) + l.val) d.val := by
  subst hk'
  refine (ld_tail (View.whole cc0_scratch0) _ (k0_pay5 (X0_1 m c t)) (5 + k) (by omega) inb inb' [] l d).trans ?_
  refine tap_val _ _ _ _ _ _ (1024 + d.val) hk (by omega) _ (fun h => ?_) (fun h => ?_)
  · rw [dif_pos h, pay5]
  · rw [dif_neg (by omega), if_neg h0]
    refine Eq.trans (congrFun (read_unread_whole (Val := Elt Ideal) cc0_scratch0 hu P) (ix2 ⟨5 + k + l.val, by omega⟩ d)) ((hP ⟨5 + k + l.val, by omega⟩ d h).trans ?_)
    rw [show (t.val - 1) / 32 = t.val / 32 by omega, show (t.val - 1) % 32 = t.val % 32 - 1 by omega]

/-- An older tap at a sequence's first chunk. -/
theorem tapA_x (h0 : t.val % 32 = 0) (k : ℕ) (hk : k ≤ 3) (inb : ∀ a, (![8, 0] : Fin 2 → ℕ) a + (![128, 1024] : Fin 2 → ℕ) a ≤ S136x1024.size a) (inb0 : ∀ a, (![0, 0] : Fin 2 → ℕ) a + (![8, 1024] : Fin 2 → ℕ) a ≤ S136x1024.size a) (k' : ℕ) (inb' : ∀ a, (![k', 0] : Fin 2 → ℕ) a + (![128, 1024] : Fin 2 → ℕ) a ≤ S136x1024.size a) (hk' : k' = 5 + k) (l : Fin 128) (d : Fin 1024) :
    (View.whole cc0_scratch0).readCov (Val := Elt Ideal) [⟨Rect.unit (s := S136x1024) ![8, 0] ![128, 1024] inb, k0_pay5 (X0_1 m c t)⟩, ⟨Rect.unit (s := S136x1024) ![0, 0] ![8, 1024] inb0, k0_pay2 (F := Ideal)⟩]
        (Rect.unit (s := S136x1024) ![k', 0] ![128, 1024] inb').toLoadRect (ix2 l d)
      = tap (args m c) (t.val / 32) k (128 * (t.val % 32) + l.val) d.val := by
  subst hk'
  refine (cov_tail (View.whole cc0_scratch0) (k0_pay5 (X0_1 m c t)) (k0_pay2 (F := Ideal)) (5 + k) (by omega) inb inb0 inb' l d).trans ?_
  refine tap_val _ _ _ _ _ _ (1024 + d.val) hk (by omega) _ (fun h => ?_) (fun h => ?_)
  · rw [dif_pos h, pay5]
  · rw [dif_neg (by omega), if_pos h0, pay2]

/-- The 8 rows kept for the next chunk. -/
theorem kept_x (L : List (View.Piece (Elt Ideal) S136x1024 .f32)) (inb : ∀ a, (![0, 0] : Fin 2 → ℕ) a + (![8, 1024] : Fin 2 → ℕ) a ≤ S136x1024.size a) (inb' : ∀ a, (![120, 0] : Fin 2 → ℕ) a + (![8, 1024] : Fin 2 → ℕ) a ≤ S128x1024.size a) (r : Fin 136) (d : Fin 1024) (hr : r.val < 8) :
    View.canon (Val := Elt Ideal) (e := .f32) (⟨Rect.unit (s := S136x1024) ![0, 0] ![8, 1024] inb, k0_pay8 (View.ld (X0_1 m c t) (Rect.unit (s := S128x1024) ![120, 0] ![8, 1024] inb'))⟩ :: L) (ix2 r d)
      = (args m c).proj (t.val / 32) (128 * (t.val % 32) + 120 + r.val) (1024 + d.val) := by
  refine (canon_head _ inb L r d hr).trans ?_
  rw [pay8]
  refine (ld_block (X0_1 m c t : S128x1024.Idx → EReal) 120 0 (by omega) (by omega) inb' ⟨r.val, hr⟩ d).trans ?_
  refine (w1 m c t ⟨120 + r.val, by omega⟩ ⟨0 + d.val, by omega⟩).trans ?_
  dsimp only
  rw [Nat.zero_add, Nat.add_assoc]

/-- A tap of the state columns, read from its window. -/
theorem wt_b (k : ℕ) (hk : k < 4) (inb : ∀ a, (![k, 0] : Fin 2 → ℕ) a + (![1, 512] : Fin 2 → ℕ) a ≤ S4x512.size a) (d : Fin 512) :
    View.ld (iblk m c 6 t) (Rect.unit (s := S4x512) ![k, 0] ![1, 512] inb) (ix2 0 d) = (args m c).w k (1024 + d.val) :=
  (ld_row (iblk m c 6 t : S4x512.Idx → EReal) k hk inb d).trans (w6 m c t ⟨k, hk⟩ d)

/-- The newest tap reads this chunk's rows. -/
theorem tap3_b (L : List (View.Piece (Elt Ideal) S136x512 .f32)) (inb : ∀ a, (![8, 0] : Fin 2 → ℕ) a + (![128, 512] : Fin 2 → ℕ) a ≤ S136x512.size a) (l : Fin 128) (d : Fin 512) :
    (View.whole cc0_scratch1).readCov (Val := Elt Ideal) (⟨Rect.unit (s := S136x512) ![8, 0] ![128, 512] inb, k0_pay10 (iblk m c 2 t)⟩ :: L) (Rect.unit (s := S136x512) ![8, 0] ![128, 512] inb).toLoadRect (ix2 l d)
      = tap (args m c) (t.val / 32) 3 (128 * (t.val % 32) + l.val) (1024 + d.val) := by
  rw [View.readCov_cons_toLoadRect]
  refine tap_val _ _ _ _ _ _ (2048 + d.val) (by omega) (by omega) _ (fun _ => ?_) (fun h => absurd h (by omega))
  rw [pay10, show 5 + 3 + l.val - 8 = l.val by omega]

/-- An older tap at a chunk that is not the first. -/
theorem tapB_b (h0 : ¬t.val % 32 = 0) (P : S136x512.Idx → EReal)
    (hP : ∀ (r : Fin 136) (d : Fin 512), r.val < 8 → P (ix2 r d) = (args m c).proj ((t.val - 1) / 32) (128 * ((t.val - 1) % 32) + 120 + r.val) (2048 + d.val))
    (hu) (k : ℕ) (hk : k ≤ 3) (inb : ∀ a, (![8, 0] : Fin 2 → ℕ) a + (![128, 512] : Fin 2 → ℕ) a ≤ S136x512.size a) (k' : ℕ) (inb' : ∀ a, (![k', 0] : Fin 2 → ℕ) a + (![128, 512] : Fin 2 → ℕ) a ≤ S136x512.size a) (hk' : k' = 5 + k) (l : Fin 128) (d : Fin 512) :
    View.ld (View.read (Elt Ideal) (View.whole cc0_scratch1) ((View.whole cc0_scratch1).writes (Elt Ideal) (Memref.IsWhole.unread (Val := Elt Ideal) (m := Memref.whole cc0_scratch1) hu P)
        [⟨Rect.unit (s := S136x512) ![8, 0] ![128, 512] inb, k0_pay10 (iblk m c 2 t)⟩])) (Rect.unit (s := S136x512) ![k', 0] ![128, 512] inb') (ix2 l d)
      = tap (args m c) (t.val / 32) k (128 * (t.val % 32) + l.val) (1024 + d.val) := by
  subst hk'
  refine (ld_tail (View.whole cc0_scratch1) _ (k0_pay10 (iblk m c 2 t)) (5 + k) (by omega) inb inb' [] l d).trans ?_
  refine tap_val _ _ _ _ _ _ (2048 + d.val) hk (by omega) _ (fun h => ?_) (fun h => ?_)
  · rw [dif_pos h, pay10]
  · rw [dif_neg (by omega), if_neg h0]
    refine Eq.trans (congrFun (read_unread_whole (Val := Elt Ideal) cc0_scratch1 hu P) (ix2 ⟨5 + k + l.val, by omega⟩ d)) ((hP ⟨5 + k + l.val, by omega⟩ d h).trans ?_)
    rw [show (t.val - 1) / 32 = t.val / 32 by omega, show (t.val - 1) % 32 = t.val % 32 - 1 by omega]

/-- An older tap at a sequence's first chunk. -/
theorem tapA_b (h0 : t.val % 32 = 0) (k : ℕ) (hk : k ≤ 3) (inb : ∀ a, (![8, 0] : Fin 2 → ℕ) a + (![128, 512] : Fin 2 → ℕ) a ≤ S136x512.size a) (inb0 : ∀ a, (![0, 0] : Fin 2 → ℕ) a + (![8, 512] : Fin 2 → ℕ) a ≤ S136x512.size a) (k' : ℕ) (inb' : ∀ a, (![k', 0] : Fin 2 → ℕ) a + (![128, 512] : Fin 2 → ℕ) a ≤ S136x512.size a) (hk' : k' = 5 + k) (l : Fin 128) (d : Fin 512) :
    (View.whole cc0_scratch1).readCov (Val := Elt Ideal) [⟨Rect.unit (s := S136x512) ![8, 0] ![128, 512] inb, k0_pay10 (iblk m c 2 t)⟩, ⟨Rect.unit (s := S136x512) ![0, 0] ![8, 512] inb0, k0_pay3 (F := Ideal)⟩]
        (Rect.unit (s := S136x512) ![k', 0] ![128, 512] inb').toLoadRect (ix2 l d)
      = tap (args m c) (t.val / 32) k (128 * (t.val % 32) + l.val) (1024 + d.val) := by
  subst hk'
  refine (cov_tail (View.whole cc0_scratch1) (k0_pay10 (iblk m c 2 t)) (k0_pay3 (F := Ideal)) (5 + k) (by omega) inb inb0 inb' l d).trans ?_
  refine tap_val _ _ _ _ _ _ (2048 + d.val) hk (by omega) _ (fun h => ?_) (fun h => ?_)
  · rw [dif_pos h, pay10]
  · rw [dif_neg (by omega), if_pos h0, pay3]

/-- The 8 rows kept for the next chunk. -/
theorem kept_b (L : List (View.Piece (Elt Ideal) S136x512 .f32)) (inb : ∀ a, (![0, 0] : Fin 2 → ℕ) a + (![8, 512] : Fin 2 → ℕ) a ≤ S136x512.size a) (inb' : ∀ a, (![120, 0] : Fin 2 → ℕ) a + (![8, 512] : Fin 2 → ℕ) a ≤ S128x512.size a) (r : Fin 136) (d : Fin 512) (hr : r.val < 8) :
    View.canon (Val := Elt Ideal) (e := .f32) (⟨Rect.unit (s := S136x512) ![0, 0] ![8, 512] inb, k0_pay12 (View.ld (iblk m c 2 t) (Rect.unit (s := S128x512) ![120, 0] ![8, 512] inb'))⟩ :: L) (ix2 r d)
      = (args m c).proj (t.val / 32) (128 * (t.val % 32) + 120 + r.val) (2048 + d.val) := by
  refine (canon_head _ inb L r d hr).trans ?_
  rw [pay12]
  refine (ld_block (iblk m c 2 t : S128x512.Idx → EReal) 120 0 (by omega) (by omega) inb' ⟨r.val, hr⟩ d).trans ?_
  refine (w2 m c t ⟨120 + r.val, by omega⟩ ⟨0 + d.val, by omega⟩).trans ?_
  dsimp only
  rw [Nat.zero_add, Nat.add_assoc]

/-- The state and rows left after a point of case A. -/
theorem inv_A (h0 : t.val % 32 = 0) : Inv m c t.val (outsAt0 m c t.val t.isLt) := by
  refine ⟨fun r d hr => ?_, fun r d hr => ?_, fun n d => ?_⟩
  · rw [outsAt0_A m c t h0]
    frame_out
    exact kept_x m c t _ _ _ r d hr
  · rw [outsAt0_A m c t h0]
    frame_out
    exact kept_b m c t _ _ _ r d hr
  · rw [outsAt0_A m c t h0]
    frame_out
    refine Eq.trans (stV_val (U (args m c) (t.val / 32) (t.val % 32)) (cs (args m c) (t.val / 32) (t.val % 32)) (X (args m c) (t.val / 32) (t.val % 32)) _ _ ?hB _ _ _ (st (args m c) (t.val / 32) (t.val % 32)) ?hX ?hE ?hL ?hH n d) ?_
    case hB =>
      intro l d
      exact aB_val _ _ _ _ _ _ _ _ _ _ _ _ (w7 m c t) (wt_b m c t 0 (by omega) _) (wt_b m c t 1 (by omega) _) (wt_b m c t 2 (by omega) _) (wt_b m c t 3 (by omega) _) (tapA_b m c t h0 0 (by omega) _ _ 5 _ rfl) (tapA_b m c t h0 1 (by omega) _ _ 6 _ rfl) (tapA_b m c t h0 2 (by omega) _ _ 7 _ rfl) (tap3_b m c t _ _) l d
    case hX =>
      intro l d
      exact xV_val _ _ _ _ _ _ (w3 m c t) (w8 m c t) _ (fun l d => aX_val _ _ _ _ _ _ _ _ _ _ _ _ (w5 m c t) (wt_x m c t 0 (by omega) _) (wt_x m c t 1 (by omega) _) (wt_x m c t 2 (by omega) _) (wt_x m c t 3 (by omega) _) (tapA_x m c t h0 0 (by omega) _ _ 5 _ rfl) (tapA_x m c t h0 1 (by omega) _ _ 6 _ rfl) (tapA_x m c t h0 2 (by omega) _ _ 7 _ rfl) (tap3_x m c t _ _) l d) (w12 m c t) l d
    case hE =>
      intro l d
      exact csE_val _ _ _ _ _ _ _ _ (w3 m c t) (w8 m c t) (w9 m c t) (w14 m c t) (w12 m c t) l d
    case hL =>
      intro d
      exact csL_val _ _ _ _ _ _ _ _ (w3 m c t) (w8 m c t) (w9 m c t) (w14 m c t) (w12 m c t) d
    case hH =>
      intro n d
      rw [h0, pay4]
      rfl
    rfl

/-- The rows a point of case A writes. -/
theorem out_A (h0 : t.val % 32 = 0) (l : Fin 128) (d : Fin 1024) :
    (outsAt0 m c t.val t.isLt).1 (ix2 l d) = out (args m c) (t.val / 32) (t.val % 32) l.val d := by
  rw [outsAt0_A m c t h0]
  frame_out
  refine out_val _ _ _ _ _ _ ?hy (w0 m c t) (w11 m c t) l d
  intro l d
  refine yV_val (U (args m c) (t.val / 32) (t.val % 32)) (cs (args m c) (t.val / 32) (t.val % 32)) (X (args m c) (t.val / 32) (t.val % 32)) _ _ _ _ _ _ _ ?hB ?hX ?hT ?hC _ _ _ _ (st (args m c) (t.val / 32) (t.val % 32)) (args m c).ds ?p0 ?p1 ?hA (w10 m c t) ?hE ?h0 ?h1 l d
  case hB =>
    intro l d
    exact aB_val _ _ _ _ _ _ _ _ _ _ _ _ (w7 m c t) (wt_b m c t 0 (by omega) _) (wt_b m c t 1 (by omega) _) (wt_b m c t 2 (by omega) _) (wt_b m c t 3 (by omega) _) (tapA_b m c t h0 0 (by omega) _ _ 5 _ rfl) (tapA_b m c t h0 1 (by omega) _ _ 6 _ rfl) (tapA_b m c t h0 2 (by omega) _ _ 7 _ rfl) (tap3_b m c t _ _) l d
  case hX =>
    intro l d
    exact xV_val _ _ _ _ _ _ (w3 m c t) (w8 m c t) _ (fun l d => aX_val _ _ _ _ _ _ _ _ _ _ _ _ (w5 m c t) (wt_x m c t 0 (by omega) _) (wt_x m c t 1 (by omega) _) (wt_x m c t 2 (by omega) _) (wt_x m c t 3 (by omega) _) (tapA_x m c t h0 0 (by omega) _ _ 5 _ rfl) (tapA_x m c t h0 1 (by omega) _ _ 6 _ rfl) (tapA_x m c t h0 2 (by omega) _ _ 7 _ rfl) (tap3_x m c t _ _) l d) (w12 m c t) l d
  case p0 =>
    intro l j
    exact x0V_val _ _ _ _ _ _ (w3 m c t) (w8 m c t) _ (fun l d => aX_val _ _ _ _ _ _ _ _ _ _ _ _ (w5 m c t) (wt_x m c t 0 (by omega) _) (wt_x m c t 1 (by omega) _) (wt_x m c t 2 (by omega) _) (wt_x m c t 3 (by omega) _) (tapA_x m c t h0 0 (by omega) _ _ 5 _ rfl) (tapA_x m c t h0 1 (by omega) _ _ 6 _ rfl) (tapA_x m c t h0 2 (by omega) _ _ 7 _ rfl) (tap3_x m c t _ _) l d) (w12 m c t) l j
  case p1 =>
    intro l s
    exact e0V_val _ _ _ _ _ _ _ _ (w3 m c t) (w8 m c t) (w9 m c t) (w14 m c t) (w13 m c t) l s
  case hA =>
    intro l d
    exact aX_val _ _ _ _ _ _ _ _ _ _ _ _ (w5 m c t) (wt_x m c t 0 (by omega) _) (wt_x m c t 1 (by omega) _) (wt_x m c t 2 (by omega) _) (wt_x m c t 3 (by omega) _) (tapA_x m c t h0 0 (by omega) _ _ 5 _ rfl) (tapA_x m c t h0 1 (by omega) _ _ 6 _ rfl) (tapA_x m c t h0 2 (by omega) _ _ 7 _ rfl) (tap3_x m c t _ _) l d
  case hT =>
    intro h l hh
    exact csT_val _ _ _ _ _ _ _ (w3 m c t) (w8 m c t) (w9 m c t) (w14 m c t) h l hh
  case hC =>
    intro l d
    exact csC_val _ _ _ _ _ _ _ _ (w3 m c t) (w8 m c t) (w9 m c t) (w14 m c t) (w13 m c t) l d
  case hE =>
    intro l d
    exact csE_val _ _ _ _ _ _ _ _ (w3 m c t) (w8 m c t) (w9 m c t) (w14 m c t) (w12 m c t) l d
  case h0 =>
    intro n d
    rw [View.readCov_fill _ _ _ _ _ (by decide)]
    refine (ld_block _ 0 0 (by omega) (by omega) _ n d).trans ?_
    rw [h0, pay4]
    rfl
  case h1 =>
    intro n d
    rw [View.readCov_fill _ _ _ _ _ (by decide)]
    refine (ld_block _ 0 512 (by omega) (by omega) _ n d).trans ?_
    rw [h0, pay4]
    rfl

/-- The state and rows left after a point of case B. -/
theorem inv_B (h0 : ¬t.val % 32 = 0) (hI : Inv m c (t.val - 1) (outsAt0 m c (t.val - 1) (by omega))) : Inv m c t.val (outsAt0 m c t.val t.isLt) := by
  refine ⟨fun r d hr => ?_, fun r d hr => ?_, fun n d => ?_⟩
  · rw [outsAt0_B m c t h0]
    frame_out
    exact kept_x m c t _ _ _ r d hr
  · rw [outsAt0_B m c t h0]
    frame_out
    exact kept_b m c t _ _ _ r d hr
  · rw [outsAt0_B m c t h0]
    frame_out
    refine Eq.trans (stV_val (U (args m c) (t.val / 32) (t.val % 32)) (cs (args m c) (t.val / 32) (t.val % 32)) (X (args m c) (t.val / 32) (t.val % 32)) _ _ ?hB _ _ _ (st (args m c) (t.val / 32) (t.val % 32)) ?hX ?hE ?hL ?hH n d) ?_
    case hB =>
      intro l d
      exact aB_val _ _ _ _ _ _ _ _ _ _ _ _ (w7 m c t) (wt_b m c t 0 (by omega) _) (wt_b m c t 1 (by omega) _) (wt_b m c t 2 (by omega) _) (wt_b m c t 3 (by omega) _) (tapB_b m c t h0 _ hI.2.1 _ 0 (by omega) _ 5 _ rfl) (tapB_b m c t h0 _ hI.2.1 _ 1 (by omega) _ 6 _ rfl) (tapB_b m c t h0 _ hI.2.1 _ 2 (by omega) _ 7 _ rfl) (tap3_b m c t _ _) l d
    case hX =>
      intro l d
      exact xV_val _ _ _ _ _ _ (w3 m c t) (w8 m c t) _ (fun l d => aX_val _ _ _ _ _ _ _ _ _ _ _ _ (w5 m c t) (wt_x m c t 0 (by omega) _) (wt_x m c t 1 (by omega) _) (wt_x m c t 2 (by omega) _) (wt_x m c t 3 (by omega) _) (tapB_x m c t h0 _ hI.1 _ 0 (by omega) _ 5 _ rfl) (tapB_x m c t h0 _ hI.1 _ 1 (by omega) _ 6 _ rfl) (tapB_x m c t h0 _ hI.1 _ 2 (by omega) _ 7 _ rfl) (tap3_x m c t _ _) l d) (w12 m c t) l d
    case hE =>
      intro l d
      exact csE_val _ _ _ _ _ _ _ _ (w3 m c t) (w8 m c t) (w9 m c t) (w14 m c t) (w12 m c t) l d
    case hL =>
      intro d
      exact csL_val _ _ _ _ _ _ _ _ (w3 m c t) (w8 m c t) (w9 m c t) (w14 m c t) (w12 m c t) d
    case hH =>
      intro n d
      refine (congrFun (read_unread_whole cc0_scratch2 _ _) _).trans ((hI.2.2 n d).trans ?_)
      rw [show (t.val - 1) / 32 = t.val / 32 by omega, show (t.val - 1) % 32 + 1 = t.val % 32 by omega]
    rfl

/-- The rows a point of case B writes. -/
theorem out_B (h0 : ¬t.val % 32 = 0) (hI : Inv m c (t.val - 1) (outsAt0 m c (t.val - 1) (by omega))) (l : Fin 128) (d : Fin 1024) :
    (outsAt0 m c t.val t.isLt).1 (ix2 l d) = out (args m c) (t.val / 32) (t.val % 32) l.val d := by
  rw [outsAt0_B m c t h0]
  frame_out
  refine out_val _ _ _ _ _ _ ?hy (w0 m c t) (w11 m c t) l d
  intro l d
  refine yV_val (U (args m c) (t.val / 32) (t.val % 32)) (cs (args m c) (t.val / 32) (t.val % 32)) (X (args m c) (t.val / 32) (t.val % 32)) _ _ _ _ _ _ _ ?hB ?hX ?hT ?hC _ _ _ _ (st (args m c) (t.val / 32) (t.val % 32)) (args m c).ds ?p0 ?p1 ?hA (w10 m c t) ?hE ?h0 ?h1 l d
  case hB =>
    intro l d
    exact aB_val _ _ _ _ _ _ _ _ _ _ _ _ (w7 m c t) (wt_b m c t 0 (by omega) _) (wt_b m c t 1 (by omega) _) (wt_b m c t 2 (by omega) _) (wt_b m c t 3 (by omega) _) (tapB_b m c t h0 _ hI.2.1 _ 0 (by omega) _ 5 _ rfl) (tapB_b m c t h0 _ hI.2.1 _ 1 (by omega) _ 6 _ rfl) (tapB_b m c t h0 _ hI.2.1 _ 2 (by omega) _ 7 _ rfl) (tap3_b m c t _ _) l d
  case hX =>
    intro l d
    exact xV_val _ _ _ _ _ _ (w3 m c t) (w8 m c t) _ (fun l d => aX_val _ _ _ _ _ _ _ _ _ _ _ _ (w5 m c t) (wt_x m c t 0 (by omega) _) (wt_x m c t 1 (by omega) _) (wt_x m c t 2 (by omega) _) (wt_x m c t 3 (by omega) _) (tapB_x m c t h0 _ hI.1 _ 0 (by omega) _ 5 _ rfl) (tapB_x m c t h0 _ hI.1 _ 1 (by omega) _ 6 _ rfl) (tapB_x m c t h0 _ hI.1 _ 2 (by omega) _ 7 _ rfl) (tap3_x m c t _ _) l d) (w12 m c t) l d
  case p0 =>
    intro l j
    exact x0V_val _ _ _ _ _ _ (w3 m c t) (w8 m c t) _ (fun l d => aX_val _ _ _ _ _ _ _ _ _ _ _ _ (w5 m c t) (wt_x m c t 0 (by omega) _) (wt_x m c t 1 (by omega) _) (wt_x m c t 2 (by omega) _) (wt_x m c t 3 (by omega) _) (tapB_x m c t h0 _ hI.1 _ 0 (by omega) _ 5 _ rfl) (tapB_x m c t h0 _ hI.1 _ 1 (by omega) _ 6 _ rfl) (tapB_x m c t h0 _ hI.1 _ 2 (by omega) _ 7 _ rfl) (tap3_x m c t _ _) l d) (w12 m c t) l j
  case p1 =>
    intro l s
    exact e0V_val _ _ _ _ _ _ _ _ (w3 m c t) (w8 m c t) (w9 m c t) (w14 m c t) (w13 m c t) l s
  case hA =>
    intro l d
    exact aX_val _ _ _ _ _ _ _ _ _ _ _ _ (w5 m c t) (wt_x m c t 0 (by omega) _) (wt_x m c t 1 (by omega) _) (wt_x m c t 2 (by omega) _) (wt_x m c t 3 (by omega) _) (tapB_x m c t h0 _ hI.1 _ 0 (by omega) _ 5 _ rfl) (tapB_x m c t h0 _ hI.1 _ 1 (by omega) _ 6 _ rfl) (tapB_x m c t h0 _ hI.1 _ 2 (by omega) _ 7 _ rfl) (tap3_x m c t _ _) l d
  case hT =>
    intro h l hh
    exact csT_val _ _ _ _ _ _ _ (w3 m c t) (w8 m c t) (w9 m c t) (w14 m c t) h l hh
  case hC =>
    intro l d
    exact csC_val _ _ _ _ _ _ _ _ (w3 m c t) (w8 m c t) (w9 m c t) (w14 m c t) (w13 m c t) l d
  case hE =>
    intro l d
    exact csE_val _ _ _ _ _ _ _ _ (w3 m c t) (w8 m c t) (w9 m c t) (w14 m c t) (w12 m c t) l d
  case h0 =>
    intro n d
    refine (ld_block _ 0 0 (by omega) (by omega) _ n d).trans ?_
    refine (congrFun (read_unread_whole cc0_scratch2 _ _) _).trans ((hI.2.2 _ _).trans ?_)
    rw [show (t.val - 1) / 32 = t.val / 32 by omega, show (t.val - 1) % 32 + 1 = t.val % 32 by omega]
    dsimp only
    rw [Nat.zero_add, Nat.zero_add]
  case h1 =>
    intro n d
    refine (ld_block _ 0 512 (by omega) (by omega) _ n d).trans ?_
    refine (congrFun (read_unread_whole cc0_scratch2 _ _) _).trans ((hI.2.2 _ _).trans ?_)
    rw [show (t.val - 1) / 32 = t.val / 32 by omega, show (t.val - 1) % 32 + 1 = t.val % 32 by omega]
    dsimp only
    rw [Nat.zero_add]

end Point

/-- What every point leaves behind. -/
theorem inv (c : Dev nD) : ∀ (n : ℕ) (h : n < cfg0.N), Inv m c n (outsAt0 m c n h)
  | 0, h => inv_A m c ⟨0, h⟩ rfl
  | n + 1, h => by
    by_cases h0 : (n + 1) % 32 = 0
    · exact inv_A m c ⟨n + 1, h⟩ h0
    · exact inv_B m c ⟨n + 1, h⟩ h0 (inv c n (by omega))

/-- What every point writes. -/
theorem out_point (c : Dev nD) (t : Fin cfg0.N) (l : Fin 128) (d : Fin 1024) :
    (outsAt0 m c t.val t.isLt).1 (ix2 l d) = out (args m c) (t.val / 32) (t.val % 32) l.val d := by
  by_cases h0 : t.val % 32 = 0
  · exact out_A m c t h0 l d
  · exact out_B m c t h0 (inv m c _ _) l d

end Cert.KernelIdeal.Value
end
-- ==== Proof.KFinal.lean ====
module

public import proofs.«01_k».proof.Proof.KState

@[expose] public section

set_option maxRecDepth 16384

noncomputable section

namespace Cert.KernelIdeal.Value

open Cert.KernelIdeal Cert.KernelIdeal.Gen Idealize.ShloMosaic Idealize.ShloMosaic.TcCoe Idealize.SL.Sem Cert.Ssd

variable (m : (ℓ : Loc nD τ sig) → Buf (Elt Ideal) ℓ)

/-- The kernel's result at row `r` and column `d`: the gated, normalised value of batch `r / 4096`,
    chunk `(r / 128) % 32`, position `r % 128` within the chunk. -/
theorem final (c : Dev nD) (r : Fin 8192) (d : Fin 1024) :
    (G15 m c : S8192x1024.Idx → EReal) (ix2 r d)
      = out (args m c) (r.val / 128 / 32) (r.val / 128 % 32) (r.val % 128) d := by
  have hp : pt15Of (ix2 r d) = r.val / 128 := by
    show 1 * ((ix2 r d 0).val / 128 - 0) + 1 * ((ix2 r d 1).val / 1024 - 0) = _
    have h0 : (ix2 r d 0).val = r.val := rfl
    have h1 : (ix2 r d 1).val = d.val := rfl
    rw [h0, h1]; omega
  have hN : cfg0.N = 64 := N_0
  have hlt : pt15Of (ix2 r d) < cfg0.N := by rw [hp, hN]; omega
  have hl : loc15Of (ix2 r d) = ix2 (⟨r.val % 128, by omega⟩ : Fin 128) d := by
    funext a
    refine Fin.ext ?_
    revert a
    refine Fin.cases ?_ fun a => ?_
    · rfl
    · refine Fin.cases ?_ (fun a => a.elim0) a
      show d.val % 1024 = d.val
      omega
  unfold G15
  rw [dif_pos hlt, ← outsAt0_sweep m c (pt15Of (ix2 r d)) hlt, hl]
  have e := out_point m c ⟨pt15Of (ix2 r d), hlt⟩ (⟨r.val % 128, by omega⟩ : Fin 128) d
  refine e.trans ?_
  dsimp only
  rw [hp]

end Cert.KernelIdeal.Value

end
-- ==== Proof.RPre.lean ====
module

public import proofs.«01_k».proof.Proof.Gen.ReferenceIdeal.Run
public import proofs.«01_k».proof.Proof.Ssd
public import Idealize.ShloMosaic.Lib.Pointwise
public import Idealize.ShloMosaic.Lib.StableHlo.ReadAt

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Ssd (silu softplus)

/-- An element of a float array, as an extended real. -/
abbrev E (x : EReal) : EReal := x

variable (V : Valuation τ sig (Elt Ideal))

/-- The gate's columns of the projection: the first 1024. -/
theorem s0_v0 (b : Fin 2) (t : Fin 4096) (j : Fin 1024) :
    (after hostOps0 V (Proc.devRef .tc main_v0) : S2x4096x1024.Idx → EReal) (ix3 b t j)
      = E ((V (Proc.devRef .tc main_arg0) : S2x4096x6752.Idx → EReal) (ix3 b t ⟨j.val, by omega⟩)) := by
  after_reads_at

/-- The convolved columns of the projection: 1536 from column 1024 on. -/
theorem s0_v1 (b : Fin 2) (t : Fin 4096) (j : Fin 1536) :
    (after hostOps0 V (Proc.devRef .tc main_v1) : S2x4096x1536.Idx → EReal) (ix3 b t j)
      = E ((V (Proc.devRef .tc main_arg0) : S2x4096x6752.Idx → EReal) (ix3 b t ⟨1024 + j.val, by omega⟩)) := by
  after_reads_at

/-- The step-size columns of the projection: 16 from column 2560 on. -/
theorem s0_v2 (b : Fin 2) (t : Fin 4096) (j : Fin 16) :
    (after hostOps0 V (Proc.devRef .tc main_v2) : S2x4096x16.Idx → EReal) (ix3 b t j)
      = E ((V (Proc.devRef .tc main_arg0) : S2x4096x6752.Idx → EReal) (ix3 b t ⟨2560 + j.val, by omega⟩)) := by
  after_reads_at

/-- The integer zero that becomes the padding value. -/
theorem s0_c (i : S_.Idx) : (after hostOps0 V (Proc.devRef .tc main_c) : S_.Idx → BitVec 32) i = 0#32 := by
  after_reads_at

/-- The padded columns: three rows of the padding value, then the columns. -/
theorem s1_v3 (b : Fin 2) (t : Fin 4099) (j : Fin 1536) (hc : ∀ i, (V (Proc.devRef .tc main_c) : S_.Idx → BitVec 32) i = 0#32) :
    (after hostOps0_1 V (Proc.devRef .tc main_v3) : S2x4099x1536.Idx → EReal) (ix3 b t j)
      = if h : 3 ≤ t.val then E ((V (Proc.devRef .tc main_v1) : S2x4096x1536.Idx → EReal) (ix3 b ⟨t.val - 3, by omega⟩ j)) else 0 := by
  after_reads_at
  by_cases h : 3 ≤ t.val
  · rw [dif_pos h, dif_pos ⟨h, by omega⟩]
  · rw [dif_neg h, dif_neg fun h' => h h'.1, hc]
    show (((0#32 : BitVec 32).toInt : ℝ) : EReal) = 0
    simp

/-- The convolution: four shifted products and the bias. -/
theorem s2_v35 (b : Fin 2) (t : Fin 4096) (j : Fin 1536) :
    (after hostOps0_2 V (Proc.devRef .tc main_v35) : S2x4096x1536.Idx → EReal) (ix3 b t j)
      = ((((0 : EReal) + E ((V (Proc.devRef .tc main_v3) : S2x4099x1536.Idx → EReal) (ix3 b ⟨t.val, by omega⟩ j)) * E ((V (Proc.devRef .tc main_arg1) : S4x1536.Idx → EReal) (ix2 0 j)))
        + E ((V (Proc.devRef .tc main_v3) : S2x4099x1536.Idx → EReal) (ix3 b ⟨1 + t.val, by omega⟩ j)) * E ((V (Proc.devRef .tc main_arg1) : S4x1536.Idx → EReal) (ix2 1 j)))
        + E ((V (Proc.devRef .tc main_v3) : S2x4099x1536.Idx → EReal) (ix3 b ⟨2 + t.val, by omega⟩ j)) * E ((V (Proc.devRef .tc main_arg1) : S4x1536.Idx → EReal) (ix2 2 j)))
        + E ((V (Proc.devRef .tc main_v3) : S2x4099x1536.Idx → EReal) (ix3 b ⟨3 + t.val, by omega⟩ j)) * E ((V (Proc.devRef .tc main_arg1) : S4x1536.Idx → EReal) (ix2 3 j))
        + E ((V (Proc.devRef .tc main_arg2) : S1536.Idx → EReal) (ix1 j)) := by
  after_reads_at

/-- The activation of the convolved columns. -/
theorem s3_v36 (b : Fin 2) (t : Fin 4096) (j : Fin 1536) :
    (after hostOps0_3 V (Proc.devRef .tc main_v36) : S2x4096x1536.Idx → EReal) (ix3 b t j)
      = silu (E ((V (Proc.devRef .tc main_v35) : S2x4096x1536.Idx → EReal) (ix3 b t j))) := by
  after_reads_at
  rfl

/-- The scanned columns, split into heads. -/
theorem s4_v40 (b : Fin 2) (t : Fin 4096) (h : Fin 16) (p : Fin 64) :
    (after hostOps0_4 V (Proc.devRef .tc main_v40) : S2x4096x16x64.Idx → EReal) (ix4 b t h p)
      = E ((V (Proc.devRef .tc main_v36) : S2x4096x1536.Idx → EReal) (ix3 b t ⟨h.val * 64 + p.val, by omega⟩)) := by
  after_reads_at

/-- The columns that enter the state. -/
theorem s4_v38 (b : Fin 2) (t : Fin 4096) (j : Fin 256) :
    (after hostOps0_4 V (Proc.devRef .tc main_v38) : S2x4096x256.Idx → EReal) (ix3 b t j)
      = E ((V (Proc.devRef .tc main_v36) : S2x4096x1536.Idx → EReal) (ix3 b t ⟨1024 + j.val, by omega⟩)) := by
  after_reads_at

/-- The columns that read the state. -/
theorem s4_v39 (b : Fin 2) (t : Fin 4096) (j : Fin 256) :
    (after hostOps0_4 V (Proc.devRef .tc main_v39) : S2x4096x256.Idx → EReal) (ix3 b t j)
      = E ((V (Proc.devRef .tc main_v36) : S2x4096x1536.Idx → EReal) (ix3 b t ⟨1280 + j.val, by omega⟩)) := by
  after_reads_at

/-- The step-size columns with their bias. -/
theorem s4_v43 (b : Fin 2) (t : Fin 4096) (h : Fin 16) :
    (after hostOps0_4 V (Proc.devRef .tc main_v43) : S2x4096x16.Idx → EReal) (ix3 b t h)
      = E ((V (Proc.devRef .tc main_v2) : S2x4096x16.Idx → EReal) (ix3 b t h)) + E ((V (Proc.devRef .tc main_arg3) : S16.Idx → EReal) (ix1 h)) := by
  after_reads_at

/-- The step sizes. -/
theorem s5_v44 (b : Fin 2) (t : Fin 4096) (h : Fin 16) :
    (after hostOps0_5 V (Proc.devRef .tc main_v44) : S2x4096x16.Idx → EReal) (ix3 b t h)
      = softplus (E ((V (Proc.devRef .tc main_v43) : S2x4096x16.Idx → EReal) (ix3 b t h))) := by
  after_reads_at
  rw [if_neg (fun h => h rfl)]
  rfl

/-- The inputs of the recurrence: each value times its step size. -/
theorem s6_v53 (b : Fin 2) (c : Fin 32) (s : Fin 128) (g : Fin 2) (h : Fin 8) (p : Fin 64) :
    (after hostOps0_6 V (Proc.devRef .tc main_v53) : S2x32x128x2x8x64.Idx → EReal) (ix6 b c s g h p)
      = E ((V (Proc.devRef .tc main_v40) : S2x4096x16x64.Idx → EReal) (ix4 b ⟨c.val * 128 + s.val, by omega⟩ ⟨g.val * 8 + h.val, by omega⟩ p))
        * E ((V (Proc.devRef .tc main_v44) : S2x4096x16.Idx → EReal) (ix3 b ⟨c.val * 128 + s.val, by omega⟩ ⟨g.val * 8 + h.val, by omega⟩)) := by
  after_reads_at

/-- The columns that enter the state, by chunk and group. -/
theorem s6_v54 (b : Fin 2) (c : Fin 32) (s : Fin 128) (g : Fin 2) (n : Fin 128) :
    (after hostOps0_6 V (Proc.devRef .tc main_v54) : S2x32x128x2x128.Idx → EReal) (ix5 b c s g n)
      = E ((V (Proc.devRef .tc main_v38) : S2x4096x256.Idx → EReal) (ix3 b ⟨c.val * 128 + s.val, by omega⟩ ⟨g.val * 128 + n.val, by omega⟩)) := by
  after_reads_at

/-- The columns that read the state, by chunk and group. -/
theorem s6_v55 (b : Fin 2) (c : Fin 32) (s : Fin 128) (g : Fin 2) (n : Fin 128) :
    (after hostOps0_6 V (Proc.devRef .tc main_v55) : S2x32x128x2x128.Idx → EReal) (ix5 b c s g n)
      = E ((V (Proc.devRef .tc main_v39) : S2x4096x256.Idx → EReal) (ix3 b ⟨c.val * 128 + s.val, by omega⟩ ⟨g.val * 128 + n.val, by omega⟩)) := by
  after_reads_at

/-- The logarithms of the decays, by chunk and group. -/
theorem s6_v59 (b : Fin 2) (c : Fin 32) (s : Fin 128) (g : Fin 2) (h : Fin 8) :
    (after hostOps0_6 V (Proc.devRef .tc main_v59) : S2x32x128x2x8.Idx → EReal) (ix5 b c s g h)
      = E ((V (Proc.devRef .tc main_v44) : S2x4096x16.Idx → EReal) (ix3 b ⟨c.val * 128 + s.val, by omega⟩ ⟨g.val * 8 + h.val, by omega⟩))
        * -(Ideal.exp (E ((V (Proc.devRef .tc main_arg4) : S16.Idx → EReal) (ix1 ⟨g.val * 8 + h.val, by omega⟩)))) := by
  after_reads_at

end Cert.ReferenceIdeal.Value

end
-- ==== Proof.RCum.lean ====
module

public import proofs.«01_k».proof.Proof.RPre
public import Idealize.ShloMosaic.Lib.ValueIdxRank6
public import Idealize.ShloMosaic.Lib.WordCmp

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

/-- Adding one term after another from `0` is the sum of the terms. -/
theorem foldl_add {α : Type} (l : List α) (f : α → EReal) (z : EReal) : l.foldl (fun r n => r + f n) z = z + (l.map f).sum := by
  induction l generalizing z with
  | nil => simp
  | cons a l ih => rw [List.foldl_cons, ih, List.map_cons, List.sum_cons, add_assoc]

/-- A window of 128 positions along the third axis only. -/
abbrev W5 : Shape := ⟨5, ![1, 1, 128, 1, 1]⟩

/-- The window has 128 elements. -/
theorem numel_W5 : W5.numel = 128 := by decide

/-- The place of position `n` of the window: `n` along the third axis. -/
theorem symm_W5 (n : Fin W5.numel) : (W5.rowMajor.symm n 2).val = n.val := by
  have h : W5.rowMajor.symm n = ix5 (0 : Fin 1) (0 : Fin 1) (n.cast numel_W5) (0 : Fin 1) (0 : Fin 1) := by
    rw [Equiv.symm_apply_eq]
    apply Fin.ext
    rw [rowMajor_val5 _ 128 128 1 1 (by decide) (by decide) (by decide) (by decide)]
    simp
  rw [h]; rfl

/-- A shifted sum, of the terms that the shift keeps in range, is the sum of the terms up to `l`. -/
theorem sum_shift (l : Fin 128) (f : Fin 128 → EReal) :
    (∑ k : Fin 128, if h : 127 ≤ l.val + k.val then f ⟨l.val + k.val - 127, by omega⟩ else 0)
      = ∑ k : Fin 128, if k.val ≤ l.val then f k else 0 := by
  rw [← Equiv.sum_comp (Equiv.addRight (l + 1)) fun k : Fin 128 => if k.val ≤ l.val then f k else 0]
  refine Finset.sum_congr rfl fun k _ => ?_
  have hv : ((Equiv.addRight (l + 1)) k).val = (k.val + (l.val + 1) % 128) % 128 := by
    simp [Fin.val_add, Nat.add_assoc]
  by_cases h : 127 ≤ l.val + k.val
  · rw [dif_pos h, if_pos (by rw [hv]; omega)]
    exact congrArg f (Fin.ext (by rw [hv]; show l.val + k.val - 127 = _; omega))
  · rw [dif_neg h, if_neg (by rw [hv]; omega)]

/-- The running sum along the chunk: entry `l` is the sum of the entries up to and including `l`. -/
theorem cumsum_apply (x : S2x32x128x2x8.Idx → EReal) (init : S_.Idx → EReal) (hinit : ∀ i, init i = 0) (hw hu)
    (b : Fin 2) (c : Fin 32) (l : Fin 128) (g : Fin 2) (h : Fin 8) :
    Host.reduceWindowAdd (F := Ideal) (φ := .f32) (t := S2x32x128x2x8) (u := S_) ![1, 1, 128, 1, 1] ![1, 1, 1, 1, 1] ![0, 0, 127, 0, 0] ![0, 0, 0, 0, 0] x init hw hu (ix5 b c l g h)
      = ∑ k : Fin 128, if k.val ≤ l.val then x (ix5 b c k g h) else 0 := by
  unfold Host.reduceWindowAdd
  show Ideal.hostReduceWindowAdd _ _ _ _ _ _ _ _ = _
  unfold Ideal.hostReduceWindowAdd Host.reduceWindow
  dsimp only
  rw [hinit]
  rw [foldl_add, zero_add, ← Fin.sum_univ_def]
  rw [← sum_shift l fun k => x (ix5 b c k g h)]
  rw [← Equiv.sum_comp (finCongr numel_W5)]
  refine Finset.sum_congr rfl fun n _ => ?_
  have hn : n.val < 128 := (n.cast numel_W5).isLt
  have hz : ∀ a : Fin 5, a ≠ 2 → (W5.rowMajor.symm n a).val = 0 := by
    intro a ha
    have hlt : (W5.rowMajor.symm n a).val < (![1, 1, 128, 1, 1] : Fin 5 → Nat) a := (W5.rowMajor.symm n a).isLt
    have h1 : (![1, 1, 128, 1, 1] : Fin 5 → Nat) a = 1 := by
      clear hlt
      revert a; decide
    omega
  have h0 : (W5.rowMajor.symm n 0).val = 0 := hz 0 (by decide)
  have h1 : (W5.rowMajor.symm n 1).val = 0 := hz 1 (by decide)
  have h3 : (W5.rowMajor.symm n 3).val = 0 := hz 3 (by decide)
  have h4 : (W5.rowMajor.symm n 4).val = 0 := hz 4 (by decide)
  have h2 : (W5.rowMajor.symm n 2).val = n.val := symm_W5 n
  by_cases hk : 127 ≤ l.val + n.val
  · rw [dif_pos (show 127 ≤ l.val + (finCongr numel_W5 n).val from hk), dif_pos]
    · refine congrArg x (funext fun a => Fin.ext ?_)
      match a with
      | ⟨0, _⟩ => show b.val * 1 + (W5.rowMajor.symm n 0).val - 0 = b.val; omega
      | ⟨1, _⟩ => show c.val * 1 + (W5.rowMajor.symm n 1).val - 0 = c.val; omega
      | ⟨2, _⟩ => show l.val * 1 + (W5.rowMajor.symm n 2).val - 127 = l.val + n.val - 127; omega
      | ⟨3, _⟩ => show g.val * 1 + (W5.rowMajor.symm n 3).val - 0 = g.val; omega
      | ⟨4, _⟩ => show h.val * 1 + (W5.rowMajor.symm n 4).val - 0 = h.val; omega
    · intro a
      match a with
      | ⟨0, _⟩ => show 0 ≤ b.val * 1 + (W5.rowMajor.symm n 0).val ∧ b.val * 1 + (W5.rowMajor.symm n 0).val - 0 < 2; omega
      | ⟨1, _⟩ => show 0 ≤ c.val * 1 + (W5.rowMajor.symm n 1).val ∧ c.val * 1 + (W5.rowMajor.symm n 1).val - 0 < 32; omega
      | ⟨2, _⟩ => show 127 ≤ l.val * 1 + (W5.rowMajor.symm n 2).val ∧ l.val * 1 + (W5.rowMajor.symm n 2).val - 127 < 128; omega
      | ⟨3, _⟩ => show 0 ≤ g.val * 1 + (W5.rowMajor.symm n 3).val ∧ g.val * 1 + (W5.rowMajor.symm n 3).val - 0 < 2; omega
      | ⟨4, _⟩ => show 0 ≤ h.val * 1 + (W5.rowMajor.symm n 4).val ∧ h.val * 1 + (W5.rowMajor.symm n 4).val - 0 < 8; omega
  · rw [dif_neg (show ¬ 127 ≤ l.val + (finCongr numel_W5 n).val from hk), dif_neg]
    intro hin
    have := (hin 2).1
    change 127 ≤ l.val * 1 + (W5.rowMajor.symm n 2).val at this
    omega

variable (V : Valuation τ sig (Elt Ideal))

/-- The running sums of the logarithms of the decays within each chunk. -/
theorem s7_v60 (b : Fin 2) (c : Fin 32) (l : Fin 128) (g : Fin 2) (h : Fin 8) :
    (after hostOps0_7 V (Proc.devRef .tc main_v60) : S2x32x128x2x8.Idx → EReal) (ix5 b c l g h)
      = ∑ k : Fin 128, if k.val ≤ l.val then E (V (Proc.devRef .tc main_v59) (ix5 b c k g h)) else 0 := by
  after_reads_simp
  simp -implicitDefEqProofs only [StableHlo.TRef.toBuf, StableHlo.TRef.ofBuf, cast_cast, cast_eq]
  exact cumsum_apply _ _ (fun i => by pointwise) _ _ b c l g h

/-- The causal mask: at or below the diagonal. -/
theorem s89_v62 (l s : Fin 128) :
    (after hostOps0_9 (after hostOps0_8 V) (Proc.devRef .tc main_v62) : S128x128.Idx → BitVec 1) (ix2 l s)
      = if s.val ≤ l.val then 1#1 else 0#1 := by
  after_reads_at
  rw [show IntOp.addi (BitVec.ofNat 32 l.val) 0#32 = BitVec.ofNat 32 l.val from BitVec.add_zero _]
  word_cmp

/-- The masked differences of the running sums. -/
theorem s1011_v69 (b : Fin 2) (c : Fin 32) (l s : Fin 128) (g : Fin 2) (h : Fin 8)
    (hm : ∀ l s : Fin 128, (V (Proc.devRef .tc main_v62) : S128x128.Idx → BitVec 1) (ix2 l s) = if s.val ≤ l.val then 1#1 else 0#1) :
    (after hostOps0_11 (after hostOps0_10 V) (Proc.devRef .tc main_v69) : S2x32x128x128x2x8.Idx → EReal) (ix6 b c l s g h)
      = if s.val ≤ l.val then E (V (Proc.devRef .tc main_v60) (ix5 b c l g h)) - E (V (Proc.devRef .tc main_v60) (ix5 b c s g h)) else ⊥ := by
  after_reads_at
  rw [hm]
  simp only [id_eq]
  pointwise
  by_cases hsl : s.val ≤ l.val
  · rw [if_pos hsl, if_pos hsl]; rfl
  · rw [if_neg hsl, if_neg hsl]; exact Ssd.ninf_bits

/-- The values from within the chunk. -/
theorem s12_v77 (b : Fin 2) (c : Fin 32) (l : Fin 128) (g : Fin 2) (h : Fin 8) (p : Fin 64) :
    (after hostOps0_12 V (Proc.devRef .tc main_v77) : S2x32x128x2x8x64.Idx → EReal) (ix6 b c l g h p)
      = ∑ s : Fin 128, E (V (Proc.devRef .tc main_v53) (ix6 b c s g h p))
          * ((∑ n : Fin 128, E (V (Proc.devRef .tc main_v54) (ix5 b c s g n)) * E (V (Proc.devRef .tc main_v55) (ix5 b c l g n)))
            * Ideal.exp (E (V (Proc.devRef .tc main_v69) (ix6 b c l s g h)))) := by
  after_reads_at

/-- What each chunk adds to the state. -/
theorem s12_v93_0 (b : Fin 2) (c : Fin 32) (g : Fin 2) (h : Fin 8) (p : Fin 64) (n : Fin 128) :
    (after hostOps0_12 V (Proc.devRef .tc main_v93_0) : S32x2x2x8x64x128.Idx → EReal) (ix6 c b g h p n)
      = ∑ s : Fin 128, (Ideal.exp (E (V (Proc.devRef .tc main_v60) (ix5 b c 127 g h)) - E (V (Proc.devRef .tc main_v60) (ix5 b c s g h)))
            * E (V (Proc.devRef .tc main_v53) (ix6 b c s g h p))) * E (V (Proc.devRef .tc main_v54) (ix5 b c s g n)) := by
  after_reads_simp
  simp -implicitDefEqProofs only [StableHlo.TRef.toBuf, StableHlo.TRef.ofBuf, cast_cast, cast_eq, id_eq]
  clean_types
  pointwise

/-- The decay of the state over each chunk. -/
theorem s12_v93_1 (b : Fin 2) (c : Fin 32) (g : Fin 2) (h : Fin 8) :
    (after hostOps0_12 V (Proc.devRef .tc main_v93_1) : S32x2x2x8.Idx → EReal) (ix4 c b g h)
      = Ideal.exp (E (V (Proc.devRef .tc main_v60) (ix5 b c 127 g h))) := by
  after_reads_simp
  simp -implicitDefEqProofs only [StableHlo.TRef.toBuf, StableHlo.TRef.ofBuf, cast_cast, cast_eq, id_eq]
  clean_types
  pointwise

/-- The state starts at zero. -/
theorem s12_v93_3 (b : Fin 2) (g : Fin 2) (h : Fin 8) (p : Fin 64) (n : Fin 128) :
    (after hostOps0_12 V (Proc.devRef .tc main_v93_3) : S2x2x8x64x128.Idx → EReal) (ix5 b g h p n) = (0 : EReal) := by
  after_reads_simp
  simp -implicitDefEqProofs only [StableHlo.TRef.toBuf, StableHlo.TRef.ofBuf, cast_cast, cast_eq, id_eq]
  clean_types
  pointwise

end Cert.ReferenceIdeal.Value

end
-- ==== Proof.RLoop.lean ====
module

public import proofs.«01_k».proof.Proof.RCum
public import Idealize.ShloMosaic.Lib.DynamicIndex
public import Idealize.ShloMosaic.Lib.Pipeline.Value

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

/-- The contents at the loop's entry. -/
abbrev W0 : Valuation τ sig (Elt Ideal) := entryContents preI m c

/-- A buffer that neither the loop's condition nor its body writes holds what it held at the entry. -/
theorem kept (r : Ref sig .tc)
    (hc : r ∉ condOps_W)
    (h0 : r ∉ while0Ops0_W)
    (h1 : r ∉ while0Ops0_1_W)
    (h2 : r ∉ while0Ops0_2_W)
    (h3 : r ∉ while0Ops0_3_W)
    (h4 : r ∉ while0Ops0_4_W) :
    ∀ k, atK m k c (Proc.devRef .tc r) = W0 m c (Proc.devRef .tc r)
  | 0 => rfl
  | k + 1 => by
    rw [show atK m (k + 1) c = afterL bodyI (after condOps (atK m k c)) from rfl]
    rw [afterL_cons, afterL_cons, afterL_cons, afterL_cons, afterL_cons, afterL_nil]
    rw [after_of_writes_sub _ _ while0Ops0_4_writes h4, after_of_writes_sub _ _ while0Ops0_3_writes h3,
      after_of_writes_sub _ _ while0Ops0_2_writes h2, after_of_writes_sub _ _ while0Ops0_1_writes h1,
      after_of_writes_sub _ _ while0Ops0_writes h0, after_of_writes_sub _ _ condOps_writes hc]
    exact kept r hc h0 h1 h2 h3 h4 k

/-- The carried buffers after `k` steps. -/
abbrev X (k : ℕ) : Valuation τ sig (Elt Ideal) := STEP^[k] (W0 m c)

/-- One more step. -/
theorem X_succ (k : ℕ) : X m c (k + 1) = STEP (X m c k) := Function.iterate_succ_apply' _ _ _

/-- The chunks' additions are carried unchanged. -/
theorem X_0 : ∀ k, X m c k (Proc.devRef .tc main_v93_0) = W0 m c (Proc.devRef .tc main_v93_0)
  | 0 => rfl
  | k + 1 => by rw [X_succ, STEP_main_v93_0, X_0 k]

/-- The chunks' decays are carried unchanged. -/
theorem X_1 : ∀ k, X m c k (Proc.devRef .tc main_v93_1) = W0 m c (Proc.devRef .tc main_v93_1)
  | 0 => rfl
  | k + 1 => by rw [X_succ, STEP_main_v93_1, X_1 k]

/-- The step counter. -/
theorem X_2 (k : ℕ) : X m c k (Proc.devRef .tc main_v93_2) = fun _ => Scf.iv 0#32 1#32 k :=
  (atK_agree m c k main_v93_2 (by decide)).symm.trans (atK_ctr m c k)

/-- The step counter as a word. -/
theorem iv_eq (k : ℕ) : Scf.iv 0#32 1#32 k = BitVec.ofNat 32 k := by
  unfold Scf.iv
  simp

/-- A small word read as an integer. -/
theorem toInt_ofNat (k : ℕ) (hk : k < 32) : (BitVec.ofNat 32 k).toInt = (k : Int) := by
  rw [BitVec.toInt_eq_toNat_of_lt (by rw [BitVec.toNat_ofNat]; omega), BitVec.toNat_ofNat]
  omega

/-- Row `k` of the stacked states. -/
theorem slice6 (x : S32x2x2x8x64x128.Idx → EReal) (st : Fin 6 → Int) (h) (k : ℕ) (hk : k < 32) (h0 : st 0 = (k : Int)) (h1 : ∀ a, a ≠ 0 → st a = 0) :
    Host.dynamicSlice S1x2x2x8x64x128 x st h = fun i => x (ix6 (⟨k, hk⟩ : Fin 32) (i 1) (i 2) (i 3) (i 4) (i 5)) := by
  have hh : S32x2x2x8x64x128.Slices ![k, 0, 0, 0, 0, 0] S1x2x2x8x64x128 := by
    refine ⟨rfl, fun a => ?_⟩
    match a with
    | ⟨0, _⟩ => show k + 1 ≤ 32; omega
    | ⟨1, _⟩ => show 0 + 2 ≤ 2; omega
    | ⟨2, _⟩ => show 0 + 2 ≤ 2; omega
    | ⟨3, _⟩ => show 0 + 8 ≤ 8; omega
    | ⟨4, _⟩ => show 0 + 64 ≤ 64; omega
    | ⟨5, _⟩ => show 0 + 128 ≤ 128; omega
  rw [Host.dynamicSlice_eq_extractStridedSlice_of_clamp _ x st h ![k, 0, 0, 0, 0, 0] (fun a => by
    match a with
    | ⟨0, _⟩ => show (min (max (st 0) 0) ((32 - 1 : ℕ) : Int)).toNat = k; rw [h0]; omega
    | ⟨1, _⟩ => show (min (max (st 1) 0) ((2 - 2 : ℕ) : Int)).toNat = 0; rw [h1 1 (by decide)]; rfl
    | ⟨2, _⟩ => show (min (max (st 2) 0) ((2 - 2 : ℕ) : Int)).toNat = 0; rw [h1 2 (by decide)]; rfl
    | ⟨3, _⟩ => show (min (max (st 3) 0) ((8 - 8 : ℕ) : Int)).toNat = 0; rw [h1 3 (by decide)]; rfl
    | ⟨4, _⟩ => show (min (max (st 4) 0) ((64 - 64 : ℕ) : Int)).toNat = 0; rw [h1 4 (by decide)]; rfl
    | ⟨5, _⟩ => show (min (max (st 5) 0) ((128 - 128 : ℕ) : Int)).toNat = 0; rw [h1 5 (by decide)]; rfl) hh]
  funext i
  refine congrArg x (funext fun a => Fin.ext ?_)
  have hi : (i 0).val < 1 := (i 0).isLt
  match a with
  | ⟨0, _⟩ => show k + (i 0).val = k; omega
  | ⟨1, _⟩ => show 0 + (i 1).val = (i 1).val; omega
  | ⟨2, _⟩ => show 0 + (i 2).val = (i 2).val; omega
  | ⟨3, _⟩ => show 0 + (i 3).val = (i 3).val; omega
  | ⟨4, _⟩ => show 0 + (i 4).val = (i 4).val; omega
  | ⟨5, _⟩ => show 0 + (i 5).val = (i 5).val; omega

/-- Row `k` of the stacked decays. -/
theorem slice4 (x : S32x2x2x8.Idx → EReal) (st : Fin 4 → Int) (h) (k : ℕ) (hk : k < 32) (h0 : st 0 = (k : Int)) (h1 : ∀ a, a ≠ 0 → st a = 0) :
    Host.dynamicSlice S1x2x2x8 x st h = fun i => x (ix4 (⟨k, hk⟩ : Fin 32) (i 1) (i 2) (i 3)) := by
  have hh : S32x2x2x8.Slices ![k, 0, 0, 0] S1x2x2x8 := by
    refine ⟨rfl, fun a => ?_⟩
    match a with
    | ⟨0, _⟩ => show k + 1 ≤ 32; omega
    | ⟨1, _⟩ => show 0 + 2 ≤ 2; omega
    | ⟨2, _⟩ => show 0 + 2 ≤ 2; omega
    | ⟨3, _⟩ => show 0 + 8 ≤ 8; omega
  rw [Host.dynamicSlice_eq_extractStridedSlice_of_clamp _ x st h ![k, 0, 0, 0] (fun a => by
    match a with
    | ⟨0, _⟩ => show (min (max (st 0) 0) ((32 - 1 : ℕ) : Int)).toNat = k; rw [h0]; omega
    | ⟨1, _⟩ => show (min (max (st 1) 0) ((2 - 2 : ℕ) : Int)).toNat = 0; rw [h1 1 (by decide)]; rfl
    | ⟨2, _⟩ => show (min (max (st 2) 0) ((2 - 2 : ℕ) : Int)).toNat = 0; rw [h1 2 (by decide)]; rfl
    | ⟨3, _⟩ => show (min (max (st 3) 0) ((8 - 8 : ℕ) : Int)).toNat = 0; rw [h1 3 (by decide)]; rfl) hh]
  funext i
  refine congrArg x (funext fun a => Fin.ext ?_)
  have hi : (i 0).val < 1 := (i 0).isLt
  match a with
  | ⟨0, _⟩ => show k + (i 0).val = k; omega
  | ⟨1, _⟩ => show 0 + (i 1).val = (i 1).val; omega
  | ⟨2, _⟩ => show 0 + (i 2).val = (i 2).val; omega
  | ⟨3, _⟩ => show 0 + (i 3).val = (i 3).val; omega

/-- A new row `k` in the stacked states. -/
theorem update6 (x : S32x2x2x8x64x128.Idx → EReal) (u : S1x2x2x8x64x128.Idx → EReal) (st : Fin 6 → Int) (h) (k : ℕ) (hk : k < 32)
    (h0 : st 0 = (k : Int)) (h1 : ∀ a, a ≠ 0 → st a = 0) (j : Fin 32) (b g : Fin 2) (e : Fin 8) (p : Fin 64) (n : Fin 128) :
    Host.dynamicUpdateSlice x u st h (ix6 j b g e p n) = if j.val = k then u (ix6 (0 : Fin 1) b g e p n) else x (ix6 j b g e p n) := by
  have hh : S32x2x2x8x64x128.Slices ![k, 0, 0, 0, 0, 0] S1x2x2x8x64x128 := by
    refine ⟨rfl, fun a => ?_⟩
    match a with
    | ⟨0, _⟩ => show k + 1 ≤ 32; omega
    | ⟨1, _⟩ => show 0 + 2 ≤ 2; omega
    | ⟨2, _⟩ => show 0 + 2 ≤ 2; omega
    | ⟨3, _⟩ => show 0 + 8 ≤ 8; omega
    | ⟨4, _⟩ => show 0 + 64 ≤ 64; omega
    | ⟨5, _⟩ => show 0 + 128 ≤ 128; omega
  rw [Host.dynamicUpdateSlice_eq_updateSlice x u st h ![k, 0, 0, 0, 0, 0] (fun a => by
    match a with
    | ⟨0, _⟩ => show (min (max (st 0) 0) ((32 - 1 : ℕ) : Int)).toNat = k; rw [h0]; omega
    | ⟨1, _⟩ => show (min (max (st 1) 0) ((2 - 2 : ℕ) : Int)).toNat = 0; rw [h1 1 (by decide)]; rfl
    | ⟨2, _⟩ => show (min (max (st 2) 0) ((2 - 2 : ℕ) : Int)).toNat = 0; rw [h1 2 (by decide)]; rfl
    | ⟨3, _⟩ => show (min (max (st 3) 0) ((8 - 8 : ℕ) : Int)).toNat = 0; rw [h1 3 (by decide)]; rfl
    | ⟨4, _⟩ => show (min (max (st 4) 0) ((64 - 64 : ℕ) : Int)).toNat = 0; rw [h1 4 (by decide)]; rfl
    | ⟨5, _⟩ => show (min (max (st 5) 0) ((128 - 128 : ℕ) : Int)).toNat = 0; rw [h1 5 (by decide)]; rfl) hh]
  unfold updateSlice
  by_cases hj : j.val = k
  · rw [if_pos hj, dif_pos]
    · refine congrArg u (funext fun a => Fin.ext ?_)
      match a with
      | ⟨0, _⟩ => show j.val - k = 0; omega
      | ⟨1, _⟩ => show b.val - 0 = b.val; omega
      | ⟨2, _⟩ => show g.val - 0 = g.val; omega
      | ⟨3, _⟩ => show e.val - 0 = e.val; omega
      | ⟨4, _⟩ => show p.val - 0 = p.val; omega
      | ⟨5, _⟩ => show n.val - 0 = n.val; omega
    · intro a
      match a with
      | ⟨0, _⟩ => show k ≤ j.val ∧ j.val < k + 1; omega
      | ⟨1, _⟩ => show 0 ≤ b.val ∧ b.val < 0 + 2; omega
      | ⟨2, _⟩ => show 0 ≤ g.val ∧ g.val < 0 + 2; omega
      | ⟨3, _⟩ => show 0 ≤ e.val ∧ e.val < 0 + 8; omega
      | ⟨4, _⟩ => show 0 ≤ p.val ∧ p.val < 0 + 64; omega
      | ⟨5, _⟩ => show 0 ≤ n.val ∧ n.val < 0 + 128; omega
  · rw [if_neg hj, dif_neg]
    intro hin
    have := hin 0
    change k ≤ j.val ∧ j.val < k + 1 at this
    omega

/-- The state after one more chunk: the decayed state plus the chunk's addition. -/
theorem X_3 (k : ℕ) (hk : k < 32) (b : Fin 2) (g : Fin 2) (h : Fin 8) (p : Fin 64) (n : Fin 128) :
    (X m c (k + 1) (Proc.devRef .tc main_v93_3) : S2x2x8x64x128.Idx → EReal) (ix5 b g h p n)
      = E (W0 m c (Proc.devRef .tc main_v93_1) (ix4 (⟨k, hk⟩ : Fin 32) b g h)) * E (X m c k (Proc.devRef .tc main_v93_3) (ix5 b g h p n))
        + E (W0 m c (Proc.devRef .tc main_v93_0) (ix6 (⟨k, hk⟩ : Fin 32) b g h p n)) := by
  rw [X_succ, STEP_main_v93_3]
  unfold step_main_v93_3
  rw [X_0, X_1, X_2, iv_eq]
  simp only [id_eq]
  clean_types
  rw [slice6 _ _ _ k hk (toInt_ofNat k hk) (fun a ha => by fin_cases a <;> first | exact absurd rfl ha | rfl), slice4 _ _ _ k hk (toInt_ofNat k hk) (fun a ha => by fin_cases a <;> first | exact absurd rfl ha | rfl)]
  pointwise

/-- The stored states: the one that enters chunk `k` is stored at step `k` and stays. -/
theorem X_4 (k : ℕ) (hk : k < 32) (j : Fin 32) (b : Fin 2) (g : Fin 2) (h : Fin 8) (p : Fin 64) (n : Fin 128) :
    (X m c (k + 1) (Proc.devRef .tc main_v93_4) : S32x2x2x8x64x128.Idx → EReal) (ix6 j b g h p n)
      = if j.val = k then E (X m c k (Proc.devRef .tc main_v93_3) (ix5 b g h p n))
        else E (X m c k (Proc.devRef .tc main_v93_4) (ix6 j b g h p n)) := by
  rw [X_succ, STEP_main_v93_4]
  unfold step_main_v93_4
  rw [X_2, iv_eq]
  simp only [id_eq]
  clean_types
  rw [update6 _ _ _ _ k hk (toInt_ofNat k hk) (fun a ha => by fin_cases a <;> first | exact absurd rfl ha | rfl)]
  pointwise

/-- After all steps, place `j` of the stored states holds the state before step `j`. -/
theorem X_stored (j : Fin 32) (b : Fin 2) (g : Fin 2) (h : Fin 8) (p : Fin 64) (n : Fin 128) :
    ∀ k, j.val < k → k ≤ 32 → (X m c k (Proc.devRef .tc main_v93_4) : S32x2x2x8x64x128.Idx → EReal) (ix6 j b g h p n)
      = E (X m c j.val (Proc.devRef .tc main_v93_3) (ix5 b g h p n))
  | 0, h0, _ => absurd h0 (Nat.not_lt_zero _)
  | k + 1, h0, h1 => by
    rw [X_4 m c k (by omega)]
    by_cases e : j.val = k
    · rw [if_pos e, e]
    · rw [if_neg e]
      exact X_stored j b g h p n k (by omega) (by omega)

end Cert.ReferenceIdeal.Value

end
-- ==== Proof.RPost.lean ====
module

public import proofs.«01_k».proof.Proof.RPre
public import Idealize.ShloMosaic.Lib.ValueIdxRank6

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Ssd (silu norm)

variable (V : Valuation τ sig (Elt Ideal))

/-- The scan's value at a position: what comes from within the chunk, what comes from the state, and the skipped input. -/
theorem s13_v108 (b : Fin 2) (t : Fin 4096) (d : Fin 1024) :
    (after hostOps0_13 V (Proc.devRef .tc main_v108) : S2x4096x1024.Idx → EReal) (ix3 b t d)
      = (E (V (Proc.devRef .tc main_v77) (ix6 b (⟨t.val / 128, by omega⟩ : Fin 32) (⟨t.val % 128, by omega⟩ : Fin 128) (⟨d.val / 64 / 8, by omega⟩ : Fin 2) (⟨d.val / 64 % 8, by omega⟩ : Fin 8) (⟨d.val % 64, by omega⟩ : Fin 64)))
          + (∑ n : Fin 128, E (V (Proc.devRef .tc main_v93_4) (ix6 (⟨t.val / 128, by omega⟩ : Fin 32) b (⟨d.val / 64 / 8, by omega⟩ : Fin 2) (⟨d.val / 64 % 8, by omega⟩ : Fin 8) (⟨d.val % 64, by omega⟩ : Fin 64) n))
              * E (V (Proc.devRef .tc main_v55) (ix5 b (⟨t.val / 128, by omega⟩ : Fin 32) (⟨t.val % 128, by omega⟩ : Fin 128) (⟨d.val / 64 / 8, by omega⟩ : Fin 2) n)))
            * Ideal.exp (E (V (Proc.devRef .tc main_v60) (ix5 b (⟨t.val / 128, by omega⟩ : Fin 32) (⟨t.val % 128, by omega⟩ : Fin 128) (⟨d.val / 64 / 8, by omega⟩ : Fin 2) (⟨d.val / 64 % 8, by omega⟩ : Fin 8)))))
        + E (V (Proc.devRef .tc main_arg5) (ix1 (⟨d.val / 64, by omega⟩ : Fin 16)))
          * E (V (Proc.devRef .tc main_v40) (ix4 b t (⟨d.val / 64, by omega⟩ : Fin 16) (⟨d.val % 64, by omega⟩ : Fin 64))) := by
  after_reads_at

/-- The gate's activation. -/
theorem s14_v109 (b : Fin 2) (t : Fin 4096) (j : Fin 1024) :
    (after hostOps0_14 V (Proc.devRef .tc main_v109) : S2x4096x1024.Idx → EReal) (ix3 b t j)
      = silu (E (V (Proc.devRef .tc main_v0) (ix3 b t j))) := by
  after_reads_at
  rfl

/-- The result: the gated values of a row, normalised and weighted. -/
theorem s15_v125 (r : Fin 8192) (d : Fin 1024) :
    (after hostOps0_15 V (Proc.devRef .tc main_v125) : S8192x1024.Idx → EReal) (ix2 r d)
      = norm (fun i => E (V (Proc.devRef .tc main_v108) (ix3 (⟨r.val / 4096, by omega⟩ : Fin 2) (⟨r.val % 4096, by omega⟩ : Fin 4096) i)) * E (V (Proc.devRef .tc main_v109) (ix3 (⟨r.val / 4096, by omega⟩ : Fin 2) (⟨r.val % 4096, by omega⟩ : Fin 4096) i))) d
        * E (V (Proc.devRef .tc main_arg6) (ix1 d)) := by
  after_reads_at
  rfl

end Cert.ReferenceIdeal.Value

end
-- ==== Proof.RValue.lean ====
module

public import proofs.«01_k».proof.Proof.RLoop
public import proofs.«01_k».proof.Proof.RPost
public import proofs.«01_k».proof.Proof.Reads
public import Idealize.ShloMosaic.Lib.Quiescent

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Ssd (Args argsOf silu softplus act tap dt la cs cbm dec yd yo hn yf st gated out norm)

variable (L : Valuation τ sig (Elt Ideal))

/-! ### The contents after each stretch before the loop -/

/-- The contents at the start. -/
def Z0 : Valuation τ sig (Elt Ideal) := L

/-- The contents after the first 1 stretches. -/
def Z1 : Valuation τ sig (Elt Ideal) := after hostOps0 (Z0 L)

/-- Stretch 1 keeps every buffer that it does not write. -/
theorem kp1 (r : Ref sig .tc) (h : r ∉ hostOps0_W) : Z1 L (Proc.devRef .tc r) = Z0 L (Proc.devRef .tc r) :=
  after_of_writes_sub hostOps0 (Z0 L) hostOps0_writes h

/-- The contents after the first 2 stretches. -/
def Z2 : Valuation τ sig (Elt Ideal) := after hostOps0_1 (Z1 L)

/-- Stretch 2 keeps every buffer that it does not write. -/
theorem kp2 (r : Ref sig .tc) (h : r ∉ hostOps0_1_W) : Z2 L (Proc.devRef .tc r) = Z1 L (Proc.devRef .tc r) :=
  after_of_writes_sub hostOps0_1 (Z1 L) hostOps0_1_writes h

/-- The contents after the first 3 stretches. -/
def Z3 : Valuation τ sig (Elt Ideal) := after hostOps0_2 (Z2 L)

/-- Stretch 3 keeps every buffer that it does not write. -/
theorem kp3 (r : Ref sig .tc) (h : r ∉ hostOps0_2_W) : Z3 L (Proc.devRef .tc r) = Z2 L (Proc.devRef .tc r) :=
  after_of_writes_sub hostOps0_2 (Z2 L) hostOps0_2_writes h

/-- The contents after the first 4 stretches. -/
def Z4 : Valuation τ sig (Elt Ideal) := after hostOps0_3 (Z3 L)

/-- Stretch 4 keeps every buffer that it does not write. -/
theorem kp4 (r : Ref sig .tc) (h : r ∉ hostOps0_3_W) : Z4 L (Proc.devRef .tc r) = Z3 L (Proc.devRef .tc r) :=
  after_of_writes_sub hostOps0_3 (Z3 L) hostOps0_3_writes h

/-- The contents after the first 5 stretches. -/
def Z5 : Valuation τ sig (Elt Ideal) := after hostOps0_4 (Z4 L)

/-- Stretch 5 keeps every buffer that it does not write. -/
theorem kp5 (r : Ref sig .tc) (h : r ∉ hostOps0_4_W) : Z5 L (Proc.devRef .tc r) = Z4 L (Proc.devRef .tc r) :=
  after_of_writes_sub hostOps0_4 (Z4 L) hostOps0_4_writes h

/-- The contents after the first 6 stretches. -/
def Z6 : Valuation τ sig (Elt Ideal) := after hostOps0_5 (Z5 L)

/-- Stretch 6 keeps every buffer that it does not write. -/
theorem kp6 (r : Ref sig .tc) (h : r ∉ hostOps0_5_W) : Z6 L (Proc.devRef .tc r) = Z5 L (Proc.devRef .tc r) :=
  after_of_writes_sub hostOps0_5 (Z5 L) hostOps0_5_writes h

/-- The contents after the first 7 stretches. -/
def Z7 : Valuation τ sig (Elt Ideal) := after hostOps0_6 (Z6 L)

/-- Stretch 7 keeps every buffer that it does not write. -/
theorem kp7 (r : Ref sig .tc) (h : r ∉ hostOps0_6_W) : Z7 L (Proc.devRef .tc r) = Z6 L (Proc.devRef .tc r) :=
  after_of_writes_sub hostOps0_6 (Z6 L) hostOps0_6_writes h

/-- The contents after the first 8 stretches. -/
def Z8 : Valuation τ sig (Elt Ideal) := after hostOps0_7 (Z7 L)

/-- Stretch 8 keeps every buffer that it does not write. -/
theorem kp8 (r : Ref sig .tc) (h : r ∉ hostOps0_7_W) : Z8 L (Proc.devRef .tc r) = Z7 L (Proc.devRef .tc r) :=
  after_of_writes_sub hostOps0_7 (Z7 L) hostOps0_7_writes h

/-- The contents after the first 9 stretches. -/
def Z9 : Valuation τ sig (Elt Ideal) := after hostOps0_8 (Z8 L)

/-- Stretch 9 keeps every buffer that it does not write. -/
theorem kp9 (r : Ref sig .tc) (h : r ∉ hostOps0_8_W) : Z9 L (Proc.devRef .tc r) = Z8 L (Proc.devRef .tc r) :=
  after_of_writes_sub hostOps0_8 (Z8 L) hostOps0_8_writes h

/-- The contents after the first 10 stretches. -/
def Z10 : Valuation τ sig (Elt Ideal) := after hostOps0_9 (Z9 L)

/-- Stretch 10 keeps every buffer that it does not write. -/
theorem kp10 (r : Ref sig .tc) (h : r ∉ hostOps0_9_W) : Z10 L (Proc.devRef .tc r) = Z9 L (Proc.devRef .tc r) :=
  after_of_writes_sub hostOps0_9 (Z9 L) hostOps0_9_writes h

/-- The contents after the first 11 stretches. -/
def Z11 : Valuation τ sig (Elt Ideal) := after hostOps0_10 (Z10 L)

/-- Stretch 11 keeps every buffer that it does not write. -/
theorem kp11 (r : Ref sig .tc) (h : r ∉ hostOps0_10_W) : Z11 L (Proc.devRef .tc r) = Z10 L (Proc.devRef .tc r) :=
  after_of_writes_sub hostOps0_10 (Z10 L) hostOps0_10_writes h

/-- The contents after the first 12 stretches. -/
def Z12 : Valuation τ sig (Elt Ideal) := after hostOps0_11 (Z11 L)

/-- Stretch 12 keeps every buffer that it does not write. -/
theorem kp12 (r : Ref sig .tc) (h : r ∉ hostOps0_11_W) : Z12 L (Proc.devRef .tc r) = Z11 L (Proc.devRef .tc r) :=
  after_of_writes_sub hostOps0_11 (Z11 L) hostOps0_11_writes h

/-- The contents after the first 13 stretches. -/
def Z13 : Valuation τ sig (Elt Ideal) := after hostOps0_12 (Z12 L)

/-- Stretch 13 keeps every buffer that it does not write. -/
theorem kp13 (r : Ref sig .tc) (h : r ∉ hostOps0_12_W) : Z13 L (Proc.devRef .tc r) = Z12 L (Proc.devRef .tc r) :=
  after_of_writes_sub hostOps0_12 (Z12 L) hostOps0_12_writes h

/-- The recurrence's inputs as the argument buffers hold them. -/
def argsV : Args :=
  argsOf (fun b t ch => (L (Proc.devRef .tc main_arg0) : S2x4096x6752.Idx → EReal) (ix3 b t ch))
    (fun k ch => (L (Proc.devRef .tc main_arg1) : S4x1536.Idx → EReal) (ix2 k ch))
    (fun ch => (L (Proc.devRef .tc main_arg2) : S1536.Idx → EReal) (ix1 ch))
    (fun h => (L (Proc.devRef .tc main_arg3) : S16.Idx → EReal) (ix1 h))
    (fun h => (L (Proc.devRef .tc main_arg4) : S16.Idx → EReal) (ix1 h))
    (fun h => (L (Proc.devRef .tc main_arg5) : S16.Idx → EReal) (ix1 h))
    (fun d => (L (Proc.devRef .tc main_arg6) : S1024.Idx → EReal) (ix1 d))

/-- The projection as the argument buffer holds it. -/
theorem a_proj (b t ch : ℕ) (hb : b < 2) (ht : t < 4096) (hc : ch < 6752) :
    (L (Proc.devRef .tc main_arg0) : S2x4096x6752.Idx → EReal) (ix3 ⟨b, hb⟩ ⟨t, ht⟩ ⟨ch, hc⟩) = (argsV L).proj b t ch := by
  unfold argsV Ssd.argsOf; dsimp only; rw [Ssd.ext3_of_lt _ _ _ _ hb ht hc]

/-- The convolution's taps as the argument buffer holds them. -/
theorem a_w (k : Fin 4) (ch : Fin 1536) :
    (L (Proc.devRef .tc main_arg1) : S4x1536.Idx → EReal) (ix2 k ch) = (argsV L).w k.val ch.val := by
  unfold argsV Ssd.argsOf; dsimp only; rw [Ssd.ext2_of_lt _ _ _ k.isLt ch.isLt]

/-- The convolution's bias as the argument buffer holds them. -/
theorem a_b (i : Fin 1536) : (L (Proc.devRef .tc main_arg2) : S1536.Idx → EReal) (ix1 i) = (argsV L).b i.val := by
  unfold argsV Ssd.argsOf; dsimp only; rw [Ssd.ext1_of_lt _ _ i.isLt]

/-- The step sizes' bias as the argument buffer holds them. -/
theorem a_dtb (i : Fin 16) : (L (Proc.devRef .tc main_arg3) : S16.Idx → EReal) (ix1 i) = (argsV L).dtb i.val := by
  unfold argsV Ssd.argsOf; dsimp only; rw [Ssd.ext1_of_lt _ _ i.isLt]

/-- The decay rates' logarithms as the argument buffer holds them. -/
theorem a_al (i : Fin 16) : (L (Proc.devRef .tc main_arg4) : S16.Idx → EReal) (ix1 i) = (argsV L).al i.val := by
  unfold argsV Ssd.argsOf; dsimp only; rw [Ssd.ext1_of_lt _ _ i.isLt]

/-- The skip weights as the argument buffer holds them. -/
theorem a_ds (i : Fin 16) : (L (Proc.devRef .tc main_arg5) : S16.Idx → EReal) (ix1 i) = (argsV L).ds i.val := by
  unfold argsV Ssd.argsOf; dsimp only; rw [Ssd.ext1_of_lt _ _ i.isLt]

/-- The normalisation's weights as the argument buffer holds them. -/
theorem a_nw (i : Fin 1024) : (L (Proc.devRef .tc main_arg6) : S1024.Idx → EReal) (ix1 i) = (argsV L).nw i.val := by
  unfold argsV Ssd.argsOf; dsimp only; rw [Ssd.ext1_of_lt _ _ i.isLt]

/-! ### What the stretches before the loop compute -/

/-- The padded columns hold the convolution's inputs. -/
theorem e_v3 (b : Fin 2) (t : Fin 4096) (k : ℕ) (hk : k < 4) (j : Fin 1536) :
    (Z2 L (Proc.devRef .tc main_v3) : S2x4099x1536.Idx → EReal) (ix3 b ⟨k + t.val, by omega⟩ j) = tap (argsV L) b.val k t.val j.val := by
  unfold Z2
  rw [s1_v3 (Z1 L) b _ j (fun i => s0_c L i)]
  unfold tap
  dsimp only
  by_cases h : 3 ≤ k + t.val
  · rw [dif_pos h, if_neg (by omega)]
    refine (s0_v1 L b _ j).trans ?_
    rw [a_proj L b.val (k + t.val - 3) (1024 + j.val) b.isLt (by omega) (by omega), Nat.add_comm t.val k]
  · rw [dif_neg h, if_pos (by omega)]

/-- The same, without the shift written out. -/
theorem e_v3_0 (b : Fin 2) (t : Fin 4096) (j : Fin 1536) :
    (Z2 L (Proc.devRef .tc main_v3) : S2x4099x1536.Idx → EReal) (ix3 b ⟨t.val, by omega⟩ j) = tap (argsV L) b.val 0 t.val j.val := by
  rw [← e_v3 L b t 0 (by omega) j]
  exact congrArg _ (congrArg (fun x => ix3 b x j) (Fin.ext (Nat.zero_add _).symm))

/-- The activated convolution. -/
theorem e_v36 (b : Fin 2) (t : Fin 4096) (j : Fin 1536) :
    (Z4 L (Proc.devRef .tc main_v36) : S2x4096x1536.Idx → EReal) (ix3 b t j) = act (argsV L) b.val t.val j.val := by
  unfold Z4
  rw [s3_v36]
  unfold Z3
  rw [s2_v35, zero_add]
  rw [kp2 L main_arg1 (by decide), kp1 L main_arg1 (by decide), kp2 L main_arg2 (by decide), kp1 L main_arg2 (by decide)]
  unfold act
  refine congrArg silu ?_
  unfold E
  rw [e_v3_0 L b t j, e_v3 L b t 1 (by omega) j, e_v3 L b t 2 (by omega) j, e_v3 L b t 3 (by omega) j]
  show _ = tap (argsV L) b.val 0 t.val j.val * (argsV L).w 0 j.val + tap (argsV L) b.val 1 t.val j.val * (argsV L).w 1 j.val
    + tap (argsV L) b.val 2 t.val j.val * (argsV L).w 2 j.val + tap (argsV L) b.val 3 t.val j.val * (argsV L).w 3 j.val + (argsV L).b j.val
  rw [← a_b L j, show (argsV L).w 0 j.val = _ from (a_w L 0 j).symm, show (argsV L).w 1 j.val = _ from (a_w L 1 j).symm,
    show (argsV L).w 2 j.val = _ from (a_w L 2 j).symm, show (argsV L).w 3 j.val = _ from (a_w L 3 j).symm]
  rfl

/-- The scanned columns. -/
theorem e_v40 (b : Fin 2) (t : Fin 4096) (h : Fin 16) (p : Fin 64) :
    (Z5 L (Proc.devRef .tc main_v40) : S2x4096x16x64.Idx → EReal) (ix4 b t h p) = act (argsV L) b.val t.val (h.val * 64 + p.val) := by
  unfold Z5
  rw [s4_v40]
  exact e_v36 L b t _

/-- The columns that enter the state. -/
theorem e_v38 (b : Fin 2) (t : Fin 4096) (j : Fin 256) :
    (Z5 L (Proc.devRef .tc main_v38) : S2x4096x256.Idx → EReal) (ix3 b t j) = act (argsV L) b.val t.val (1024 + j.val) := by
  unfold Z5
  rw [s4_v38]
  exact e_v36 L b t _

/-- The columns that read the state. -/
theorem e_v39 (b : Fin 2) (t : Fin 4096) (j : Fin 256) :
    (Z5 L (Proc.devRef .tc main_v39) : S2x4096x256.Idx → EReal) (ix3 b t j) = act (argsV L) b.val t.val (1280 + j.val) := by
  unfold Z5
  rw [s4_v39]
  exact e_v36 L b t _

/-- The step sizes. -/
theorem e_v44 (b : Fin 2) (t : Fin 4096) (h : Fin 16) :
    (Z6 L (Proc.devRef .tc main_v44) : S2x4096x16.Idx → EReal) (ix3 b t h) = dt (argsV L) b.val t.val h.val := by
  unfold Z6
  rw [s5_v44]
  unfold Z5
  rw [s4_v43]
  rw [kp4 L main_v2 (by decide), kp3 L main_v2 (by decide), kp2 L main_v2 (by decide), kp4 L main_arg3 (by decide), kp3 L main_arg3 (by decide), kp2 L main_arg3 (by decide), kp1 L main_arg3 (by decide)]
  unfold Z1 dt
  rw [s0_v2]
  refine congrArg softplus ?_
  exact congrArg₂ (fun x y : EReal => x + y) (a_proj L b.val t.val (2560 + h.val) b.isLt t.isLt (by omega)) (a_dtb L h)

/-- The inputs of the recurrence. -/
theorem e_v53 (b : Fin 2) (c : Fin 32) (s : Fin 128) (g : Fin 2) (h : Fin 8) (p : Fin 64) :
    (Z7 L (Proc.devRef .tc main_v53) : S2x32x128x2x8x64.Idx → EReal) (ix6 b c s g h p) = Ssd.X (argsV L) b.val c.val s.val ((g.val * 8 + h.val) * 64 + p.val) := by
  unfold Z7
  rw [s6_v53, kp6 L main_v40 (by decide)]
  unfold E Ssd.X Ssd.U
  rw [e_v40, e_v44]
  have h1 : ((g.val * 8 + h.val) * 64 + p.val) / 64 = g.val * 8 + h.val := by omega
  rw [h1, Nat.mul_comm 128 c.val]

/-- The columns that enter the state, by chunk and group. -/
theorem e_v54 (b : Fin 2) (c : Fin 32) (s : Fin 128) (g : Fin 2) (n : Fin 128) :
    (Z7 L (Proc.devRef .tc main_v54) : S2x32x128x2x128.Idx → EReal) (ix5 b c s g n) = Ssd.U (argsV L) b.val c.val s.val (1024 + 128 * g.val + n.val) := by
  unfold Z7
  rw [s6_v54, kp6 L main_v38 (by decide)]
  unfold E Ssd.U
  rw [e_v38]
  show act _ _ (c.val * 128 + s.val) (1024 + (g.val * 128 + n.val)) = _
  congr 1 <;> omega

/-- The columns that read the state, by chunk and group. -/
theorem e_v55 (b : Fin 2) (c : Fin 32) (s : Fin 128) (g : Fin 2) (n : Fin 128) :
    (Z7 L (Proc.devRef .tc main_v55) : S2x32x128x2x128.Idx → EReal) (ix5 b c s g n) = Ssd.U (argsV L) b.val c.val s.val (1280 + 128 * g.val + n.val) := by
  unfold Z7
  rw [s6_v55, kp6 L main_v39 (by decide)]
  unfold E Ssd.U
  rw [e_v39]
  show act _ _ (c.val * 128 + s.val) (1280 + (g.val * 128 + n.val)) = _
  congr 1 <;> omega

/-- The logarithms of the decays. -/
theorem e_v59 (b : Fin 2) (c : Fin 32) (s : Fin 128) (g : Fin 2) (h : Fin 8) :
    (Z7 L (Proc.devRef .tc main_v59) : S2x32x128x2x8.Idx → EReal) (ix5 b c s g h) = la (argsV L) b.val (128 * c.val + s.val) (g.val * 8 + h.val) := by
  unfold Z7
  rw [s6_v59, kp6 L main_arg4 (by decide), kp5 L main_arg4 (by decide), kp4 L main_arg4 (by decide), kp3 L main_arg4 (by decide), kp2 L main_arg4 (by decide), kp1 L main_arg4 (by decide)]
  unfold E la
  rw [e_v44, Nat.mul_comm 128 c.val]
  exact congrArg (fun x => dt (argsV L) b.val (c.val * 128 + s.val) (g.val * 8 + h.val) * -Ideal.exp x) (a_al L ⟨g.val * 8 + h.val, by omega⟩)

/-- The running sums of the logarithms. -/
theorem e_v60 (b : Fin 2) (c : Fin 32) (l : Fin 128) (g : Fin 2) (h : Fin 8) :
    (Z8 L (Proc.devRef .tc main_v60) : S2x32x128x2x8.Idx → EReal) (ix5 b c l g h) = cs (argsV L) b.val c.val l.val (g.val * 8 + h.val) := by
  unfold Z8
  rw [s7_v60]
  unfold cs
  show (_ : EReal) = _
  refine Finset.sum_congr rfl fun k _ => ?_
  unfold E
  rw [e_v59]

/-- The masked differences of the running sums. -/
theorem e_v69 (b : Fin 2) (c : Fin 32) (l s : Fin 128) (g : Fin 2) (h : Fin 8) :
    (Z12 L (Proc.devRef .tc main_v69) : S2x32x128x128x2x8.Idx → EReal) (ix6 b c l s g h)
      = if s.val ≤ l.val then cs (argsV L) b.val c.val l.val (g.val * 8 + h.val) - cs (argsV L) b.val c.val s.val (g.val * 8 + h.val) else ⊥ := by
  unfold Z12 Z11
  rw [s1011_v69 (Z10 L) b c l s g h (fun l s => s89_v62 (Z8 L) l s)]
  rw [kp10 L main_v60 (by decide), kp9 L main_v60 (by decide)]
  unfold E
  rw [e_v60, e_v60]

/-- What the chunk's own rows give. -/
theorem e_v77 (b : Fin 2) (c : Fin 32) (l : Fin 128) (g : Fin 2) (h : Fin 8) (p : Fin 64) :
    (Z13 L (Proc.devRef .tc main_v77) : S2x32x128x2x8x64.Idx → EReal) (ix6 b c l g h p)
      = yd (Ssd.U (argsV L) b.val c.val) (cs (argsV L) b.val c.val) (Ssd.X (argsV L) b.val c.val) l.val ((g.val * 8 + h.val) * 64 + p.val) := by
  unfold Z13
  rw [s12_v77]
  rw [kp12 L main_v53 (by decide), kp11 L main_v53 (by decide), kp10 L main_v53 (by decide), kp9 L main_v53 (by decide), kp8 L main_v53 (by decide), kp12 L main_v54 (by decide), kp11 L main_v54 (by decide), kp10 L main_v54 (by decide), kp9 L main_v54 (by decide), kp8 L main_v54 (by decide), kp12 L main_v55 (by decide), kp11 L main_v55 (by decide), kp10 L main_v55 (by decide), kp9 L main_v55 (by decide), kp8 L main_v55 (by decide)]
  unfold yd E
  have h1 : ((g.val * 8 + h.val) * 64 + p.val) / 64 = g.val * 8 + h.val := by omega
  have h2 : ((g.val * 8 + h.val) * 64 + p.val) / 512 = g.val := by omega
  rw [h1, h2]
  show (_ : EReal) = _
  refine Finset.sum_congr rfl fun s _ => ?_
  rw [e_v53, e_v69, mul_comm]
  unfold cbm dec
  refine congrArg (fun x => x * _ * _) (Finset.sum_congr rfl fun n _ => ?_)
  rw [e_v54, e_v55, mul_comm]

/-- What each chunk adds to the state. -/
theorem e_v93_0 (b : Fin 2) (c : Fin 32) (g : Fin 2) (h : Fin 8) (p : Fin 64) (n : Fin 128) :
    (Z13 L (Proc.devRef .tc main_v93_0) : S32x2x2x8x64x128.Idx → EReal) (ix6 c b g h p n)
      = ∑ s : Fin 128, Ssd.U (argsV L) b.val c.val s.val (1024 + 128 * g.val + n.val)
          * (Ssd.X (argsV L) b.val c.val s.val ((g.val * 8 + h.val) * 64 + p.val)
            * Ideal.exp (cs (argsV L) b.val c.val 127 (g.val * 8 + h.val) - cs (argsV L) b.val c.val s.val (g.val * 8 + h.val))) := by
  unfold Z13
  rw [s12_v93_0]
  rw [kp12 L main_v53 (by decide), kp11 L main_v53 (by decide), kp10 L main_v53 (by decide), kp9 L main_v53 (by decide), kp8 L main_v53 (by decide), kp12 L main_v54 (by decide), kp11 L main_v54 (by decide), kp10 L main_v54 (by decide), kp9 L main_v54 (by decide), kp8 L main_v54 (by decide), kp12 L main_v60 (by decide), kp11 L main_v60 (by decide), kp10 L main_v60 (by decide), kp9 L main_v60 (by decide)]
  unfold E
  show (_ : EReal) = _
  refine Finset.sum_congr rfl fun s _ => ?_
  rw [e_v53, e_v54, e_v60, e_v60, mul_comm, mul_comm (Ideal.exp _)]
  rfl

/-- The decay of the state over each chunk. -/
theorem e_v93_1 (b : Fin 2) (c : Fin 32) (g : Fin 2) (h : Fin 8) :
    (Z13 L (Proc.devRef .tc main_v93_1) : S32x2x2x8.Idx → EReal) (ix4 c b g h) = Ideal.exp (cs (argsV L) b.val c.val 127 (g.val * 8 + h.val)) := by
  unfold Z13
  rw [s12_v93_1]
  rw [kp12 L main_v60 (by decide), kp11 L main_v60 (by decide), kp10 L main_v60 (by decide), kp9 L main_v60 (by decide)]
  unfold E
  rw [e_v60]
  rfl

/-! ### After the loop -/

variable (m : (ℓ : Loc nD τ sig) → Buf (Elt Ideal) ℓ) (c : Dev nD)

/-- The state before step `k` of the loop is the state that enters chunk `k`. -/
theorem e_state (b : Fin 2) (g : Fin 2) (h : Fin 8) (p : Fin 64) (n : Fin 128) :
    ∀ k, k ≤ 32 → (Value.X m c k (Proc.devRef .tc main_v93_3) : S2x2x8x64x128.Idx → EReal) (ix5 b g h p n)
      = st (argsV (launchContents m c)) b.val k n.val ((g.val * 8 + h.val) * 64 + p.val)
  | 0, _ => s12_v93_3 (Z12 (launchContents m c)) b g h p n
  | k + 1, hk => by
    rw [X_3 m c k (by omega)]
    unfold E
    rw [e_state b g h p n k (by omega)]
    have e1 : (W0 m c (Proc.devRef .tc main_v93_1) : S32x2x2x8.Idx → EReal) (ix4 (⟨k, by omega⟩ : Fin 32) b g h) = _ :=
      e_v93_1 (launchContents m c) b ⟨k, by omega⟩ g h
    have e0 : (W0 m c (Proc.devRef .tc main_v93_0) : S32x2x2x8x64x128.Idx → EReal) (ix6 (⟨k, by omega⟩ : Fin 32) b g h p n) = _ :=
      e_v93_0 (launchContents m c) b ⟨k, by omega⟩ g h p n
    have h1 : ((g.val * 8 + h.val) * 64 + p.val) / 64 = g.val * 8 + h.val := by omega
    have h2 : ((g.val * 8 + h.val) * 64 + p.val) / 512 = g.val := by omega
    rw [e1, e0]
    show _ = hn _ _ _ _ _ _
    unfold hn
    rw [h1, h2]

/-- The contents after the loop, before the last stretches. -/
def Y : Valuation τ sig (Elt Ideal) := after condOps (atK m 32 c)

/-- The loop keeps every buffer that it does not write. -/
theorem kpY (r : Ref sig .tc) (hc : r ∉ condOps_W) (h0 : r ∉ while0Ops0_W) (h1 : r ∉ while0Ops0_1_W) (h2 : r ∉ while0Ops0_2_W)
    (h3 : r ∉ while0Ops0_3_W) (h4 : r ∉ while0Ops0_4_W) : Y m c (Proc.devRef .tc r) = Z13 (launchContents m c) (Proc.devRef .tc r) :=
  (after_of_writes_sub _ _ condOps_writes hc).trans (kept m c r hc h0 h1 h2 h3 h4 32)

/-- The stored states after the loop. -/
theorem e_stored (j : Fin 32) (b : Fin 2) (g : Fin 2) (h : Fin 8) (p : Fin 64) (n : Fin 128) :
    (Y m c (Proc.devRef .tc main_v93_4) : S32x2x2x8x64x128.Idx → EReal) (ix6 j b g h p n)
      = st (argsV (launchContents m c)) b.val j.val n.val ((g.val * 8 + h.val) * 64 + p.val) := by
  have e : Y m c (Proc.devRef .tc main_v93_4) = Value.X m c 32 (Proc.devRef .tc main_v93_4) :=
    (after_of_writes_sub _ _ condOps_writes (by decide)).trans (atK_agree m c 32 main_v93_4 (by decide))
  rw [e, X_stored m c j b g h p n 32 j.isLt le_rfl]
  exact e_state m c b g h p n j.val (by omega)

/-- The references that the first stretch after the loop writes. -/
abbrev post13_W : List (Ref sig .tc) := [main_v94, main_v95, main_v96, main_v97, main_v98, main_v99, main_v100, main_v101, main_v102, main_v103, main_v104, main_v105, main_v106, main_v107, main_v108]
/-- The first stretch after the loop writes these references only. -/
theorem post13_writes : (hostOps0_13 : List (HloOp τ sig (Elt Ideal))).Forall fun op => op.writes ⊆ (post13_W.map (Proc.devRef (τ := τ) .tc)).toFinset :=
  StableHlo.forall_writes_sub_of_map rfl
/-- The references that the second stretch after the loop writes. -/
abbrev post14_W : List (Ref sig .tc) := [main_call9_v0, main_call9_v1, main_call9_cst, main_call9_v2, main_call9_v3, main_call9_cst_0, main_call9_v4, main_call9_v5, main_v109]
/-- The second stretch after the loop writes these references only. -/
theorem post14_writes : (hostOps0_14 : List (HloOp τ sig (Elt Ideal))).Forall fun op => op.writes ⊆ (post14_W.map (Proc.devRef (τ := τ) .tc)).toFinset :=
  StableHlo.forall_writes_sub_of_map rfl
/-- The references that the last stretch writes. -/
abbrev post15_W : List (Ref sig .tc) := [main_v110, main_v111, main_cst_5, main_v112, main_v113, main_cst_6, main_v114, main_v115, main_cst_7, main_v116, main_v117, main_v118, main_v119, main_v120, main_v121, main_v122, main_v123, main_v124, main_v125]
/-- The last stretch writes these references only. -/
theorem post15_writes : (hostOps0_15 : List (HloOp τ sig (Elt Ideal))).Forall fun op => op.writes ⊆ (post15_W.map (Proc.devRef (τ := τ) .tc)).toFinset :=
  StableHlo.forall_writes_sub_of_map rfl

/-- The scan's value at a position: the sum of the three contributions. -/
theorem e_v108 (b : Fin 2) (t : Fin 4096) (d : Fin 1024) :
    (after hostOps0_13 (Y m c) (Proc.devRef .tc main_v108) : S2x4096x1024.Idx → EReal) (ix3 b t d)
      = yd (Ssd.U (argsV (launchContents m c)) b.val (t.val / 128)) (cs (argsV (launchContents m c)) b.val (t.val / 128)) (Ssd.X (argsV (launchContents m c)) b.val (t.val / 128)) (t.val % 128) d.val
        + yo (Ssd.U (argsV (launchContents m c)) b.val (t.val / 128)) (cs (argsV (launchContents m c)) b.val (t.val / 128)) (st (argsV (launchContents m c)) b.val (t.val / 128)) (t.val % 128) d.val
        + (argsV (launchContents m c)).ds (d.val / 64) * Ssd.U (argsV (launchContents m c)) b.val (t.val / 128) (t.val % 128) d.val := by
  have hd : (d.val / 64 / 8 * 8 + d.val / 64 % 8) * 64 + d.val % 64 = d.val := by omega
  have hh : d.val / 64 / 8 * 8 + d.val / 64 % 8 = d.val / 64 := by omega
  have hg : d.val / 64 / 8 = d.val / 512 := by omega
  have ht : 128 * (t.val / 128) + t.val % 128 = t.val := by omega
  have hd' : d.val / 64 * 64 + d.val % 64 = d.val := by omega
  rw [s13_v108]
  rw [kpY m c main_v77 (by decide) (by decide) (by decide) (by decide) (by decide) (by decide), kpY m c main_v55 (by decide) (by decide) (by decide) (by decide) (by decide) (by decide), kpY m c main_v60 (by decide) (by decide) (by decide) (by decide) (by decide) (by decide), kpY m c main_arg5 (by decide) (by decide) (by decide) (by decide) (by decide) (by decide), kpY m c main_v40 (by decide) (by decide) (by decide) (by decide) (by decide) (by decide)]
  rw [kp13 _ main_v55 (by decide), kp12 _ main_v55 (by decide), kp11 _ main_v55 (by decide), kp10 _ main_v55 (by decide), kp9 _ main_v55 (by decide), kp8 _ main_v55 (by decide), kp13 _ main_v60 (by decide), kp12 _ main_v60 (by decide), kp11 _ main_v60 (by decide), kp10 _ main_v60 (by decide), kp9 _ main_v60 (by decide), kp13 _ main_arg5 (by decide), kp12 _ main_arg5 (by decide), kp11 _ main_arg5 (by decide), kp10 _ main_arg5 (by decide), kp9 _ main_arg5 (by decide), kp8 _ main_arg5 (by decide), kp7 _ main_arg5 (by decide), kp6 _ main_arg5 (by decide), kp5 _ main_arg5 (by decide), kp4 _ main_arg5 (by decide), kp3 _ main_arg5 (by decide), kp2 _ main_arg5 (by decide), kp1 _ main_arg5 (by decide), kp13 _ main_v40 (by decide), kp12 _ main_v40 (by decide), kp11 _ main_v40 (by decide), kp10 _ main_v40 (by decide), kp9 _ main_v40 (by decide), kp8 _ main_v40 (by decide), kp7 _ main_v40 (by decide), kp6 _ main_v40 (by decide)]
  unfold E
  have e1 := e_v77 (launchContents m c) b (⟨t.val / 128, by omega⟩ : Fin 32) (⟨t.val % 128, by omega⟩ : Fin 128) (⟨d.val / 64 / 8, by omega⟩ : Fin 2) (⟨d.val / 64 % 8, by omega⟩ : Fin 8) (⟨d.val % 64, by omega⟩ : Fin 64)
  have e2 := fun n : Fin 128 => e_stored m c (⟨t.val / 128, by omega⟩ : Fin 32) b (⟨d.val / 64 / 8, by omega⟩ : Fin 2) (⟨d.val / 64 % 8, by omega⟩ : Fin 8) (⟨d.val % 64, by omega⟩ : Fin 64) n
  have e3 := fun n : Fin 128 => e_v55 (launchContents m c) b (⟨t.val / 128, by omega⟩ : Fin 32) (⟨t.val % 128, by omega⟩ : Fin 128) (⟨d.val / 64 / 8, by omega⟩ : Fin 2) n
  have e4 := e_v60 (launchContents m c) b (⟨t.val / 128, by omega⟩ : Fin 32) (⟨t.val % 128, by omega⟩ : Fin 128) (⟨d.val / 64 / 8, by omega⟩ : Fin 2) (⟨d.val / 64 % 8, by omega⟩ : Fin 8)
  have e5 := e_v40 (launchContents m c) b t (⟨d.val / 64, by omega⟩ : Fin 16) (⟨d.val % 64, by omega⟩ : Fin 64)
  have e6 := a_ds (launchContents m c) (⟨d.val / 64, by omega⟩ : Fin 16)
  dsimp only at e1 e2 e3 e4 e5 e6
  rw [hd] at e1
  rw [hh] at e4
  rw [hd'] at e5
  simp only [hd] at e2
  simp only [hg] at e3
  unfold yo Ssd.U
  rw [ht, ← e5]
  unfold Ssd.U at e3
  rw [ht] at e3
  refine congrArg₂ (fun x y : EReal => x + y) (congrArg₂ (fun x y : EReal => x + y) e1 ?_) (congrArg₂ (fun x y : EReal => x * y) e6 rfl)
  refine congrArg₂ (fun x y : EReal => x * y) ?_ (congrArg Ideal.exp e4)
  refine Finset.sum_congr rfl fun n _ => ?_
  rw [mul_comm (act _ _ _ _)]
  refine congrArg₂ (fun x y : EReal => x * y) (e2 n) ?_
  simp only [hg]
  exact e3 n

/-- The reference's result at row `r` and column `d`. -/
theorem final (r : Fin 8192) (d : Fin 1024) :
    (finalContents condOps preI bodyI postI 32 m c (Proc.devRef .tc main_v125) : S8192x1024.Idx → EReal) (ix2 r d)
      = out (argsV (launchContents m c)) (r.val / 128 / 32) (r.val / 128 % 32) (r.val % 128) d := by
  show (after hostOps0_15 (after hostOps0_14 (after hostOps0_13 (Y m c))) (Proc.devRef .tc main_v125) : S8192x1024.Idx → EReal) (ix2 r d) = _
  have hb : r.val / 4096 = r.val / 128 / 32 := by omega
  have hc : r.val % 4096 / 128 = r.val / 128 % 32 := by omega
  have hl : r.val % 4096 % 128 = r.val % 128 := by omega
  have ht : 128 * (r.val / 128 % 32) + r.val % 128 = r.val % 4096 := by omega
  rw [s15_v125, after_of_writes_sub _ _ post14_writes (r := main_v108) (by decide)]
  rw [after_of_writes_sub _ _ post14_writes (r := main_arg6) (by decide), after_of_writes_sub _ _ post13_writes (r := main_arg6) (by decide), kpY m c main_arg6 (by decide) (by decide) (by decide) (by decide) (by decide) (by decide), kp13 _ main_arg6 (by decide), kp12 _ main_arg6 (by decide), kp11 _ main_arg6 (by decide), kp10 _ main_arg6 (by decide), kp9 _ main_arg6 (by decide), kp8 _ main_arg6 (by decide), kp7 _ main_arg6 (by decide), kp6 _ main_arg6 (by decide), kp5 _ main_arg6 (by decide), kp4 _ main_arg6 (by decide), kp3 _ main_arg6 (by decide), kp2 _ main_arg6 (by decide), kp1 _ main_arg6 (by decide)]
  unfold out
  refine congrArg₂ (· * ·) (congrArg (fun f => norm f d) (funext fun i => ?_)) (a_nw (launchContents m c) d)
  unfold E gated yf
  rw [e_v108, s14_v109, after_of_writes_sub _ _ post13_writes (r := main_v0) (by decide), kpY m c main_v0 (by decide) (by decide) (by decide) (by decide) (by decide) (by decide), kp13 _ main_v0 (by decide), kp12 _ main_v0 (by decide), kp11 _ main_v0 (by decide), kp10 _ main_v0 (by decide), kp9 _ main_v0 (by decide), kp8 _ main_v0 (by decide), kp7 _ main_v0 (by decide), kp6 _ main_v0 (by decide), kp5 _ main_v0 (by decide), kp4 _ main_v0 (by decide), kp3 _ main_v0 (by decide), kp2 _ main_v0 (by decide)]
  unfold Z1 E
  rw [s0_v0]
  dsimp only
  unfold E Z0
  rw [a_proj (launchContents m c) _ _ _ (by omega) (by omega) (by omega), hb, hc, hl, ht]

/-- Argument buffer 0 keeps its contents. -/
theorem arg0_kept : finalContents condOps preI bodyI postI 32 m c (Proc.devRef .tc main_arg0) = m ((c.tc : Thread nD τ).loc main_arg0) := by
  show after hostOps0_15 (after hostOps0_14 (after hostOps0_13 (Y m c))) (Proc.devRef .tc main_arg0) = _
  rw [after_of_writes_sub _ _ post15_writes (r := main_arg0) (by decide), after_of_writes_sub _ _ post14_writes (r := main_arg0) (by decide), after_of_writes_sub _ _ post13_writes (r := main_arg0) (by decide), kpY m c main_arg0 (by decide) (by decide) (by decide) (by decide) (by decide) (by decide), kp13 _ main_arg0 (by decide), kp12 _ main_arg0 (by decide), kp11 _ main_arg0 (by decide), kp10 _ main_arg0 (by decide), kp9 _ main_arg0 (by decide), kp8 _ main_arg0 (by decide), kp7 _ main_arg0 (by decide), kp6 _ main_arg0 (by decide), kp5 _ main_arg0 (by decide), kp4 _ main_arg0 (by decide), kp3 _ main_arg0 (by decide), kp2 _ main_arg0 (by decide), kp1 _ main_arg0 (by decide)]
  rfl

/-- Argument buffer 1 keeps its contents. -/
theorem arg1_kept : finalContents condOps preI bodyI postI 32 m c (Proc.devRef .tc main_arg1) = m ((c.tc : Thread nD τ).loc main_arg1) := by
  show after hostOps0_15 (after hostOps0_14 (after hostOps0_13 (Y m c))) (Proc.devRef .tc main_arg1) = _
  rw [after_of_writes_sub _ _ post15_writes (r := main_arg1) (by decide), after_of_writes_sub _ _ post14_writes (r := main_arg1) (by decide), after_of_writes_sub _ _ post13_writes (r := main_arg1) (by decide), kpY m c main_arg1 (by decide) (by decide) (by decide) (by decide) (by decide) (by decide), kp13 _ main_arg1 (by decide), kp12 _ main_arg1 (by decide), kp11 _ main_arg1 (by decide), kp10 _ main_arg1 (by decide), kp9 _ main_arg1 (by decide), kp8 _ main_arg1 (by decide), kp7 _ main_arg1 (by decide), kp6 _ main_arg1 (by decide), kp5 _ main_arg1 (by decide), kp4 _ main_arg1 (by decide), kp3 _ main_arg1 (by decide), kp2 _ main_arg1 (by decide), kp1 _ main_arg1 (by decide)]
  rfl

/-- Argument buffer 2 keeps its contents. -/
theorem arg2_kept : finalContents condOps preI bodyI postI 32 m c (Proc.devRef .tc main_arg2) = m ((c.tc : Thread nD τ).loc main_arg2) := by
  show after hostOps0_15 (after hostOps0_14 (after hostOps0_13 (Y m c))) (Proc.devRef .tc main_arg2) = _
  rw [after_of_writes_sub _ _ post15_writes (r := main_arg2) (by decide), after_of_writes_sub _ _ post14_writes (r := main_arg2) (by decide), after_of_writes_sub _ _ post13_writes (r := main_arg2) (by decide), kpY m c main_arg2 (by decide) (by decide) (by decide) (by decide) (by decide) (by decide), kp13 _ main_arg2 (by decide), kp12 _ main_arg2 (by decide), kp11 _ main_arg2 (by decide), kp10 _ main_arg2 (by decide), kp9 _ main_arg2 (by decide), kp8 _ main_arg2 (by decide), kp7 _ main_arg2 (by decide), kp6 _ main_arg2 (by decide), kp5 _ main_arg2 (by decide), kp4 _ main_arg2 (by decide), kp3 _ main_arg2 (by decide), kp2 _ main_arg2 (by decide), kp1 _ main_arg2 (by decide)]
  rfl

/-- Argument buffer 3 keeps its contents. -/
theorem arg3_kept : finalContents condOps preI bodyI postI 32 m c (Proc.devRef .tc main_arg3) = m ((c.tc : Thread nD τ).loc main_arg3) := by
  show after hostOps0_15 (after hostOps0_14 (after hostOps0_13 (Y m c))) (Proc.devRef .tc main_arg3) = _
  rw [after_of_writes_sub _ _ post15_writes (r := main_arg3) (by decide), after_of_writes_sub _ _ post14_writes (r := main_arg3) (by decide), after_of_writes_sub _ _ post13_writes (r := main_arg3) (by decide), kpY m c main_arg3 (by decide) (by decide) (by decide) (by decide) (by decide) (by decide), kp13 _ main_arg3 (by decide), kp12 _ main_arg3 (by decide), kp11 _ main_arg3 (by decide), kp10 _ main_arg3 (by decide), kp9 _ main_arg3 (by decide), kp8 _ main_arg3 (by decide), kp7 _ main_arg3 (by decide), kp6 _ main_arg3 (by decide), kp5 _ main_arg3 (by decide), kp4 _ main_arg3 (by decide), kp3 _ main_arg3 (by decide), kp2 _ main_arg3 (by decide), kp1 _ main_arg3 (by decide)]
  rfl

/-- Argument buffer 4 keeps its contents. -/
theorem arg4_kept : finalContents condOps preI bodyI postI 32 m c (Proc.devRef .tc main_arg4) = m ((c.tc : Thread nD τ).loc main_arg4) := by
  show after hostOps0_15 (after hostOps0_14 (after hostOps0_13 (Y m c))) (Proc.devRef .tc main_arg4) = _
  rw [after_of_writes_sub _ _ post15_writes (r := main_arg4) (by decide), after_of_writes_sub _ _ post14_writes (r := main_arg4) (by decide), after_of_writes_sub _ _ post13_writes (r := main_arg4) (by decide), kpY m c main_arg4 (by decide) (by decide) (by decide) (by decide) (by decide) (by decide), kp13 _ main_arg4 (by decide), kp12 _ main_arg4 (by decide), kp11 _ main_arg4 (by decide), kp10 _ main_arg4 (by decide), kp9 _ main_arg4 (by decide), kp8 _ main_arg4 (by decide), kp7 _ main_arg4 (by decide), kp6 _ main_arg4 (by decide), kp5 _ main_arg4 (by decide), kp4 _ main_arg4 (by decide), kp3 _ main_arg4 (by decide), kp2 _ main_arg4 (by decide), kp1 _ main_arg4 (by decide)]
  rfl

/-- Argument buffer 5 keeps its contents. -/
theorem arg5_kept : finalContents condOps preI bodyI postI 32 m c (Proc.devRef .tc main_arg5) = m ((c.tc : Thread nD τ).loc main_arg5) := by
  show after hostOps0_15 (after hostOps0_14 (after hostOps0_13 (Y m c))) (Proc.devRef .tc main_arg5) = _
  rw [after_of_writes_sub _ _ post15_writes (r := main_arg5) (by decide), after_of_writes_sub _ _ post14_writes (r := main_arg5) (by decide), after_of_writes_sub _ _ post13_writes (r := main_arg5) (by decide), kpY m c main_arg5 (by decide) (by decide) (by decide) (by decide) (by decide) (by decide), kp13 _ main_arg5 (by decide), kp12 _ main_arg5 (by decide), kp11 _ main_arg5 (by decide), kp10 _ main_arg5 (by decide), kp9 _ main_arg5 (by decide), kp8 _ main_arg5 (by decide), kp7 _ main_arg5 (by decide), kp6 _ main_arg5 (by decide), kp5 _ main_arg5 (by decide), kp4 _ main_arg5 (by decide), kp3 _ main_arg5 (by decide), kp2 _ main_arg5 (by decide), kp1 _ main_arg5 (by decide)]
  rfl

/-- Argument buffer 6 keeps its contents. -/
theorem arg6_kept : finalContents condOps preI bodyI postI 32 m c (Proc.devRef .tc main_arg6) = m ((c.tc : Thread nD τ).loc main_arg6) := by
  show after hostOps0_15 (after hostOps0_14 (after hostOps0_13 (Y m c))) (Proc.devRef .tc main_arg6) = _
  rw [after_of_writes_sub _ _ post15_writes (r := main_arg6) (by decide), after_of_writes_sub _ _ post14_writes (r := main_arg6) (by decide), after_of_writes_sub _ _ post13_writes (r := main_arg6) (by decide), kpY m c main_arg6 (by decide) (by decide) (by decide) (by decide) (by decide) (by decide), kp13 _ main_arg6 (by decide), kp12 _ main_arg6 (by decide), kp11 _ main_arg6 (by decide), kp10 _ main_arg6 (by decide), kp9 _ main_arg6 (by decide), kp8 _ main_arg6 (by decide), kp7 _ main_arg6 (by decide), kp6 _ main_arg6 (by decide), kp5 _ main_arg6 (by decide), kp4 _ main_arg6 (by decide), kp3 _ main_arg6 (by decide), kp2 _ main_arg6 (by decide), kp1 _ main_arg6 (by decide)]
  rfl

/-- The value both programs are shown to compute, over the reference's arguments. -/
def result : S8192x1024.Idx → EReal := fun i =>
  out (argsV (launchContents m c)) ((i 0).val / 128 / 32) ((i 0).val / 128 % 32) ((i 0).val % 128) (i 1)

/-- The reference's result array. -/
theorem final_eq : (finalContents condOps preI bodyI postI 32 m c (Proc.devRef .tc main_v125) : S8192x1024.Idx → EReal) = result m c := by
  funext i
  have hi : i = ix2 (i 0) (i 1) := by funext k; fin_cases k <;> rfl
  rw [hi]
  exact final m c (i 0) (i 1)

/-- The reference runs, leaves its result and keeps its arguments; every counter ends at zero. -/
theorem run (ρ : Dev nD → PrngReg) : θ_run (defs (F := Ideal)) (onTc (τ := τ) (main (F := Ideal))) ⟨m, fun _ => 0, ρ⟩
    (fun r => (∀ c : Dev nD, (r.2.mem ((c.tc : Thread nD τ).loc main_v125) : S8192x1024.Idx → EReal) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run (defs (F := Ideal)) _ _).mono (fun r h => ⟨fun c => ⟨(h c main_v125 rfl).trans (final_eq m c),
    (h c main_arg0 rfl).trans (arg0_kept m c),
    (h c main_arg1 rfl).trans (arg1_kept m c),
    (h c main_arg2 rfl).trans (arg2_kept m c),
    (h c main_arg3 rfl).trans (arg3_kept m c),
    (h c main_arg4 rfl).trans (arg4_kept m c),
    (h c main_arg5 rfl).trans (arg5_kept m c),
    (h c main_arg6 rfl).trans (arg6_kept m c)⟩, sem_eq_zero_of_no_sems rfl _⟩) (run_fold m ρ)

end Cert.ReferenceIdeal.Value

end
-- ==== Proof.SsdPair.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.KFinal
public import proofs.«01_k».proof.Proof.RValue
public import Idealize.ShloMosaic.Adequacy
public import Idealize.ShloMosaic.Init

@[expose] public section

set_option maxRecDepth 16384

noncomputable section

namespace Cert.Ssd.Pair

open Idealize.ShloMosaic Idealize.SL.Sem Cert.Kernel

/-- From memories that agree on the arguments the two programs' argument records are equal. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.argsV (StableHlo.launchContents m' c) = Cert.KernelIdeal.Value.args m c := by
  have e : Cert.ReferenceIdeal.Value.argsV (StableHlo.launchContents m' c) = Cert.Ssd.argsOf
      (fun b t ch => (m' ((c.tc : Thread Cert.ReferenceIdeal.nD Cert.ReferenceIdeal.τ).loc Cert.ReferenceIdeal.main_arg0) : Cert.ReferenceIdeal.S2x4096x6752.Idx → EReal) (ix3 b t ch))
      (fun k ch => (m' ((c.tc : Thread Cert.ReferenceIdeal.nD Cert.ReferenceIdeal.τ).loc Cert.ReferenceIdeal.main_arg1) : Cert.ReferenceIdeal.S4x1536.Idx → EReal) (ix2 k ch))
      (fun ch => (m' ((c.tc : Thread Cert.ReferenceIdeal.nD Cert.ReferenceIdeal.τ).loc Cert.ReferenceIdeal.main_arg2) : Cert.ReferenceIdeal.S1536.Idx → EReal) (ix1 ch))
      (fun h => (m' ((c.tc : Thread Cert.ReferenceIdeal.nD Cert.ReferenceIdeal.τ).loc Cert.ReferenceIdeal.main_arg3) : Cert.ReferenceIdeal.S16.Idx → EReal) (ix1 h))
      (fun h => (m' ((c.tc : Thread Cert.ReferenceIdeal.nD Cert.ReferenceIdeal.τ).loc Cert.ReferenceIdeal.main_arg4) : Cert.ReferenceIdeal.S16.Idx → EReal) (ix1 h))
      (fun h => (m' ((c.tc : Thread Cert.ReferenceIdeal.nD Cert.ReferenceIdeal.τ).loc Cert.ReferenceIdeal.main_arg5) : Cert.ReferenceIdeal.S16.Idx → EReal) (ix1 h))
      (fun d => (m' ((c.tc : Thread Cert.ReferenceIdeal.nD Cert.ReferenceIdeal.τ).loc Cert.ReferenceIdeal.main_arg6) : Cert.ReferenceIdeal.S1024.Idx → EReal) (ix1 d)) := rfl
  rw [e, h0, h1, h2, h3, h4, h5, h6]
  rfl

/-- The value claim: the kernel and the reference compute the same array. -/
theorem algebraic : Cert.algebraic_KernelIdeal_ReferenceIdeal := by
  pair_intro
  · run_from Cert.KernelIdeal.Value.run m g
  · run_from Cert.ReferenceIdeal.Value.run m' g'
    obtain ⟨h0, h1, h2, h3, h4, h5, h6⟩ := hagree c
    have e := args_agree m m' c h0 h1 h2 h3 h4 h5 h6
    show (Cert.ReferenceIdeal.Value.result m' c : Cert.ReferenceIdeal.S8192x1024.Idx → EReal) = Cert.KernelIdeal.Value.G15 m c
    funext i
    have hi : i = ix2 (i 0) (i 1) := by funext k; fin_cases k <;> rfl
    rw [hi]
    refine Eq.trans ?_ (Cert.KernelIdeal.Value.final m c (i 0) (i 1)).symm
    unfold Cert.ReferenceIdeal.Value.result
    rw [e]
    rfl

end Cert.Ssd.Pair

end
-- ==== Proof.Plan.lean ====
module

public import Idealize.ShloMosaic.Lib.WordCmp
public import Idealize.ShloMosaic.PureOps

@[expose] public section

namespace Cert.Moe

open Idealize.ShloMosaic Idealize.ShloMosaic.WordCmp

/-- A routing plan: block `b` of the sorted rows is computed with expert `e b`, and the first `nb` of the 380
    blocks are in use. These are the only facts about the two tables that the proof needs. -/
structure Plan where
  /-- the expert of each block -/
  e : ℕ → ℕ
  /-- how many blocks are in use -/
  nb : ℕ
  he : ∀ b, e b < 64
  h1 : 1 ≤ nb
  h2 : nb ≤ 380

/-- The signed comparison `a < b` of two small words is the comparison of the numbers. -/
theorem slt_flag {a b : ℕ} (ha : a < 2 ^ 31) (hb : b < 2 ^ 31) :
    Scalar.cmpi .ne (Scalar.extui (Scalar.cmpi .slt (BitVec.ofNat 32 a) (BitVec.ofNat 32 b))) 0#32 = 1#1 ↔ a < b := by
  have h := cmpi_slt_ofNat_eq_one_iff (w := 32) (a := a) (b := b) ha hb
  have h' : ∀ x : BitVec 1, (Scalar.cmpi .ne (Scalar.extui x) 0#32 = 1#1) ↔ x = 1#1 := by decide
  exact (h' _).trans h

/-- The smaller of a small word and `n - 1`, as a number. -/
theorem min_pred {a n : ℕ} (ha : a < 2 ^ 31) (hn : n < 2 ^ 31) (h1 : 1 ≤ n) :
    (Scalar.minsi (BitVec.ofNat 32 a) (Scalar.subi (BitVec.ofNat 32 n) 1#32)).toNat = min a (n - 1) := by
  have hs : Scalar.subi (BitVec.ofNat 32 n) 1#32 = BitVec.ofNat 32 (n - 1) := by
    apply BitVec.eq_of_toNat_eq
    simp only [Scalar.subi, IntOp.subi, BitVec.toNat_sub, BitVec.toNat_ofNat]
    omega
  rw [hs]
  have ea : (BitVec.ofNat 32 a).toInt = a := by
    rw [toInt_eq_toNat_of_lt_half (by simp only [BitVec.toNat_ofNat]; omega)]; simp only [BitVec.toNat_ofNat]; omega
  have en : (BitVec.ofNat 32 (n - 1)).toInt = (n - 1 : ℕ) := by
    rw [toInt_eq_toNat_of_lt_half (by simp only [BitVec.toNat_ofNat]; omega)]; simp only [BitVec.toNat_ofNat]; omega
  simp only [Scalar.minsi, IntOp.minsi, BitVec.slt_eq_decide, decide_eq_true_eq, ea, en]
  split <;> simp only [BitVec.toNat_ofNat] <;> omega

/-- The larger of `a - 1` and 0, as a number. -/
theorem pred_max {a : ℕ} (ha : a < 2 ^ 31) :
    (Scalar.maxsi (Scalar.subi (BitVec.ofNat 32 a) 1#32) 0#32).toNat = a - 1 := by
  by_cases h0 : a = 0
  · subst h0; decide
  have hs : Scalar.subi (BitVec.ofNat 32 a) 1#32 = BitVec.ofNat 32 (a - 1) := by
    apply BitVec.eq_of_toNat_eq
    simp only [Scalar.subi, IntOp.subi, BitVec.toNat_sub, BitVec.toNat_ofNat]
    omega
  rw [hs]
  have en : (BitVec.ofNat 32 (a - 1)).toInt = (a - 1 : ℕ) := by
    rw [toInt_eq_toNat_of_lt_half (by simp only [BitVec.toNat_ofNat]; omega)]; simp only [BitVec.toNat_ofNat]; omega
  simp only [Scalar.maxsi, IntOp.maxsi, BitVec.slt_eq_decide, decide_eq_true_eq, en]
  split
  · simp only [BitVec.toNat_ofNat]; omega
  · rename_i h
    have : (0#32).toInt = 0 := by decide
    simp only [this] at h
    simp only [BitVec.toNat_ofNat]; omega

/-- The reload flag: at block 0, or where the expert differs from the block before. -/
theorem reload_flag {a x y : ℕ} (ha : a < 2 ^ 31) (hx : x < 2 ^ 31) (hy : y < 2 ^ 31) :
    Scalar.cmpi .ne (Scalar.extui (Scalar.ori (Scalar.cmpi .eq (BitVec.ofNat 32 a) 0#32)
      (Scalar.cmpi .ne (BitVec.ofNat 32 x) (BitVec.ofNat 32 y)))) 0#32 = 1#1 ↔ a = 0 ∨ x ≠ y := by
  have h := cmpi_eq_ofNat_eq_one_iff (w := 32) (a := a) (b := 0) (by omega) (by omega)
  have h2 := cmpi_ne_ofNat_eq_one_iff (w := 32) (a := x) (b := y) (by omega) (by omega)
  have h' : ∀ p q : BitVec 1, (Scalar.cmpi .ne (Scalar.extui (Scalar.ori p q)) 0#32 = 1#1) ↔ (p = 1#1 ∨ q = 1#1) := by decide
  exact (h' _ _).trans (or_congr h h2)

end Cert.Moe

end
-- ==== Proof.Decode.lean ====
module

public import proofs.«01_k».proof.Proof.Gen.Pre_moe_plan
public import proofs.«01_k».proof.Proof.Gen.On_blocks_used
public import proofs.«01_k».proof.Proof.Plan
public import Idealize.ShloMosaic.Lib.ReduceAll
public import Idealize.ShloMosaic.Lib.ValueIdx

@[expose] public section

set_option maxRecDepth 16384

noncomputable section

namespace Cert.Moe

open Idealize.ShloMosaic Idealize.ShloMosaic.ValueIdx

/-- A bitwise `and` of two flags is set only if both are. -/
theorem and_flag {x y : BitVec 1} (h : x &&& y = 1#1) : x = 1#1 ∧ y = 1#1 := by revert x y; decide

/-- The signed comparison "at least", read as integers. -/
theorem sge_int {a b : BitVec 32} (h : IntOp.cmpi .sge a b = 1#1) : b.toInt ≤ a.toInt := by
  have h' : BitVec.ofBool (b.sle a) = 1#1 := h
  rw [BitVec.sle_eq_decide] at h'
  by_contra hn
  rw [decide_eq_false hn] at h'
  exact absurd h' (by decide)

/-- The signed comparison "at most", read as integers. -/
theorem sle_int {a b : BitVec 32} (h : IntOp.cmpi .sle a b = 1#1) : a.toInt ≤ b.toInt := by
  have h' : BitVec.ofBool (a.sle b) = 1#1 := h
  rw [BitVec.sle_eq_decide] at h'
  by_contra hn
  rw [decide_eq_false hn] at h'
  exact absurd h' (by decide)

/-- The signed comparison "less than", read as integers. -/
theorem slt_int {a b : BitVec 32} (h : IntOp.cmpi .slt a b = 1#1) : a.toInt < b.toInt := by
  have h' : BitVec.ofBool (a.slt b) = 1#1 := h
  rw [BitVec.slt_eq_decide] at h'
  by_contra hn
  rw [decide_eq_false hn] at h'
  exact absurd h' (by decide)

/-- A word whose signed reading is not negative reads the same as a natural number. -/
theorem toInt_nat {a : BitVec 32} (h : 0 ≤ a.toInt) : a.toInt = a.toNat := by
  rw [BitVec.toInt_eq_toNat_cond] at h ⊢
  have := a.isLt
  split at h <;> split <;> omega

/-- The precondition, decoded: the number of used blocks lies between 1 and 380, and every block's expert is below 64. -/
theorem plan_words {F : FTy → Type} [FloatOps F] [Cert.Pre_moe_plan.Facts] (B : IVec Cert.Pre_moe_plan.S380 32) (n : IVec Cert.Pre_moe_plan.S1 32)
    (X : FVec F Cert.Pre_moe_plan.S97280x2432 .bf16) (G U : FVec F Cert.Pre_moe_plan.S64x2048x512 .f32) (D : FVec F Cert.Pre_moe_plan.S64x512x2048 .f32)
    (h : Cert.Pre_moe_plan.fn (F := F) B n X G U D = fun _ => 1#1) :
    (1 ≤ (n (ix1 0)).toNat ∧ (n (ix1 0)).toNat ≤ 380) ∧ ∀ x, (B x).toNat < 64 := by
  have e := congrFun h (fun i => i.elim0)
  have hs := and_flag (show _ &&& _ = 1#1 from e)
  have : Subsingleton Cert.Pre_moe_plan.S_.Idx := ⟨fun a b => funext fun i => i.elim0⟩
  constructor
  · have k := and_flag (show _ &&& _ = 1#1 from Host.reduce_andi_all _ _ _ _ _ hs.1 (ix1 0))
    have k1 : (1#32).toInt ≤ (n (ix1 0)).toInt := sge_int k.1
    have k2 : (n (ix1 0)).toInt ≤ (380#32).toInt := sle_int k.2
    have e1 : (1#32).toInt = 1 := by decide
    have e2 : (380#32).toInt = 380 := by decide
    have := toInt_nat (a := n (ix1 0)) (by omega)
    omega
  · intro x
    have k := and_flag (show _ &&& _ = 1#1 from Host.reduce_andi_all _ _ _ _ _ hs.2 x)
    have k1 : (0#32).toInt ≤ (B x).toInt := sge_int k.1
    have k2 : (B x).toInt < (64#32).toInt := slt_int k.2
    have e1 : (0#32).toInt = 0 := by decide
    have e2 : (64#32).toInt = 64 := by decide
    have := toInt_nat (a := B x) (by omega)
    omega

/-- The plan that two tables within the precondition's bounds describe. -/
def planOf (B : IVec Cert.Pre_moe_plan.S380 32) (n : IVec Cert.Pre_moe_plan.S1 32)
    (h : (1 ≤ (n (ix1 0)).toNat ∧ (n (ix1 0)).toNat ≤ 380) ∧ ∀ x, (B x).toNat < 64) : Plan where
  e := fun b => if hb : b < 380 then (B (ix1 ⟨b, hb⟩)).toNat else 0
  nb := (n (ix1 0)).toNat
  he := fun b => by split; · exact h.2 _
                    · omega
  h1 := h.1.1
  h2 := h.1.2

/-- The blocks' table is the plan's, word by word. -/
theorem planOf_e (B : IVec Cert.Pre_moe_plan.S380 32) (n : IVec Cert.Pre_moe_plan.S1 32)
    (h : (1 ≤ (n (ix1 0)).toNat ∧ (n (ix1 0)).toNat ≤ 380) ∧ ∀ x, (B x).toNat < 64) :
    B = fun x => BitVec.ofNat 32 ((planOf B n h).e (x 0).val) := by
  funext x
  have hx : x = ix1 (x 0) := by funext k; fin_cases k; rfl
  have hb : (x 0).val < 380 := (x 0).isLt
  show B x = BitVec.ofNat 32 (if hb : (x 0).val < 380 then (B (ix1 ⟨(x 0).val, hb⟩)).toNat else 0)
  rw [dif_pos hb, BitVec.ofNat_toNat, BitVec.setWidth_eq]
  exact congrArg B hx

/-- The count's table is the plan's. -/
theorem planOf_nb (B : IVec Cert.Pre_moe_plan.S380 32) (n : IVec Cert.Pre_moe_plan.S1 32)
    (h : (1 ≤ (n (ix1 0)).toNat ∧ (n (ix1 0)).toNat ≤ 380) ∧ ∀ x, (B x).toNat < 64) :
    n = fun _ => BitVec.ofNat 32 (planOf B n h).nb := by
  funext x
  have hx : x = ix1 0 := by funext k; fin_cases k; exact Subsingleton.elim (α := Fin 1) _ _
  show n x = BitVec.ofNat 32 (n (ix1 0)).toNat
  rw [BitVec.ofNat_toNat, BitVec.setWidth_eq, hx]

/-- The mask, decoded: it is set only on rows of used blocks. -/
theorem mask_rows {F : FTy → Type} [FloatOps F] [Cert.On_blocks_used.Facts] (pl : Plan) (B : IVec Cert.On_blocks_used.S380 32) (n : IVec Cert.On_blocks_used.S1 32)
    (X : FVec F Cert.On_blocks_used.S97280x2432 .bf16) (G U : FVec F Cert.On_blocks_used.S64x2048x512 .f32) (D : FVec F Cert.On_blocks_used.S64x512x2048 .f32)
    (hn : n = fun _ => BitVec.ofNat 32 pl.nb) (i : Cert.On_blocks_used.S97280x2048.Idx)
    (h : Cert.On_blocks_used.fn (F := F) B n X G U D i = 1#1) : (i 0).val / 256 < pl.nb := by
  subst hn
  have k : (BitVec.ofNat 32 (i 0).val).toInt < (BitVec.ofNat 32 pl.nb * 256#32).toInt := slt_int h
  have hi : (i 0).val < 97280 := (i 0).isLt
  have h2 := pl.h2
  have e : BitVec.ofNat 32 pl.nb * 256#32 = BitVec.ofNat 32 (pl.nb * 256) := by
    apply BitVec.eq_of_toNat_eq
    simp only [BitVec.toNat_mul, BitVec.toNat_ofNat]
    omega
  have r : ∀ a : ℕ, a < 2 ^ 31 → (BitVec.ofNat 32 a).toInt = a := by
    intro a ha
    rw [WordCmp.toInt_eq_toNat_of_lt_half (by simp only [BitVec.toNat_ofNat]; omega)]; simp only [BitVec.toNat_ofNat]; omega
  rw [e, r _ (by omega), r _ (by omega)] at k
  omega

end Cert.Moe

end
-- ==== Proof.FrameBits.lean ====
module

public import proofs.«01_k».proof.Proof.PlanBits
public import proofs.«01_k».proof.Proof.Gen.Experts.Flash.Runs
public import Idealize.ShloMosaic.Lib.Pipeline.Quiescent
public import Idealize.ShloMosaic.Lib.Claim

@[expose] public section

set_option maxRecDepth 16384
set_option Elab.async false

noncomputable section

namespace Cert.Experts.Plan

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The proof's resource algebra: the rounds library's, for the pipeline's staging cells, embedded whole. -/
abbrev EP : Emb (UR sig nD τ) (MT nD τ sig Unit (Elt Bits) ℕ (UR sig nD τ) ℕ) := emb₁

variable (pl : Cert.Moe.Plan)
variable (m : (ℓ : Loc nD τ sig) → Buf (Elt Bits) ℓ) (ρ : Dev nD → PrngReg)

/-- Before the first point the scratch buffers hold anything; after it the weights of the last loaded expert. -/
def sfresh : ℕ → Bool
  | 0 => true
  | _ + 1 => false

/-- Only the first point starts with unknown scratch buffers. -/
theorem sfresh_pos {n : ℕ} (h : n ≠ 0) : sfresh n = false := by
  cases n with
  | zero => exact absurd rfl h
  | succ n => rfl

/-- Each window's current staging memref at point `t`, spelled as the pipeline passes it, and its wholeness. -/
abbrev ms0_0 (t : Fin (cfgA pl).N) : Memref sig .tc .vmem S256x2432 .bf16 := spec0_0.stage ((cfgA pl).slots t (0 : Fin 5))
abbrev hs0_0 (t : Fin (cfgA pl).N) : (ms0_0 pl t).IsWhole := hstage0_0 (((cfgA pl).slots t (0 : Fin 5)).cast nbuf0_0)
abbrev ms0_1 (t : Fin (cfgA pl).N) : Memref sig .tc .vmem S1x2048x512 .f32 := spec0_1.stage ((cfgA pl).slots t (1 : Fin 5))
abbrev hs0_1 (t : Fin (cfgA pl).N) : (ms0_1 pl t).IsWhole := hstage0_1 (((cfgA pl).slots t (1 : Fin 5)).cast nbuf0_1)
abbrev ms0_2 (t : Fin (cfgA pl).N) : Memref sig .tc .vmem S1x2048x512 .f32 := spec0_2.stage ((cfgA pl).slots t (2 : Fin 5))
abbrev hs0_2 (t : Fin (cfgA pl).N) : (ms0_2 pl t).IsWhole := hstage0_2 (((cfgA pl).slots t (2 : Fin 5)).cast nbuf0_2)
abbrev ms0_3 (t : Fin (cfgA pl).N) : Memref sig .tc .vmem S1x512x2048 .f32 := spec0_3.stage ((cfgA pl).slots t (3 : Fin 5))
abbrev hs0_3 (t : Fin (cfgA pl).N) : (ms0_3 pl t).IsWhole := hstage0_3 (((cfgA pl).slots t (3 : Fin 5)).cast nbuf0_3)
abbrev ms0_4 (t : Fin (cfgA pl).N) : Memref sig .tc .vmem S256x2048 .bf16 := spec0_4.stage ((cfgA pl).slots t (4 : Fin 5))
abbrev hs0_4 (t : Fin (cfgA pl).N) : (ms0_4 pl t).IsWhole := hstage0_4 (((cfgA pl).slots t (4 : Fin 5)).cast nbuf0_4)

/-! ## The windows' blocks -/

/-- Window `w`'s block at point `t`, read off its array at launch. -/
def iblk (c : Dev nD) (w : Fin (cfgA pl).W) (t : Fin (cfgA pl).N) : (((cfgA pl).win w).xblock (crd pl t)).Idx → Elt Bits ((cfgA pl).win w).elt :=
  (((cfgA pl).win w).blk t).view.read (Elt Bits) ((s₀ m ρ).mem (((cfgA pl).win w).arr.view.loc (c : Thread nD τ)))

/-! ## What the outputs and scratches hold after each point -/

/-- ONE STEP of the trajectory: what the outputs' current buffers and the scratches hold after the body at point `t`
    (output 4, scratch 0, scratch 1, scratch 2), from what they held before (`prev`): the path the decisions select at `t`, its
    run's contents; an output the path leaves idle keeps what it held (junk — `default`, named by nothing — where fresh). -/
def step0 (c : Dev nD) (t : Fin (cfgA pl).N) (prev : (S256x2048.Idx → Elt Bits .bf16) × Buf (Elt Bits) ((c : Thread nD τ).loc cc0_scratch0) × Buf (Elt Bits) ((c : Thread nD τ).loc cc0_scratch1) × Buf (Elt Bits) ((c : Thread nD τ).loc cc0_scratch2)) : (S256x2048.Idx → Elt Bits .bf16) × Buf (Elt Bits) ((c : Thread nD τ).loc cc0_scratch0) × Buf (Elt Bits) ((c : Thread nD τ).loc cc0_scratch1) × Buf (Elt Bits) ((c : Thread nD τ).loc cc0_scratch2) :=
  if q0 : P0_0 pl t then
    if q1 : P0_1 pl t then
      (out0_A_4 c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) q0 q1, (kernelRun0_A c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) q0 q1).2.1, (kernelRun0_A c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) q0 q1).2.2.1, (kernelRun0_A c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) q0 q1).2.2.2.1)
    else
      (out0_B_4 c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) prev.2.1 prev.2.2.1 prev.2.2.2 q0 q1, (kernelRun0_B c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) prev.2.1 prev.2.2.1 prev.2.2.2 q0 q1).2.1, (kernelRun0_B c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) prev.2.1 prev.2.2.1 prev.2.2.2 q0 q1).2.2.1, (kernelRun0_B c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) prev.2.1 prev.2.2.1 prev.2.2.2 q0 q1).2.2.2.1)
  else
    ((if (cfgA pl).fresh (4 : Fin 5) t.val then default else prev.1), (kernelRun0_C c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) prev.2.1 prev.2.2.1 prev.2.2.2 q0).1, (kernelRun0_C c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) prev.2.1 prev.2.2.1 prev.2.2.2 q0).2.1, (kernelRun0_C c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) prev.2.1 prev.2.2.1 prev.2.2.2 q0).2.2.1)

/-- THE TRAJECTORY: after position `n`. -/
def traj0 (c : Dev nD) : (n : ℕ) → n < (cfgA pl).N → (S256x2048.Idx → Elt Bits .bf16) × Buf (Elt Bits) ((c : Thread nD τ).loc cc0_scratch0) × Buf (Elt Bits) ((c : Thread nD τ).loc cc0_scratch1) × Buf (Elt Bits) ((c : Thread nD τ).loc cc0_scratch2)
  | 0, h => step0 pl m ρ c ⟨0, h⟩ (default, default, default, default)
  | n + 1, h => step0 pl m ρ c ⟨n + 1, h⟩ (traj0 c n (Nat.lt_of_succ_lt h))

/-- What they held BEFORE point `t` (junk before the first). -/
def prev0 (c : Dev nD) (t : Fin (cfgA pl).N) : (S256x2048.Idx → Elt Bits .bf16) × Buf (Elt Bits) ((c : Thread nD τ).loc cc0_scratch0) × Buf (Elt Bits) ((c : Thread nD τ).loc cc0_scratch1) × Buf (Elt Bits) ((c : Thread nD τ).loc cc0_scratch2) :=
  if h : t.val = 0 then (default, default, default, default) else traj0 pl m ρ c (t.val - 1) (by omega)

/-- The state after a point is the point's step from the state before. -/
theorem traj0_eq (c : Dev nD) (t : Fin (cfgA pl).N) : traj0 pl m ρ c t.val t.isLt = step0 pl m ρ c t (prev0 pl m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA pl).N) (prev : (S256x2048.Idx → Elt Bits .bf16) × Buf (Elt Bits) ((c : Thread nD τ).loc cc0_scratch0) × Buf (Elt Bits) ((c : Thread nD τ).loc cc0_scratch1) × Buf (Elt Bits) ((c : Thread nD τ).loc cc0_scratch2)) (q0 : P0_0 pl t) (q1 : P0_1 pl t) :
    step0 pl m ρ c t prev = (out0_A_4 c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) q0 q1, (kernelRun0_A c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) q0 q1).2.1, (kernelRun0_A c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) q0 q1).2.2.1, (kernelRun0_A c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) q0 q1).2.2.2.1) := by
  unfold step0; simp only [dif_pos q0, dif_pos q1]

/-- `step0` at a point of path B. -/
theorem step0_B (c : Dev nD) (t : Fin (cfgA pl).N) (prev : (S256x2048.Idx → Elt Bits .bf16) × Buf (Elt Bits) ((c : Thread nD τ).loc cc0_scratch0) × Buf (Elt Bits) ((c : Thread nD τ).loc cc0_scratch1) × Buf (Elt Bits) ((c : Thread nD τ).loc cc0_scratch2)) (q0 : P0_0 pl t) (q1 : ¬P0_1 pl t) :
    step0 pl m ρ c t prev = (out0_B_4 c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) prev.2.1 prev.2.2.1 prev.2.2.2 q0 q1, (kernelRun0_B c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) prev.2.1 prev.2.2.1 prev.2.2.2 q0 q1).2.1, (kernelRun0_B c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) prev.2.1 prev.2.2.1 prev.2.2.2 q0 q1).2.2.1, (kernelRun0_B c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) prev.2.1 prev.2.2.1 prev.2.2.2 q0 q1).2.2.2.1) := by
  unfold step0; simp only [dif_pos q0, dif_neg q1]

/-- `step0` at a point of path C. -/
theorem step0_C (c : Dev nD) (t : Fin (cfgA pl).N) (prev : (S256x2048.Idx → Elt Bits .bf16) × Buf (Elt Bits) ((c : Thread nD τ).loc cc0_scratch0) × Buf (Elt Bits) ((c : Thread nD τ).loc cc0_scratch1) × Buf (Elt Bits) ((c : Thread nD τ).loc cc0_scratch2)) (q0 : ¬P0_0 pl t) :
    step0 pl m ρ c t prev = ((if (cfgA pl).fresh (4 : Fin 5) t.val then default else prev.1), (kernelRun0_C c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) prev.2.1 prev.2.2.1 prev.2.2.2 q0).1, (kernelRun0_C c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) prev.2.1 prev.2.2.1 prev.2.2.2 q0).2.1, (kernelRun0_C c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) prev.2.1 prev.2.2.1 prev.2.2.2 q0).2.2.1) := by
  unfold step0; simp only [dif_neg q0]

/-! ## The pipeline's proof data -/

/-- What the tracked buffers held before position `t` of `Fin (N+1)` (the invariant's index). -/
def prev0T (c : Dev nD) (t : Fin ((cfgA pl).N + 1)) : (S256x2048.Idx → Elt Bits .bf16) × Buf (Elt Bits) ((c : Thread nD τ).loc cc0_scratch0) × Buf (Elt Bits) ((c : Thread nD τ).loc cc0_scratch1) × Buf (Elt Bits) ((c : Thread nD τ).loc cc0_scratch2) :=
  if h : t.val = 0 then (default, default, default, default) else traj0 pl m ρ c (t.val - 1) (by omega)

/-- The state before a point, counted from the start. -/
theorem prev0T_castSucc (c : Dev nD) (t : Fin (cfgA pl).N) : prev0T pl m ρ c t.castSucc = prev0 pl m ρ c t := by
  unfold prev0T prev0; simp only [Fin.val_castSucc]
/-- The state after a point, counted from the start. -/
theorem prev0T_succ (c : Dev nD) (t : Fin (cfgA pl).N) : prev0T pl m ρ c t.succ = traj0 pl m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Bits) ℓ) (ρ : Dev nD → PrngReg) (c : Dev nD) (t : Fin ((cfgA pl).N + 1)) : sProp (MT nD τ sig Unit (Elt Bits) ℕ (UR sig nD τ) ℕ) :=
  iprop((∃ a, ⌜sfresh t.val = false → a = (prev0T pl m ρ c t).2.1⌝ ∗ (scM0_0.view.loc (c : Thread nD τ) ↦{fullShare} a)) ∗ (∃ a, ⌜sfresh t.val = false → a = (prev0T pl m ρ c t).2.2.1⌝ ∗ (scM0_1.view.loc (c : Thread nD τ) ↦{fullShare} a)) ∗ (∃ a, ⌜sfresh t.val = false → a = (prev0T pl m ρ c t).2.2.2⌝ ∗ (scM0_2.view.loc (c : Thread nD τ) ↦{fullShare} a)) ∗ (tbM0_0.view.loc (c : Thread nD τ) ↦{fullShare.right} T0 pl) ∗ (tbM0_1.view.loc (c : Thread nD τ) ↦{fullShare.right} T1 pl))

/-- The proof data of the one pipeline on core `c`. -/
def dats (_ : Fin 1) (c : Dev nD) : Dat τ (Elt Bits) Unit ℕ (UR sig nD τ) ℕ (cfgA pl) c where
  A w := (s₀ m ρ).mem (((cfgA pl).win w).arr.view.loc (c : Thread nD τ))
  after w t := match w with
    | ⟨0, _⟩ => iblk pl m ρ c (0 : Fin 5) t
    | ⟨1, _⟩ => iblk pl m ρ c (1 : Fin 5) t
    | ⟨2, _⟩ => iblk pl m ρ c (2 : Fin 5) t
    | ⟨3, _⟩ => iblk pl m ρ c (3 : Fin 5) t
    | ⟨4, _⟩ => (traj0 pl m ρ c t.val t.isLt).1
  Φ t := Phi pl m ρ c t
  q _ := fullShare
  owed _ := 0

/-- Input window 0 is left as it was fetched. -/
theorem after0_0 (c : Dev nD) (t : Fin (cfgA pl).N) : (dats pl m ρ 0 c).after (0 : Fin 5) t = iblk pl m ρ c (0 : Fin 5) t := rfl
/-- Input window 1 is left as it was fetched. -/
theorem after0_1 (c : Dev nD) (t : Fin (cfgA pl).N) : (dats pl m ρ 0 c).after (1 : Fin 5) t = iblk pl m ρ c (1 : Fin 5) t := rfl
/-- Input window 2 is left as it was fetched. -/
theorem after0_2 (c : Dev nD) (t : Fin (cfgA pl).N) : (dats pl m ρ 0 c).after (2 : Fin 5) t = iblk pl m ρ c (2 : Fin 5) t := rfl
/-- Input window 3 is left as it was fetched. -/
theorem after0_3 (c : Dev nD) (t : Fin (cfgA pl).N) : (dats pl m ρ 0 c).after (3 : Fin 5) t = iblk pl m ρ c (3 : Fin 5) t := rfl
/-- The output window is left at what the point stored. -/
theorem after0_4 (c : Dev nD) (t : Fin (cfgA pl).N) : (dats pl m ρ 0 c).after (4 : Fin 5) t = (traj0 pl m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA pl).N) (d) : (dats pl m ρ 0 c).before (0 : Fin 5) t d = iblk pl m ρ c (0 : Fin 5) t :=
  ((dats pl m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA pl).N) (d) : (dats pl m ρ 0 c).before (1 : Fin 5) t d = iblk pl m ρ c (1 : Fin 5) t :=
  ((dats pl m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA pl).N) (d) : (dats pl m ρ 0 c).before (2 : Fin 5) t d = iblk pl m ρ c (2 : Fin 5) t :=
  ((dats pl m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA pl).N) (d) : (dats pl m ρ 0 c).before (3 : Fin 5) t d = iblk pl m ρ c (3 : Fin 5) t :=
  ((dats pl m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Output 4's `after` carries through the points that leave it idle. -/
theorem hcarry0_4 (c : Dev nD) : ∀ (t : Fin (cfgA pl).N) (ht : t.val ≠ 0), (cfgA pl).idle (4 : Fin 5) ((cfgA pl).grid.coords t) = true → (cfgA pl).fresh (4 : Fin 5) t.val = false →
    (dats pl m ρ 0 c).after (4 : Fin 5) t = (dats pl m ρ 0 c).after (4 : Fin 5) ⟨t.val - 1, by omega⟩ := by
  intro t ht hi hf
  rw [after0_4, after0_4, traj0_eq]
  by_cases q0 : P0_0 pl t
  · by_cases q1 : P0_1 pl t
    · have i4 : (cfgA pl).idle (4 : Fin 5) ((cfgA pl).grid.coords t) = false := (idle4 pl t).trans (by rw [decide_eq_true ((used_iff pl t).mp q0), Bool.not_true])
      rw [i4] at hi; exact absurd hi (by decide)
    · have i4 : (cfgA pl).idle (4 : Fin 5) ((cfgA pl).grid.coords t) = false := (idle4 pl t).trans (by rw [decide_eq_true ((used_iff pl t).mp q0), Bool.not_true])
      rw [i4] at hi; exact absurd hi (by decide)
  · rw [step0_C pl m ρ c t _ q0]
    simp only [hf, Bool.false_eq_true, ↓reduceIte]
    unfold prev0; rw [dif_neg ht]

/-- Output window 4 holds, when the body runs at `t`: junk if nothing was stored since its last write-back (`Cfg.fresh`),
    else what the point before left (TableIdle.lean `Dat.before_out_traj`). -/
theorem before0_4 (c : Dev nD) (t : Fin (cfgA pl).N) (d) :
    (dats pl m ρ 0 c).before (4 : Fin 5) t d = if (cfgA pl).fresh (4 : Fin 5) t.val then d else (prev0 pl m ρ c t).1 := by
  rw [(dats pl m ρ 0 c).before_out_traj (4 : Fin 5) rfl (fun _ _ => rfl) (hcarry0_4 pl m ρ c) t.val t rfl d]
  by_cases hf : (cfgA pl).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-! ## The body obligation, at a generic point, by path -/

/-- The body at point `t` on its staging memrefs, as the pipeline calls it. -/
abbrev bodyAt0 (t : Fin (cfgA pl).N) : Prog (TpuEff nD τ sig (Elt Bits) Λ₀ .tc) PUnit :=
  cc0_experts (crd pl t) (Memref.whole main_arg0) (Memref.isWhole_whole _) (Memref.whole main_arg1) (Memref.isWhole_whole _) (ms0_0 pl t) (hs0_0 pl t) (ms0_1 pl t) (hs0_1 pl t) (ms0_2 pl t) (hs0_2 pl t) (ms0_3 pl t) (hs0_3 pl t) (ms0_4 pl t) (hs0_4 pl t) (Memref.whole cc0_scratch0) (Memref.isWhole_whole _) (Memref.whole cc0_scratch1) (Memref.isWhole_whole _) (Memref.whole cc0_scratch2) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned pl m) (c : Dev nD) (t : Fin (cfgA pl).N) :
    iprop((dats pl m ρ 0 c).Φ t.castSucc ∗ (dats pl m ρ 0 c).owesAt () t.castSucc
        ∗ (∃ d, owns (c : Thread nD τ) (ms0_0 pl t) fullShare ((dats pl m ρ 0 c).before (0 : Fin 5) t d))
        ∗ (∃ d, owns (c : Thread nD τ) (ms0_1 pl t) fullShare ((dats pl m ρ 0 c).before (1 : Fin 5) t d))
        ∗ (∃ d, owns (c : Thread nD τ) (ms0_2 pl t) fullShare ((dats pl m ρ 0 c).before (2 : Fin 5) t d))
        ∗ (∃ d, owns (c : Thread nD τ) (ms0_3 pl t) fullShare ((dats pl m ρ 0 c).before (3 : Fin 5) t d))
        ∗ (∃ d, owns (c : Thread nD τ) (ms0_4 pl t) fullShare ((dats pl m ρ 0 c).before (4 : Fin 5) t d)))
      ⊢ wp frame (wpE (defs₀ (F := Bits)) Variants.none c none) Set.univ (bodyAt0 pl t) fun _ =>
          iprop((dats pl m ρ 0 c).Φ t.succ ∗ (dats pl m ρ 0 c).owesAt () t.succ
            ∗ bigSep Finset.univ fun w : Fin (cfgA pl).W =>
                match (cfgA pl).idle w ((cfgA pl).grid.coords t) with
                | true =>
                  match ((cfgA pl).win w).flush t with
                  | false => iprop(∃ d, owns (c : Thread nD τ) (((cfgA pl).win w).stage ((cfgA pl).slots t w)) fullShare ((dats pl m ρ 0 c).before w t d))
                  | true => owns (c : Thread nD τ) (((cfgA pl).win w).stage ((cfgA pl).slots t w)) fullShare ((dats pl m ρ 0 c).after w t)
                | false => owns (c : Thread nD τ) (((cfgA pl).win w).stage ((cfgA pl).slots t w)) fullShare ((dats pl m ρ 0 c).after w t)) := by
  rw [bigSep_W0]
  by_cases q0 : P0_0 pl t
  · by_cases q1 : P0_1 pl t
    · have i4 : (cfgA pl).idle (4 : Fin 5) ((cfgA pl).grid.coords t) = false := (idle4 pl t).trans (by rw [decide_eq_true ((used_iff pl t).mp q0), Bool.not_true])
      have sfn0 : sfresh (t.val + 1) = false := rfl
      have sfn1 : sfresh (t.val + 1) = false := rfl
      have sfn2 : sfresh (t.val + 1) = false := rfl
      have k0_h1 := q0
      have hc1 := q1
      rewrite [i4]
      simp only [before0_0, before0_1, before0_2, before0_3, before0_4, after0_0, after0_1, after0_2, after0_3, after0_4]
      rewrite [show (dats pl m ρ 0 c).Φ t.succ = Phi pl m ρ c t.succ from rfl, show (dats pl m ρ 0 c).Φ t.castSucc = Phi pl m ρ c t.castSucc from rfl,
        show (dats pl m ρ 0 c).owesAt () t.succ = (dats pl m ρ 0 c).owesAt () t.castSucc from rfl]
      try rewrite [traj0_eq, step0_A pl m ρ c t _ q0 q1]
      unfold Phi; simp only [prev0T_castSucc, prev0T_succ, traj0_eq, step0_A pl m ρ c t _ q0 q1, Fin.val_castSucc, Fin.val_succ]
      iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
      iapply ((kernelRun0_A c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) k0_h1 hc1).2.2.2.2 a0 a1 a2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_A_4 c _ _ _ _ _ _ _ _ _ _ _ _ _ _ _ _ _ _ _)
    · have i4 : (cfgA pl).idle (4 : Fin 5) ((cfgA pl).grid.coords t) = false := (idle4 pl t).trans (by rw [decide_eq_true ((used_iff pl t).mp q0), Bool.not_true])
      have sfn0 : sfresh (t.val + 1) = false := rfl
      have sfn1 : sfresh (t.val + 1) = false := rfl
      have sfn2 : sfresh (t.val + 1) = false := rfl
      have h0 : t.val ≠ 0 := fun h => q1 ((reload_iff pl t).mpr (Or.inl h))
      have sf0 : sfresh t.val = false := sfresh_pos h0
      have sf1 : sfresh t.val = false := sfresh_pos h0
      have sf2 : sfresh t.val = false := sfresh_pos h0
      have k0_h1 := q0
      have hc1 := q1
      rewrite [i4]
      simp only [before0_0, before0_1, before0_2, before0_3, before0_4, after0_0, after0_1, after0_2, after0_3, after0_4]
      rewrite [show (dats pl m ρ 0 c).Φ t.succ = Phi pl m ρ c t.succ from rfl, show (dats pl m ρ 0 c).Φ t.castSucc = Phi pl m ρ c t.castSucc from rfl,
        show (dats pl m ρ 0 c).owesAt () t.succ = (dats pl m ρ 0 c).owesAt () t.castSucc from rfl]
      try rewrite [traj0_eq, step0_B pl m ρ c t _ q0 q1]
      unfold Phi; simp only [prev0T_castSucc, prev0T_succ, traj0_eq, step0_B pl m ρ c t _ q0 q1, Fin.val_castSucc, Fin.val_succ]
      simp only [exists_held sf0, exists_held sf1, exists_held sf2]
      iintro ⟨⟨HS0, HS1, HS2, HT0, HT1⟩, Ho, ⟨%d0, H0⟩, ⟨%d1, H1⟩, ⟨%d2, H2⟩, ⟨%d3, H3⟩, ⟨%d4, H4⟩⟩
      iapply ((kernelRun0_B c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) _ _ _ k0_h1 hc1).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_B_4 c _ _ _ _ _ _ _ _ _ _ _ _ _ _ _ _ _ _ _ _ _ _)
  · have hlt := t_lt pl t
    have hu : ¬t.val < pl.nb := fun h => q0 ((used_iff pl t).mpr h)
    have i4 : (cfgA pl).idle (4 : Fin 5) ((cfgA pl).grid.coords t) = true := (idle4 pl t).trans (by rw [decide_eq_false hu, Bool.not_false])
    have fr4 := fresh4 pl t.val (Nat.le_of_not_lt hu) hlt
    have h0 : t.val ≠ 0 := by have := pl.h1; omega
    have sf0 : sfresh t.val = false := sfresh_pos h0
    have sfn0 : sfresh (t.val + 1) = false := rfl
    have sf1 : sfresh t.val = false := sfresh_pos h0
    have sfn1 : sfresh (t.val + 1) = false := rfl
    have sf2 : sfresh t.val = false := sfresh_pos h0
    have sfn2 : sfresh (t.val + 1) = false := rfl
    have k0_h1 := q0
    rcases Bool.eq_false_or_eq_true (((cfgA pl).win (4 : Fin 5)).flush t) with f4 | f4
    · rewrite [i4]
      simp only [before0_0, before0_1, before0_2, before0_3, before0_4, after0_0, after0_1, after0_2, after0_3, after0_4, f4]
      simp only [fr4, Bool.false_eq_true, ↓reduceIte]
      rewrite [show (dats pl m ρ 0 c).Φ t.succ = Phi pl m ρ c t.succ from rfl, show (dats pl m ρ 0 c).Φ t.castSucc = Phi pl m ρ c t.castSucc from rfl,
        show (dats pl m ρ 0 c).owesAt () t.succ = (dats pl m ρ 0 c).owesAt () t.castSucc from rfl]
      try rewrite [traj0_eq, step0_C pl m ρ c t _ q0]
      unfold Phi; simp only [prev0T_castSucc, prev0T_succ, traj0_eq, step0_C pl m ρ c t _ q0, Fin.val_castSucc, Fin.val_succ, fr4, Bool.false_eq_true, ↓reduceIte]
      simp only [exists_held sf0, exists_held sf1, exists_held sf2]
      iintro ⟨⟨HS0, HS1, HS2, HT0, HT1⟩, Ho, ⟨%d0, H0⟩, ⟨%d1, H1⟩, ⟨%d2, H2⟩, ⟨%d3, H3⟩, ⟨%d4, H4⟩⟩
      iapply ((kernelRun0_C c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) _ _ _ k0_h1).2.2.2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      isplitl [HS2]; · iexact HS2
      iintro ⟨H0, H1, H2, H3, HT0, HT1, H4, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      first | (iexists d4; iexact H4) | iexact H4
    · rewrite [i4]
      simp only [before0_0, before0_1, before0_2, before0_3, before0_4, after0_0, after0_1, after0_2, after0_3, after0_4, f4]
      simp only [fr4, Bool.false_eq_true, ↓reduceIte]
      rewrite [show (dats pl m ρ 0 c).Φ t.succ = Phi pl m ρ c t.succ from rfl, show (dats pl m ρ 0 c).Φ t.castSucc = Phi pl m ρ c t.castSucc from rfl,
        show (dats pl m ρ 0 c).owesAt () t.succ = (dats pl m ρ 0 c).owesAt () t.castSucc from rfl]
      try rewrite [traj0_eq, step0_C pl m ρ c t _ q0]
      unfold Phi; simp only [prev0T_castSucc, prev0T_succ, traj0_eq, step0_C pl m ρ c t _ q0, Fin.val_castSucc, Fin.val_succ, fr4, Bool.false_eq_true, ↓reduceIte]
      simp only [exists_held sf0, exists_held sf1, exists_held sf2]
      iintro ⟨⟨HS0, HS1, HS2, HT0, HT1⟩, Ho, ⟨%d0, H0⟩, ⟨%d1, H1⟩, ⟨%d2, H2⟩, ⟨%d3, H3⟩, ⟨%d4, H4⟩⟩
      iapply ((kernelRun0_C c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) _ _ _ k0_h1).2.2.2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      isplitl [HS2]; · iexact HS2
      iintro ⟨H0, H1, H2, H3, HT0, HT1, H4, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      first | (iexists d4; iexact H4) | iexact H4

/-- The library's body obligation, at every point. -/
theorem body_obligation (hp : Pinned pl m) (c : Dev nD) : BodyObligation (dats pl m ρ 0 c) (defs₀ (F := Bits)) Variants.none () Set.univ := fun t => by
  rw [bigSep_W0]
  exact sound_body pl m ρ hp c t

/-! ## The launch -/

/-- The rounds library's launch element. -/
def u₀ : UR sig nD τ :=
  initOf (Pipeline.cells (pcs pl) ((launch0 (F := Bits)).cellOf_inj fun _ => adm pl))
    (Pipeline.launchToks (pcs pl) ((launch0 (F := Bits)).cellOf_inj fun _ => adm pl))

/-- Every array is held in full. -/
theorem share_eq (c : Dev nD) (w : Fin (cfgA pl).W) : (dats pl m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp (MT nD τ sig Unit (Elt Bits) ℕ (UR sig nD τ) ℕ))
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm pl).1 ∗ Pipeline.scopedRest spec0 c) ⊢ (dats pl m ρ 0 c).Φ 0 := by
  rw [prefHeld_eq, scopedRest0_eq, show (dats pl m ρ 0 c).Φ 0 = Phi pl m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro h; exact absurd (h.symm.trans (show sfresh 0 = true from rfl)) Bool.false_ne_true
  isplitl [HS1]
  · iexists a1; isplitr; swap
    · iexact HS1
    · ipureintro; intro h; exact absurd (h.symm.trans (show sfresh 0 = true from rfl)) Bool.false_ne_true
  isplitl [HS2]
  · iexists a2; isplitr; swap
    · iexact HS2
    · ipureintro; intro h; exact absurd (h.symm.trans (show sfresh 0 = true from rfl)) Bool.false_ne_true
  isplitl [HT0]
  · iexact HT0
  iexact HT1

/-- at the last point it gives the scratch buffers back (`hout`), the tables let go. -/
theorem phiN_exit (c : Dev nD) : (dats pl m ρ 0 c).Φ (Fin.last (cfgA pl).N) ⊢ iprop(BI.emp ∗ Pipeline.scopedRest spec0 c) := by
  rw [scopedRest0_eq, show (dats pl m ρ 0 c).Φ (Fin.last (cfgA pl).N) = Phi pl m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- The physical post: every array at what the library computes, every table at what the pipeline ran at. -/
def QC : PUnit × MemSt nD τ sig (Elt Bits) → Prop := fun r =>
  ∀ c : Dev nD, (∀ w : Fin (cfgA pl).W, r.2.mem (((cfgA pl).win w).arr.view.loc (c : Thread nD τ)) = (dats pl m ρ 0 c).arrAt w (cfgA pl).N)
    ∧ ∀ j, r.2.mem ((c : Thread nD τ).loc (pre0.ref j)) = (adm pl).1 j

/-- The tables in memory are the plan's. -/
theorem V_pre (hp : Pinned pl m) (c : Dev nD) (j : Fin 2) : m ((c : Thread nD τ).loc (pre0.ref j)) = (adm pl).1 j := by
  fin_cases j
  · exact hp.1 c
  · exact hp.2 c

set_option backward.isDefEq.respectTransparency.types false in
set_option maxHeartbeats 4000000 in
/-- At the compiled mesh, from any memory with zero counters whose tables are the plan's: every weakly
    fair execution of @main on the TensorCores terminates, and every final state has each array at the computed contents,
    and every semaphore counter of the machine at zero. -/
theorem run_main_quiescent (hp : Pinned pl m) : θ_run (defs (F := Bits)) (onTc (τ := τ) (main (F := Bits))) (s₀ m ρ) (fun r => QC pl m ρ r ∧ r.2.sem = fun _ => 0) :=
  Pipeline.θ_run_region_noSem_pf_quiescent pcfgs (fun _ => adm pl) (dats pl m ρ) () ((launch0 (F := Bits)).cellOf_inj fun _ => adm pl) (0 : Fin 1)
    (launch0 (F := Bits)).win.to₀ (launch0 (F := Bits)).pre EP defs₀ Variants.none m ρ main
    (hbody := fun c => (body_obligation pl m ρ hp c).loose) (hne := (launch0 (F := Bits)).block_pos)
    (harr := (launch0 (F := Bits)).arr_whole) (hstage := (launch0 (F := Bits)).stage_whole) (howed := fun _ _ => rfl)
    (u₀ := u₀ pl) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs pl) (dats pl m ρ) 0 (launch0 (F := Bits)).win.arr_inj c (launch0 (F := Bits)).arr_whole
      (share_eq pl m ρ c) _ _ fun _ => rfl)
    (hpf := V_pre pl m hp)
    (X := fun _ => iprop(emp)) (Y := fun _ => iprop(emp)) (Z := fun _ => iprop(emp))
    (hX := fun c => by rw [unscopedRestP0_eq]; iintro -; isplitr <;> iempintro)
    (hin := phi0_intro pl m ρ)
    (hout := phiN_exit pl m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned pl m) : θ_run (defs (F := Bits)) (onTc (τ := τ) (main (F := Bits))) (s₀ m ρ) (QC pl m ρ) :=
  (θ_run defs _ _).mono (fun _ h => h.1) (run_main_quiescent pl m ρ hp)

/-- `frame` without the counters: the argument arrays end unchanged. -/
theorem unchanged (hp : Pinned pl m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats pl m ρ 0 c).arrAt_in (0 : Fin 5) rfl _), ((h c).1 (1 : Fin 5)).trans ((dats pl m ρ 0 c).arrAt_in (1 : Fin 5) rfl _), ((h c).1 (2 : Fin 5)).trans ((dats pl m ρ 0 c).arrAt_in (2 : Fin 5) rfl _), ((h c).1 (3 : Fin 5)).trans ((dats pl m ρ 0 c).arrAt_in (3 : Fin 5) rfl _)⟩) (run_main pl m ρ hp)

/-- The frame: from a memory whose tables are the plan's, every weakly fair execution terminates without a fault, every
    argument array ends unchanged, and every semaphore counter reads zero at every final state. -/
theorem frame (hp : Pinned pl m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged pl m ρ hp) ((θ_run defs _ _).mono (fun _ h => h.2) (run_main_quiescent pl m ρ hp))

end Cert.Experts.Plan

end
-- ==== Proof.PlanIdeal.lean ====
module

public import proofs.«01_k».proof.Proof.Plan
public import proofs.«01_k».proof.Proof.Gen.ExpertsIdeal.Flash.Pins

@[expose] public section

set_option maxRecDepth 16384

noncomputable section

namespace Cert.ExpertsIdeal.Plan

open Cert.ExpertsIdeal Cert.ExpertsIdeal.Gen Cert.Moe
open Idealize.ShloMosaic Idealize.ShloMosaic.TcCoe

variable (pl : Cert.Moe.Plan)

/-- The table of the blocks' experts, in words. -/
def T0 : S380.Idx → BitVec 32 := fun x => BitVec.ofNat 32 (pl.e (x 0).val)
/-- The table with the number of used blocks, in words. -/
def T1 : S1.Idx → BitVec 32 := fun _ => BitVec.ofNat 32 pl.nb

set_option backward.proofsInPublic true in
/-- The two prefetched tables of a plan. -/
def tabs : pre0.Contents (Elt Ideal) := fun | ⟨0, _⟩ => T0 pl | ⟨1, _⟩ => T1 pl | ⟨_ + 2, h⟩ => absurd h (by simp)

/-- What the launch memory must hold: the tables of the plan. -/
def Pinned (m : (ℓ : Loc nD τ sig) → Buf (Elt Ideal) ℓ) : Prop :=
  (∀ c : Dev nD, m ((c : Thread nD τ).loc main_arg0) = T0 pl)
  ∧ (∀ c : Dev nD, m ((c : Thread nD τ).loc main_arg1) = T1 pl)

/-- The rows' window at a block: the block itself, the last used block beyond. -/
theorem tr0 (i : grid0.Coords) : cc0_transform_0 inb_S1_S1_0 numel1_S1 (tabs pl) i = ![min (i 0).val (pl.nb - 1), 0] := by
  have h : (i 0).val < 380 := (i 0).isLt
  have := min_pred (a := (i 0).val) (n := pl.nb) (by omega) (by have := pl.h2; omega) pl.h1
  show ![(Scalar.minsi (BitVec.ofNat 32 (i 0).val) (Scalar.subi (BitVec.ofNat 32 pl.nb) 1#32)).toNat, (0#32 : BitVec 32).toNat] = _
  rw [this]; rfl

/-- The result's window follows the rows' window. -/
theorem tr4 (i : grid0.Coords) : cc0_transform_4 inb_S1_S1_0 numel1_S1 (tabs pl) i = ![min (i 0).val (pl.nb - 1), 0] := tr0 pl i

/-- The weights' window at a block: the block's expert. -/
theorem tr1 (i : grid0.Coords) : cc0_transform_1 k0_off1_inb numel1_S1 (tabs pl) i = ![pl.e (i 0).val, 0, 0] := by
  have h : (i 0).val < 380 := (i 0).isLt
  have hx : (BitVec.ofNat 32 (i 0).val).toNat = (i 0).val := by simp only [BitVec.toNat_ofNat]; omega
  have he : (BitVec.ofNat 32 (pl.e (i 0).val)).toNat = pl.e (i 0).val := by
    have := pl.he (i 0).val; simp only [BitVec.toNat_ofNat]; omega
  show ![(BitVec.ofNat 32 (pl.e ((BitVec.ofNat 32 (i 0).val).toNat + 1 * 0))).toNat, (0#32 : BitVec 32).toNat, (0#32 : BitVec 32).toNat] = _
  rw [hx, Nat.mul_zero, Nat.add_zero, he]; rfl
/-- The up projections' window at a block: the expert of the block. -/
theorem tr2 (i : grid0.Coords) : cc0_transform_2 k0_off1_inb numel1_S1 (tabs pl) i = ![pl.e (i 0).val, 0, 0] := tr1 pl i
/-- The down projections' window at a block: the expert of the block. -/
theorem tr3 (i : grid0.Coords) : cc0_transform_3 k0_off1_inb numel1_S1 (tabs pl) i = ![pl.e (i 0).val, 0, 0] := tr1 pl i

/-- Every block the plan names lies inside its array. -/
theorem okT : ok0 (F := Ideal) (tabs pl) := by
  have hb : ∀ i : grid0.Coords, min (i 0).val (pl.nb - 1) < 380 := fun i => by have := pl.h1; have := pl.h2; omega
  have hi0 : ∀ i : grid0.Coords, ∀ a, (cc0_transform_0 inb_S1_S1_0 numel1_S1 (tabs pl) i a + 1) * S256x2432.size a ≤ S97280x2432.size a := fun i a => by
    rw [tr0]; fin_cases a
    · show (min (i 0).val (pl.nb - 1) + 1) * 256 ≤ 97280; have := hb i; omega
    · show (0 + 1) * 2432 ≤ 2432; omega
  have hi4 : ∀ i : grid0.Coords, ∀ a, (cc0_transform_4 inb_S1_S1_0 numel1_S1 (tabs pl) i a + 1) * S256x2048.size a ≤ S97280x2048.size a := fun i a => by
    rw [tr4]; fin_cases a
    · show (min (i 0).val (pl.nb - 1) + 1) * 256 ≤ 97280; have := hb i; omega
    · show (0 + 1) * 2048 ≤ 2048; omega
  have hi1 : ∀ i : grid0.Coords, ∀ a, (cc0_transform_1 k0_off1_inb numel1_S1 (tabs pl) i a + 1) * S1x2048x512.size a ≤ S64x2048x512.size a := fun i a => by
    rw [tr1]; have := pl.he (i 0).val; fin_cases a
    · show (pl.e (i 0).val + 1) * 1 ≤ 64; omega
    · show (0 + 1) * 2048 ≤ 2048; omega
    · show (0 + 1) * 512 ≤ 512; omega
  have hi3 : ∀ i : grid0.Coords, ∀ a, (cc0_transform_3 k0_off1_inb numel1_S1 (tabs pl) i a + 1) * S1x512x2048.size a ≤ S64x512x2048.size a := fun i a => by
    rw [tr3]; have := pl.he (i 0).val; fin_cases a
    · show (pl.e (i 0).val + 1) * 1 ≤ 64; omega
    · show (0 + 1) * 512 ≤ 512; omega
    · show (0 + 1) * 2048 ≤ 2048; omega
  exact ⟨fun i => ⟨hi0 i, .inr (Affine.block_words_dvd (s := S97280x2432) (p := EltTy.packing .bf16) (by decide) (by decide))⟩,
    fun i => ⟨hi1 i, .inl rfl⟩, fun i => ⟨hi1 i, .inl rfl⟩, fun i => ⟨hi3 i, .inl rfl⟩,
    fun i => ⟨hi4 i, .inr (Affine.block_words_dvd (s := S97280x2048) (p := EltTy.packing .bf16) (by decide) (by decide))⟩⟩

/-- The plan's tables as the pipeline takes them. -/
def adm : (pcfg0 (F := Ideal)).Adm := ⟨tabs pl, okT pl⟩
/-- The pipeline at the plan's tables. -/
abbrev cfgA : Pipeline.Cfg sig Λ₀ := cfg0 (F := Ideal) (adm pl)
/-- The pipeline at the plan's tables. -/
abbrev pcs : Fin 1 → Pipeline.Cfg sig Λ₀ := Pipeline.pin (pcfgs (F := Ideal)) fun _ => adm pl

/-- Point `t`'s coordinates. -/
abbrev crd (t : Fin (cfgA pl).N) : (cfgA pl).grid.Coords := (cfgA pl).grid.coords t

/-- There are 380 grid points. -/
theorem t_lt (t : Fin (cfgA pl).N) : t.val < 380 := lt_of_lt_of_eq t.isLt N_0

/-- The one coordinate of a point is its number. -/
theorem crd_val (t : Fin (cfgA pl).N) : ((crd pl t) 0).val = t.val := by
  have h := Pipeline.Grid.coords_val (G := grid0) t 0 (S := 1) (B := 380) (by decide) rfl
  have := t_lt pl t
  exact h.trans (by omega)

/-! ## The two decisions at a point -/

/-- The block is in use. -/
abbrev P0_0 (t : Fin (cfgA pl).N) : Prop := k0_cond1 (crd pl t) (View.readAt (Elt Ideal) (tbM0_1).view (Rect.unit (s := S1) ![0] S1.size inb_S1_S1_0).toLoadRect (T1 pl) (Shape.Idx.first (numel1_S1.symm ▸ Nat.one_pos))) = 1#1
/-- The weights are loaded anew. -/
abbrev P0_1 (t : Fin (cfgA pl).N) : Prop := (Scalar.cmpi .ne (Scalar.extui (Scalar.ori (Scalar.cmpi .eq (BitVec.ofNat 32 ((crd pl t) 0).val) 0#32) (Scalar.cmpi .ne (View.readAt (Elt Ideal) (tbM0_0).view (Rect.unit (s := S380) (k0_off2 (crd pl t)) S1.size (k0_off2_inb (crd pl t))).toLoadRect (T0 pl) (Shape.Idx.first (numel1_S1.symm ▸ Nat.one_pos))) (View.readAt (Elt Ideal) (tbM0_0).view (Rect.unit (s := S380) (k0_off3 (crd pl t)) S1.size (k0_off3_inb (crd pl t))).toLoadRect (T0 pl) (Shape.Idx.first (numel1_S1.symm ▸ Nat.one_pos)))))) 0#32) = 1#1

/-- The kernel's first branch is taken exactly on the used blocks. -/
theorem used_iff (t : Fin (cfgA pl).N) : P0_0 pl t ↔ t.val < pl.nb := by
  have h := t_lt pl t
  have h' := crd_val pl t
  have hs := slt_flag (a := ((crd pl t) 0).val) (b := pl.nb) (by omega) (by have := pl.h2; omega)
  rw [h'] at hs
  refine Iff.trans (Iff.of_eq ?_) hs
  rw [← h']; rfl

/-- The word the body reads for its own block. -/
theorem read_own (t : Fin (cfgA pl).N) : View.readAt (Elt Ideal) (tbM0_0).view (Rect.unit (s := S380) (k0_off2 (crd pl t)) S1.size (k0_off2_inb (crd pl t))).toLoadRect (T0 pl) (Shape.Idx.first (numel1_S1.symm ▸ Nat.one_pos)) = BitVec.ofNat 32 (pl.e t.val) := by
  have h := t_lt pl t
  have h' := crd_val pl t
  have hx : (BitVec.ofNat 32 ((crd pl t) 0).val).toNat = t.val := by simp only [BitVec.toNat_ofNat]; omega
  show BitVec.ofNat 32 (pl.e ((BitVec.ofNat 32 ((crd pl t) 0).val).toNat + 1 * 0)) = _
  rw [hx, Nat.mul_zero, Nat.add_zero]

/-- The word the body reads for the block before. -/
theorem read_before (t : Fin (cfgA pl).N) : View.readAt (Elt Ideal) (tbM0_0).view (Rect.unit (s := S380) (k0_off3 (crd pl t)) S1.size (k0_off3_inb (crd pl t))).toLoadRect (T0 pl) (Shape.Idx.first (numel1_S1.symm ▸ Nat.one_pos)) = BitVec.ofNat 32 (pl.e (t.val - 1)) := by
  have h := t_lt pl t
  have h' := crd_val pl t
  have hx := pred_max (a := ((crd pl t) 0).val) (by omega)
  show BitVec.ofNat 32 (pl.e ((Scalar.maxsi (Scalar.subi (BitVec.ofNat 32 ((crd pl t) 0).val) 1#32) 0#32).toNat + 1 * 0)) = _
  rw [hx, h', Nat.mul_zero, Nat.add_zero]

/-- The kernel's second branch is taken exactly where the expert changes. -/
theorem reload_iff (t : Fin (cfgA pl).N) : P0_1 pl t ↔ (t.val = 0 ∨ pl.e t.val ≠ pl.e (t.val - 1)) := by
  have h := t_lt pl t
  unfold P0_1
  rw [read_own, read_before, crd_val]
  exact reload_flag (by omega) (by have := pl.he t.val; omega) (by have := pl.he (t.val - 1); omega)

/-! ## When the result's block is written, kept and written back -/

/-- The result's window stays untouched exactly at the unused blocks. -/
theorem idle4 (t : Fin (cfgA pl).N) : (cfgA pl).idle (4 : Fin 5) ((cfgA pl).grid.coords t) = !decide (t.val < pl.nb) := by
  have h := used_iff pl t
  have : (cfgA pl).idle (4 : Fin 5) ((cfgA pl).grid.coords t) = !(k0_cond1 (crd pl t) (BitVec.ofNat 32 pl.nb) == 1#1) := rfl
  rw [this]
  congr 1
  have h2 : (k0_cond1 (crd pl t) (BitVec.ofNat 32 pl.nb) = 1#1) ↔ t.val < pl.nb := h
  by_cases hc : t.val < pl.nb
  · rw [h2.mpr hc]; simp only [hc, decide_true, beq_self_eq_true]
  · simp only [hc, decide_false, beq_eq_false_iff_ne]; exact fun hh => hc (h2.mp hh)

/-- The result's block at a point: the point itself, the last used block beyond. -/
theorem index4 (t : Fin (cfgA pl).N) : ((cfgA pl).win (4 : Fin 5)).index t = ![min t.val (pl.nb - 1), 0] := by
  have h := tr4 pl (crd pl t)
  rw [crd_val] at h
  exact h

/-- The result's block is written back at the last point, and after each used block but the last. -/
theorem flush4 (t : Fin (cfgA pl).N) : ((cfgA pl).win (4 : Fin 5)).flush t = decide (t.val + 1 = 380 ∨ t.val + 1 < pl.nb) := by
  have hN : (cfgA pl).grid.N = 380 := N_0
  have ht := t_lt pl t
  have h2 := pl.h2
  have e : ((cfgA pl).win (4 : Fin 5)).flush t = (decide (t.val + 1 = (cfgA pl).grid.N) || decide (∃ h : t.val + 1 < (cfgA pl).grid.N, ((cfgA pl).win (4 : Fin 5)).index ⟨t.val + 1, h⟩ ≠ ((cfgA pl).win (4 : Fin 5)).index t)) := rfl
  rw [e, ← Bool.decide_or]
  refine decide_eq_decide.mpr (or_congr (by rw [hN]) ⟨?_, ?_⟩)
  · rintro ⟨h, hne⟩
    rw [index4, index4] at hne
    by_contra hc
    exact hne (by show ![min (t.val + 1) (pl.nb - 1), 0] = ![min t.val (pl.nb - 1), 0]; rw [show min (t.val + 1) (pl.nb - 1) = min t.val (pl.nb - 1) by omega])
  · intro h
    refine ⟨by rw [hN]; omega, ?_⟩
    rw [index4, index4]
    intro he
    have : min (t.val + 1) (pl.nb - 1) = min t.val (pl.nb - 1) := congrFun he 0
    omega

/-- From the first unused block on the result's buffer holds the last used block. -/
theorem fresh4 : ∀ n : ℕ, pl.nb ≤ n → n < 380 → (cfgA pl).fresh (4 : Fin 5) n = false := by
  intro n
  induction n with
  | zero => intro h; have := pl.h1; omega
  | succ n ih =>
    intro h hn
    have hN : n < (cfgA pl).N := by rw [show (cfgA pl).N = 380 from N_0]; omega
    rw [Pipeline.Cfg.fresh_succ (cfgA pl) (4 : Fin 5) n hN, flush4, idle4]
    have hf : decide (n + 1 = 380 ∨ n + 1 < pl.nb) = false := decide_eq_false (by omega)
    simp only [hf, Bool.false_or]
    by_cases hc : n < pl.nb
    · simp only [hc, decide_true, Bool.not_true, Bool.false_and]
    · rw [ih (by omega) (by omega), Bool.and_false]

end Cert.ExpertsIdeal.Plan

end
-- ==== Proof.FrameIdeal.lean ====
module

public import proofs.«01_k».proof.Proof.PlanIdeal
public import proofs.«01_k».proof.Proof.Gen.ExpertsIdeal.Flash.Runs
public import Idealize.ShloMosaic.Lib.Pipeline.Quiescent
public import Idealize.ShloMosaic.Lib.Claim

@[expose] public section

set_option maxRecDepth 16384
set_option Elab.async false

noncomputable section

namespace Cert.ExpertsIdeal.Plan

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The proof's resource algebra: the rounds library's, for the pipeline's staging cells, embedded whole. -/
abbrev EP : Emb (UR sig nD τ) (MT nD τ sig Unit (Elt Ideal) ℕ (UR sig nD τ) ℕ) := emb₁

variable (pl : Cert.Moe.Plan)
variable (m : (ℓ : Loc nD τ sig) → Buf (Elt Ideal) ℓ) (ρ : Dev nD → PrngReg)

/-- Before the first point the scratch buffers hold anything; after it the weights of the last loaded expert. -/
def sfresh : ℕ → Bool
  | 0 => true
  | _ + 1 => false

/-- Only the first point starts with unknown scratch buffers. -/
theorem sfresh_pos {n : ℕ} (h : n ≠ 0) : sfresh n = false := by
  cases n with
  | zero => exact absurd rfl h
  | succ n => rfl

/-- Each window's current staging memref at point `t`, spelled as the pipeline passes it, and its wholeness. -/
abbrev ms0_0 (t : Fin (cfgA pl).N) : Memref sig .tc .vmem S256x2432 .bf16 := spec0_0.stage ((cfgA pl).slots t (0 : Fin 5))
abbrev hs0_0 (t : Fin (cfgA pl).N) : (ms0_0 pl t).IsWhole := hstage0_0 (((cfgA pl).slots t (0 : Fin 5)).cast nbuf0_0)
abbrev ms0_1 (t : Fin (cfgA pl).N) : Memref sig .tc .vmem S1x2048x512 .f32 := spec0_1.stage ((cfgA pl).slots t (1 : Fin 5))
abbrev hs0_1 (t : Fin (cfgA pl).N) : (ms0_1 pl t).IsWhole := hstage0_1 (((cfgA pl).slots t (1 : Fin 5)).cast nbuf0_1)
abbrev ms0_2 (t : Fin (cfgA pl).N) : Memref sig .tc .vmem S1x2048x512 .f32 := spec0_2.stage ((cfgA pl).slots t (2 : Fin 5))
abbrev hs0_2 (t : Fin (cfgA pl).N) : (ms0_2 pl t).IsWhole := hstage0_2 (((cfgA pl).slots t (2 : Fin 5)).cast nbuf0_2)
abbrev ms0_3 (t : Fin (cfgA pl).N) : Memref sig .tc .vmem S1x512x2048 .f32 := spec0_3.stage ((cfgA pl).slots t (3 : Fin 5))
abbrev hs0_3 (t : Fin (cfgA pl).N) : (ms0_3 pl t).IsWhole := hstage0_3 (((cfgA pl).slots t (3 : Fin 5)).cast nbuf0_3)
abbrev ms0_4 (t : Fin (cfgA pl).N) : Memref sig .tc .vmem S256x2048 .bf16 := spec0_4.stage ((cfgA pl).slots t (4 : Fin 5))
abbrev hs0_4 (t : Fin (cfgA pl).N) : (ms0_4 pl t).IsWhole := hstage0_4 (((cfgA pl).slots t (4 : Fin 5)).cast nbuf0_4)

/-! ## The windows' blocks -/

/-- Window `w`'s block at point `t`, read off its array at launch. -/
def iblk (c : Dev nD) (w : Fin (cfgA pl).W) (t : Fin (cfgA pl).N) : (((cfgA pl).win w).xblock (crd pl t)).Idx → Elt Ideal ((cfgA pl).win w).elt :=
  (((cfgA pl).win w).blk t).view.read (Elt Ideal) ((s₀ m ρ).mem (((cfgA pl).win w).arr.view.loc (c : Thread nD τ)))

/-! ## What the outputs and scratches hold after each point -/

/-- ONE STEP of the trajectory: what the outputs' current buffers and the scratches hold after the body at point `t`
    (output 4, scratch 0, scratch 1, scratch 2), from what they held before (`prev`): the path the decisions select at `t`, its
    run's contents; an output the path leaves idle keeps what it held (junk — `default`, named by nothing — where fresh). -/
def step0 (c : Dev nD) (t : Fin (cfgA pl).N) (prev : (S256x2048.Idx → Elt Ideal .bf16) × Buf (Elt Ideal) ((c : Thread nD τ).loc cc0_scratch0) × Buf (Elt Ideal) ((c : Thread nD τ).loc cc0_scratch1) × Buf (Elt Ideal) ((c : Thread nD τ).loc cc0_scratch2)) : (S256x2048.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) :=
  if q0 : P0_0 pl t then
    if q1 : P0_1 pl t then
      (out0_A_4 c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) q0 q1, (kernelRun0_A c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) q0 q1).2.1, (kernelRun0_A c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) q0 q1).2.2.1, (kernelRun0_A c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) q0 q1).2.2.2.1)
    else
      (out0_B_4 c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) prev.2.1 prev.2.2.1 prev.2.2.2 q0 q1, (kernelRun0_B c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) prev.2.1 prev.2.2.1 prev.2.2.2 q0 q1).2.1, (kernelRun0_B c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) prev.2.1 prev.2.2.1 prev.2.2.2 q0 q1).2.2.1, (kernelRun0_B c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) prev.2.1 prev.2.2.1 prev.2.2.2 q0 q1).2.2.2.1)
  else
    ((if (cfgA pl).fresh (4 : Fin 5) t.val then default else prev.1), (kernelRun0_C c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) prev.2.1 prev.2.2.1 prev.2.2.2 q0).1, (kernelRun0_C c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) prev.2.1 prev.2.2.1 prev.2.2.2 q0).2.1, (kernelRun0_C c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) prev.2.1 prev.2.2.1 prev.2.2.2 q0).2.2.1)

/-- THE TRAJECTORY: after position `n`. -/
def traj0 (c : Dev nD) : (n : ℕ) → n < (cfgA pl).N → (S256x2048.Idx → Elt Ideal .bf16) × Buf (Elt Ideal) ((c : Thread nD τ).loc cc0_scratch0) × Buf (Elt Ideal) ((c : Thread nD τ).loc cc0_scratch1) × Buf (Elt Ideal) ((c : Thread nD τ).loc cc0_scratch2)
  | 0, h => step0 pl m ρ c ⟨0, h⟩ (default, default, default, default)
  | n + 1, h => step0 pl m ρ c ⟨n + 1, h⟩ (traj0 c n (Nat.lt_of_succ_lt h))

/-- What they held BEFORE point `t` (junk before the first). -/
def prev0 (c : Dev nD) (t : Fin (cfgA pl).N) : (S256x2048.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) :=
  if h : t.val = 0 then (default, default, default, default) else traj0 pl m ρ c (t.val - 1) (by omega)

/-- The state after a point is the point's step from the state before. -/
theorem traj0_eq (c : Dev nD) (t : Fin (cfgA pl).N) : traj0 pl m ρ c t.val t.isLt = step0 pl m ρ c t (prev0 pl m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA pl).N) (prev : (S256x2048.Idx → Elt Ideal .bf16) × Buf (Elt Ideal) ((c : Thread nD τ).loc cc0_scratch0) × Buf (Elt Ideal) ((c : Thread nD τ).loc cc0_scratch1) × Buf (Elt Ideal) ((c : Thread nD τ).loc cc0_scratch2)) (q0 : P0_0 pl t) (q1 : P0_1 pl t) :
    step0 pl m ρ c t prev = (out0_A_4 c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) q0 q1, (kernelRun0_A c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) q0 q1).2.1, (kernelRun0_A c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) q0 q1).2.2.1, (kernelRun0_A c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) q0 q1).2.2.2.1) := by
  unfold step0; simp only [dif_pos q0, dif_pos q1]

/-- `step0` at a point of path B. -/
theorem step0_B (c : Dev nD) (t : Fin (cfgA pl).N) (prev : (S256x2048.Idx → Elt Ideal .bf16) × Buf (Elt Ideal) ((c : Thread nD τ).loc cc0_scratch0) × Buf (Elt Ideal) ((c : Thread nD τ).loc cc0_scratch1) × Buf (Elt Ideal) ((c : Thread nD τ).loc cc0_scratch2)) (q0 : P0_0 pl t) (q1 : ¬P0_1 pl t) :
    step0 pl m ρ c t prev = (out0_B_4 c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) prev.2.1 prev.2.2.1 prev.2.2.2 q0 q1, (kernelRun0_B c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) prev.2.1 prev.2.2.1 prev.2.2.2 q0 q1).2.1, (kernelRun0_B c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) prev.2.1 prev.2.2.1 prev.2.2.2 q0 q1).2.2.1, (kernelRun0_B c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) prev.2.1 prev.2.2.1 prev.2.2.2 q0 q1).2.2.2.1) := by
  unfold step0; simp only [dif_pos q0, dif_neg q1]

/-- `step0` at a point of path C. -/
theorem step0_C (c : Dev nD) (t : Fin (cfgA pl).N) (prev : (S256x2048.Idx → Elt Ideal .bf16) × Buf (Elt Ideal) ((c : Thread nD τ).loc cc0_scratch0) × Buf (Elt Ideal) ((c : Thread nD τ).loc cc0_scratch1) × Buf (Elt Ideal) ((c : Thread nD τ).loc cc0_scratch2)) (q0 : ¬P0_0 pl t) :
    step0 pl m ρ c t prev = ((if (cfgA pl).fresh (4 : Fin 5) t.val then default else prev.1), (kernelRun0_C c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) prev.2.1 prev.2.2.1 prev.2.2.2 q0).1, (kernelRun0_C c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) prev.2.1 prev.2.2.1 prev.2.2.2 q0).2.1, (kernelRun0_C c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) prev.2.1 prev.2.2.1 prev.2.2.2 q0).2.2.1) := by
  unfold step0; simp only [dif_neg q0]

/-! ## The pipeline's proof data -/

/-- What the tracked buffers held before position `t` of `Fin (N+1)` (the invariant's index). -/
def prev0T (c : Dev nD) (t : Fin ((cfgA pl).N + 1)) : (S256x2048.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) :=
  if h : t.val = 0 then (default, default, default, default) else traj0 pl m ρ c (t.val - 1) (by omega)

/-- The state before a point, counted from the start. -/
theorem prev0T_castSucc (c : Dev nD) (t : Fin (cfgA pl).N) : prev0T pl m ρ c t.castSucc = prev0 pl m ρ c t := by
  unfold prev0T prev0; simp only [Fin.val_castSucc]
/-- The state after a point, counted from the start. -/
theorem prev0T_succ (c : Dev nD) (t : Fin (cfgA pl).N) : prev0T pl m ρ c t.succ = traj0 pl m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (ρ : Dev nD → PrngReg) (c : Dev nD) (t : Fin ((cfgA pl).N + 1)) : sProp (MT nD τ sig Unit (Elt Ideal) ℕ (UR sig nD τ) ℕ) :=
  iprop((∃ a, ⌜sfresh t.val = false → a = (prev0T pl m ρ c t).2.1⌝ ∗ (scM0_0.view.loc (c : Thread nD τ) ↦{fullShare} a)) ∗ (∃ a, ⌜sfresh t.val = false → a = (prev0T pl m ρ c t).2.2.1⌝ ∗ (scM0_1.view.loc (c : Thread nD τ) ↦{fullShare} a)) ∗ (∃ a, ⌜sfresh t.val = false → a = (prev0T pl m ρ c t).2.2.2⌝ ∗ (scM0_2.view.loc (c : Thread nD τ) ↦{fullShare} a)) ∗ (tbM0_0.view.loc (c : Thread nD τ) ↦{fullShare.right} T0 pl) ∗ (tbM0_1.view.loc (c : Thread nD τ) ↦{fullShare.right} T1 pl))

/-- The proof data of the one pipeline on core `c`. -/
def dats (_ : Fin 1) (c : Dev nD) : Dat τ (Elt Ideal) Unit ℕ (UR sig nD τ) ℕ (cfgA pl) c where
  A w := (s₀ m ρ).mem (((cfgA pl).win w).arr.view.loc (c : Thread nD τ))
  after w t := match w with
    | ⟨0, _⟩ => iblk pl m ρ c (0 : Fin 5) t
    | ⟨1, _⟩ => iblk pl m ρ c (1 : Fin 5) t
    | ⟨2, _⟩ => iblk pl m ρ c (2 : Fin 5) t
    | ⟨3, _⟩ => iblk pl m ρ c (3 : Fin 5) t
    | ⟨4, _⟩ => (traj0 pl m ρ c t.val t.isLt).1
  Φ t := Phi pl m ρ c t
  q _ := fullShare
  owed _ := 0

/-- Input window 0 is left as it was fetched. -/
theorem after0_0 (c : Dev nD) (t : Fin (cfgA pl).N) : (dats pl m ρ 0 c).after (0 : Fin 5) t = iblk pl m ρ c (0 : Fin 5) t := rfl
/-- Input window 1 is left as it was fetched. -/
theorem after0_1 (c : Dev nD) (t : Fin (cfgA pl).N) : (dats pl m ρ 0 c).after (1 : Fin 5) t = iblk pl m ρ c (1 : Fin 5) t := rfl
/-- Input window 2 is left as it was fetched. -/
theorem after0_2 (c : Dev nD) (t : Fin (cfgA pl).N) : (dats pl m ρ 0 c).after (2 : Fin 5) t = iblk pl m ρ c (2 : Fin 5) t := rfl
/-- Input window 3 is left as it was fetched. -/
theorem after0_3 (c : Dev nD) (t : Fin (cfgA pl).N) : (dats pl m ρ 0 c).after (3 : Fin 5) t = iblk pl m ρ c (3 : Fin 5) t := rfl
/-- The output window is left at what the point stored. -/
theorem after0_4 (c : Dev nD) (t : Fin (cfgA pl).N) : (dats pl m ρ 0 c).after (4 : Fin 5) t = (traj0 pl m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA pl).N) (d) : (dats pl m ρ 0 c).before (0 : Fin 5) t d = iblk pl m ρ c (0 : Fin 5) t :=
  ((dats pl m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA pl).N) (d) : (dats pl m ρ 0 c).before (1 : Fin 5) t d = iblk pl m ρ c (1 : Fin 5) t :=
  ((dats pl m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA pl).N) (d) : (dats pl m ρ 0 c).before (2 : Fin 5) t d = iblk pl m ρ c (2 : Fin 5) t :=
  ((dats pl m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA pl).N) (d) : (dats pl m ρ 0 c).before (3 : Fin 5) t d = iblk pl m ρ c (3 : Fin 5) t :=
  ((dats pl m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Output 4's `after` carries through the points that leave it idle. -/
theorem hcarry0_4 (c : Dev nD) : ∀ (t : Fin (cfgA pl).N) (ht : t.val ≠ 0), (cfgA pl).idle (4 : Fin 5) ((cfgA pl).grid.coords t) = true → (cfgA pl).fresh (4 : Fin 5) t.val = false →
    (dats pl m ρ 0 c).after (4 : Fin 5) t = (dats pl m ρ 0 c).after (4 : Fin 5) ⟨t.val - 1, by omega⟩ := by
  intro t ht hi hf
  rw [after0_4, after0_4, traj0_eq]
  by_cases q0 : P0_0 pl t
  · by_cases q1 : P0_1 pl t
    · have i4 : (cfgA pl).idle (4 : Fin 5) ((cfgA pl).grid.coords t) = false := (idle4 pl t).trans (by rw [decide_eq_true ((used_iff pl t).mp q0), Bool.not_true])
      rw [i4] at hi; exact absurd hi (by decide)
    · have i4 : (cfgA pl).idle (4 : Fin 5) ((cfgA pl).grid.coords t) = false := (idle4 pl t).trans (by rw [decide_eq_true ((used_iff pl t).mp q0), Bool.not_true])
      rw [i4] at hi; exact absurd hi (by decide)
  · rw [step0_C pl m ρ c t _ q0]
    simp only [hf, Bool.false_eq_true, ↓reduceIte]
    unfold prev0; rw [dif_neg ht]

/-- Output window 4 holds, when the body runs at `t`: junk if nothing was stored since its last write-back (`Cfg.fresh`),
    else what the point before left (TableIdle.lean `Dat.before_out_traj`). -/
theorem before0_4 (c : Dev nD) (t : Fin (cfgA pl).N) (d) :
    (dats pl m ρ 0 c).before (4 : Fin 5) t d = if (cfgA pl).fresh (4 : Fin 5) t.val then d else (prev0 pl m ρ c t).1 := by
  rw [(dats pl m ρ 0 c).before_out_traj (4 : Fin 5) rfl (fun _ _ => rfl) (hcarry0_4 pl m ρ c) t.val t rfl d]
  by_cases hf : (cfgA pl).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-! ## The body obligation, at a generic point, by path -/

/-- The body at point `t` on its staging memrefs, as the pipeline calls it. -/
abbrev bodyAt0 (t : Fin (cfgA pl).N) : Prog (TpuEff nD τ sig (Elt Ideal) Λ₀ .tc) PUnit :=
  cc0_experts (crd pl t) (Memref.whole main_arg0) (Memref.isWhole_whole _) (Memref.whole main_arg1) (Memref.isWhole_whole _) (ms0_0 pl t) (hs0_0 pl t) (ms0_1 pl t) (hs0_1 pl t) (ms0_2 pl t) (hs0_2 pl t) (ms0_3 pl t) (hs0_3 pl t) (ms0_4 pl t) (hs0_4 pl t) (Memref.whole cc0_scratch0) (Memref.isWhole_whole _) (Memref.whole cc0_scratch1) (Memref.isWhole_whole _) (Memref.whole cc0_scratch2) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned pl m) (c : Dev nD) (t : Fin (cfgA pl).N) :
    iprop((dats pl m ρ 0 c).Φ t.castSucc ∗ (dats pl m ρ 0 c).owesAt () t.castSucc
        ∗ (∃ d, owns (c : Thread nD τ) (ms0_0 pl t) fullShare ((dats pl m ρ 0 c).before (0 : Fin 5) t d))
        ∗ (∃ d, owns (c : Thread nD τ) (ms0_1 pl t) fullShare ((dats pl m ρ 0 c).before (1 : Fin 5) t d))
        ∗ (∃ d, owns (c : Thread nD τ) (ms0_2 pl t) fullShare ((dats pl m ρ 0 c).before (2 : Fin 5) t d))
        ∗ (∃ d, owns (c : Thread nD τ) (ms0_3 pl t) fullShare ((dats pl m ρ 0 c).before (3 : Fin 5) t d))
        ∗ (∃ d, owns (c : Thread nD τ) (ms0_4 pl t) fullShare ((dats pl m ρ 0 c).before (4 : Fin 5) t d)))
      ⊢ wp frame (wpE (defs₀ (F := Ideal)) Variants.none c none) Set.univ (bodyAt0 pl t) fun _ =>
          iprop((dats pl m ρ 0 c).Φ t.succ ∗ (dats pl m ρ 0 c).owesAt () t.succ
            ∗ bigSep Finset.univ fun w : Fin (cfgA pl).W =>
                match (cfgA pl).idle w ((cfgA pl).grid.coords t) with
                | true =>
                  match ((cfgA pl).win w).flush t with
                  | false => iprop(∃ d, owns (c : Thread nD τ) (((cfgA pl).win w).stage ((cfgA pl).slots t w)) fullShare ((dats pl m ρ 0 c).before w t d))
                  | true => owns (c : Thread nD τ) (((cfgA pl).win w).stage ((cfgA pl).slots t w)) fullShare ((dats pl m ρ 0 c).after w t)
                | false => owns (c : Thread nD τ) (((cfgA pl).win w).stage ((cfgA pl).slots t w)) fullShare ((dats pl m ρ 0 c).after w t)) := by
  rw [bigSep_W0]
  by_cases q0 : P0_0 pl t
  · by_cases q1 : P0_1 pl t
    · have i4 : (cfgA pl).idle (4 : Fin 5) ((cfgA pl).grid.coords t) = false := (idle4 pl t).trans (by rw [decide_eq_true ((used_iff pl t).mp q0), Bool.not_true])
      have sfn0 : sfresh (t.val + 1) = false := rfl
      have sfn1 : sfresh (t.val + 1) = false := rfl
      have sfn2 : sfresh (t.val + 1) = false := rfl
      have k0_h1 := q0
      have hc1 := q1
      rewrite [i4]
      simp only [before0_0, before0_1, before0_2, before0_3, before0_4, after0_0, after0_1, after0_2, after0_3, after0_4]
      rewrite [show (dats pl m ρ 0 c).Φ t.succ = Phi pl m ρ c t.succ from rfl, show (dats pl m ρ 0 c).Φ t.castSucc = Phi pl m ρ c t.castSucc from rfl,
        show (dats pl m ρ 0 c).owesAt () t.succ = (dats pl m ρ 0 c).owesAt () t.castSucc from rfl]
      try rewrite [traj0_eq, step0_A pl m ρ c t _ q0 q1]
      unfold Phi; simp only [prev0T_castSucc, prev0T_succ, traj0_eq, step0_A pl m ρ c t _ q0 q1, Fin.val_castSucc, Fin.val_succ]
      iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
      iapply ((kernelRun0_A c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) k0_h1 hc1).2.2.2.2 a0 a1 a2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_A_4 c _ _ _ _ _ _ _ _ _ _ _ _ _ _ _ _ _ _ _)
    · have i4 : (cfgA pl).idle (4 : Fin 5) ((cfgA pl).grid.coords t) = false := (idle4 pl t).trans (by rw [decide_eq_true ((used_iff pl t).mp q0), Bool.not_true])
      have sfn0 : sfresh (t.val + 1) = false := rfl
      have sfn1 : sfresh (t.val + 1) = false := rfl
      have sfn2 : sfresh (t.val + 1) = false := rfl
      have h0 : t.val ≠ 0 := fun h => q1 ((reload_iff pl t).mpr (Or.inl h))
      have sf0 : sfresh t.val = false := sfresh_pos h0
      have sf1 : sfresh t.val = false := sfresh_pos h0
      have sf2 : sfresh t.val = false := sfresh_pos h0
      have k0_h1 := q0
      have hc1 := q1
      rewrite [i4]
      simp only [before0_0, before0_1, before0_2, before0_3, before0_4, after0_0, after0_1, after0_2, after0_3, after0_4]
      rewrite [show (dats pl m ρ 0 c).Φ t.succ = Phi pl m ρ c t.succ from rfl, show (dats pl m ρ 0 c).Φ t.castSucc = Phi pl m ρ c t.castSucc from rfl,
        show (dats pl m ρ 0 c).owesAt () t.succ = (dats pl m ρ 0 c).owesAt () t.castSucc from rfl]
      try rewrite [traj0_eq, step0_B pl m ρ c t _ q0 q1]
      unfold Phi; simp only [prev0T_castSucc, prev0T_succ, traj0_eq, step0_B pl m ρ c t _ q0 q1, Fin.val_castSucc, Fin.val_succ]
      simp only [exists_held sf0, exists_held sf1, exists_held sf2]
      iintro ⟨⟨HS0, HS1, HS2, HT0, HT1⟩, Ho, ⟨%d0, H0⟩, ⟨%d1, H1⟩, ⟨%d2, H2⟩, ⟨%d3, H3⟩, ⟨%d4, H4⟩⟩
      iapply ((kernelRun0_B c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) _ _ _ k0_h1 hc1).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_B_4 c _ _ _ _ _ _ _ _ _ _ _ _ _ _ _ _ _ _ _ _ _ _)
  · have hlt := t_lt pl t
    have hu : ¬t.val < pl.nb := fun h => q0 ((used_iff pl t).mpr h)
    have i4 : (cfgA pl).idle (4 : Fin 5) ((cfgA pl).grid.coords t) = true := (idle4 pl t).trans (by rw [decide_eq_false hu, Bool.not_false])
    have fr4 := fresh4 pl t.val (Nat.le_of_not_lt hu) hlt
    have h0 : t.val ≠ 0 := by have := pl.h1; omega
    have sf0 : sfresh t.val = false := sfresh_pos h0
    have sfn0 : sfresh (t.val + 1) = false := rfl
    have sf1 : sfresh t.val = false := sfresh_pos h0
    have sfn1 : sfresh (t.val + 1) = false := rfl
    have sf2 : sfresh t.val = false := sfresh_pos h0
    have sfn2 : sfresh (t.val + 1) = false := rfl
    have k0_h1 := q0
    rcases Bool.eq_false_or_eq_true (((cfgA pl).win (4 : Fin 5)).flush t) with f4 | f4
    · rewrite [i4]
      simp only [before0_0, before0_1, before0_2, before0_3, before0_4, after0_0, after0_1, after0_2, after0_3, after0_4, f4]
      simp only [fr4, Bool.false_eq_true, ↓reduceIte]
      rewrite [show (dats pl m ρ 0 c).Φ t.succ = Phi pl m ρ c t.succ from rfl, show (dats pl m ρ 0 c).Φ t.castSucc = Phi pl m ρ c t.castSucc from rfl,
        show (dats pl m ρ 0 c).owesAt () t.succ = (dats pl m ρ 0 c).owesAt () t.castSucc from rfl]
      try rewrite [traj0_eq, step0_C pl m ρ c t _ q0]
      unfold Phi; simp only [prev0T_castSucc, prev0T_succ, traj0_eq, step0_C pl m ρ c t _ q0, Fin.val_castSucc, Fin.val_succ, fr4, Bool.false_eq_true, ↓reduceIte]
      simp only [exists_held sf0, exists_held sf1, exists_held sf2]
      iintro ⟨⟨HS0, HS1, HS2, HT0, HT1⟩, Ho, ⟨%d0, H0⟩, ⟨%d1, H1⟩, ⟨%d2, H2⟩, ⟨%d3, H3⟩, ⟨%d4, H4⟩⟩
      iapply ((kernelRun0_C c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) _ _ _ k0_h1).2.2.2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      isplitl [HS2]; · iexact HS2
      iintro ⟨H0, H1, H2, H3, HT0, HT1, H4, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      first | (iexists d4; iexact H4) | iexact H4
    · rewrite [i4]
      simp only [before0_0, before0_1, before0_2, before0_3, before0_4, after0_0, after0_1, after0_2, after0_3, after0_4, f4]
      simp only [fr4, Bool.false_eq_true, ↓reduceIte]
      rewrite [show (dats pl m ρ 0 c).Φ t.succ = Phi pl m ρ c t.succ from rfl, show (dats pl m ρ 0 c).Φ t.castSucc = Phi pl m ρ c t.castSucc from rfl,
        show (dats pl m ρ 0 c).owesAt () t.succ = (dats pl m ρ 0 c).owesAt () t.castSucc from rfl]
      try rewrite [traj0_eq, step0_C pl m ρ c t _ q0]
      unfold Phi; simp only [prev0T_castSucc, prev0T_succ, traj0_eq, step0_C pl m ρ c t _ q0, Fin.val_castSucc, Fin.val_succ, fr4, Bool.false_eq_true, ↓reduceIte]
      simp only [exists_held sf0, exists_held sf1, exists_held sf2]
      iintro ⟨⟨HS0, HS1, HS2, HT0, HT1⟩, Ho, ⟨%d0, H0⟩, ⟨%d1, H1⟩, ⟨%d2, H2⟩, ⟨%d3, H3⟩, ⟨%d4, H4⟩⟩
      iapply ((kernelRun0_C c (crd pl t) (ms0_0 pl t) (hs0_0 pl t) (ms0_1 pl t) (hs0_1 pl t) (ms0_2 pl t) (hs0_2 pl t) (ms0_3 pl t) (hs0_3 pl t) (ms0_4 pl t) (hs0_4 pl t) (T0 pl) (T1 pl) (iblk pl m ρ c (0 : Fin 5) t) (iblk pl m ρ c (1 : Fin 5) t) (iblk pl m ρ c (2 : Fin 5) t) (iblk pl m ρ c (3 : Fin 5) t) _ _ _ k0_h1).2.2.2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      isplitl [HS2]; · iexact HS2
      iintro ⟨H0, H1, H2, H3, HT0, HT1, H4, HS0, HS1, HS2⟩
      isplitl [HS0 HS1 HS2 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      first | (iexists d4; iexact H4) | iexact H4

/-- The library's body obligation, at every point. -/
theorem body_obligation (hp : Pinned pl m) (c : Dev nD) : BodyObligation (dats pl m ρ 0 c) (defs₀ (F := Ideal)) Variants.none () Set.univ := fun t => by
  rw [bigSep_W0]
  exact sound_body pl m ρ hp c t

/-! ## The launch -/

/-- The rounds library's launch element. -/
def u₀ : UR sig nD τ :=
  initOf (Pipeline.cells (pcs pl) ((launch0 (F := Ideal)).cellOf_inj fun _ => adm pl))
    (Pipeline.launchToks (pcs pl) ((launch0 (F := Ideal)).cellOf_inj fun _ => adm pl))

/-- Every array is held in full. -/
theorem share_eq (c : Dev nD) (w : Fin (cfgA pl).W) : (dats pl m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp (MT nD τ sig Unit (Elt Ideal) ℕ (UR sig nD τ) ℕ))
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm pl).1 ∗ Pipeline.scopedRest spec0 c) ⊢ (dats pl m ρ 0 c).Φ 0 := by
  rw [prefHeld_eq, scopedRest0_eq, show (dats pl m ρ 0 c).Φ 0 = Phi pl m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro h; exact absurd (h.symm.trans (show sfresh 0 = true from rfl)) Bool.false_ne_true
  isplitl [HS1]
  · iexists a1; isplitr; swap
    · iexact HS1
    · ipureintro; intro h; exact absurd (h.symm.trans (show sfresh 0 = true from rfl)) Bool.false_ne_true
  isplitl [HS2]
  · iexists a2; isplitr; swap
    · iexact HS2
    · ipureintro; intro h; exact absurd (h.symm.trans (show sfresh 0 = true from rfl)) Bool.false_ne_true
  isplitl [HT0]
  · iexact HT0
  iexact HT1

/-- at the last point it gives the scratch buffers back (`hout`), the tables let go. -/
theorem phiN_exit (c : Dev nD) : (dats pl m ρ 0 c).Φ (Fin.last (cfgA pl).N) ⊢ iprop(BI.emp ∗ Pipeline.scopedRest spec0 c) := by
  rw [scopedRest0_eq, show (dats pl m ρ 0 c).Φ (Fin.last (cfgA pl).N) = Phi pl m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- The physical post: every array at what the library computes, every table at what the pipeline ran at. -/
def QC : PUnit × MemSt nD τ sig (Elt Ideal) → Prop := fun r =>
  ∀ c : Dev nD, (∀ w : Fin (cfgA pl).W, r.2.mem (((cfgA pl).win w).arr.view.loc (c : Thread nD τ)) = (dats pl m ρ 0 c).arrAt w (cfgA pl).N)
    ∧ ∀ j, r.2.mem ((c : Thread nD τ).loc (pre0.ref j)) = (adm pl).1 j

/-- The tables in memory are the plan's. -/
theorem V_pre (hp : Pinned pl m) (c : Dev nD) (j : Fin 2) : m ((c : Thread nD τ).loc (pre0.ref j)) = (adm pl).1 j := by
  fin_cases j
  · exact hp.1 c
  · exact hp.2 c

set_option backward.isDefEq.respectTransparency.types false in
set_option maxHeartbeats 4000000 in
/-- At the compiled mesh, from any memory with zero counters whose tables are the plan's: every weakly
    fair execution of @main on the TensorCores terminates, and every final state has each array at the computed contents,
    and every semaphore counter of the machine at zero. -/
theorem run_main_quiescent (hp : Pinned pl m) : θ_run (defs (F := Ideal)) (onTc (τ := τ) (main (F := Ideal))) (s₀ m ρ) (fun r => QC pl m ρ r ∧ r.2.sem = fun _ => 0) :=
  Pipeline.θ_run_region_noSem_pf_quiescent pcfgs (fun _ => adm pl) (dats pl m ρ) () ((launch0 (F := Ideal)).cellOf_inj fun _ => adm pl) (0 : Fin 1)
    (launch0 (F := Ideal)).win.to₀ (launch0 (F := Ideal)).pre EP defs₀ Variants.none m ρ main
    (hbody := fun c => (body_obligation pl m ρ hp c).loose) (hne := (launch0 (F := Ideal)).block_pos)
    (harr := (launch0 (F := Ideal)).arr_whole) (hstage := (launch0 (F := Ideal)).stage_whole) (howed := fun _ _ => rfl)
    (u₀ := u₀ pl) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs pl) (dats pl m ρ) 0 (launch0 (F := Ideal)).win.arr_inj c (launch0 (F := Ideal)).arr_whole
      (share_eq pl m ρ c) _ _ fun _ => rfl)
    (hpf := V_pre pl m hp)
    (X := fun _ => iprop(emp)) (Y := fun _ => iprop(emp)) (Z := fun _ => iprop(emp))
    (hX := fun c => by rw [unscopedRestP0_eq]; iintro -; isplitr <;> iempintro)
    (hin := phi0_intro pl m ρ)
    (hout := phiN_exit pl m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned pl m) : θ_run (defs (F := Ideal)) (onTc (τ := τ) (main (F := Ideal))) (s₀ m ρ) (QC pl m ρ) :=
  (θ_run defs _ _).mono (fun _ h => h.1) (run_main_quiescent pl m ρ hp)

/-- `frame` without the counters: the argument arrays end unchanged. -/
theorem unchanged (hp : Pinned pl m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats pl m ρ 0 c).arrAt_in (0 : Fin 5) rfl _), ((h c).1 (1 : Fin 5)).trans ((dats pl m ρ 0 c).arrAt_in (1 : Fin 5) rfl _), ((h c).1 (2 : Fin 5)).trans ((dats pl m ρ 0 c).arrAt_in (2 : Fin 5) rfl _), ((h c).1 (3 : Fin 5)).trans ((dats pl m ρ 0 c).arrAt_in (3 : Fin 5) rfl _)⟩) (run_main pl m ρ hp)

/-- The frame: from a memory whose tables are the plan's, every weakly fair execution terminates without a fault, every
    argument array ends unchanged, and every semaphore counter reads zero at every final state. -/
theorem frame (hp : Pinned pl m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged pl m ρ hp) ((θ_run defs _ _).mono (fun _ h => h.2) (run_main_quiescent pl m ρ hp))

end Cert.ExpertsIdeal.Plan

end
-- ==== Proof.Row.lean ====
module

public import Idealize.ShloMosaic.Lib.Pointwise
public import Idealize.ShloMosaic.Lib.ValueIdx

@[expose] public section

noncomputable section

/-! The mathematics of one expert's row, and the facts of sums the two programs' texts come down to. -/

namespace Cert.Moe

open Idealize.ShloMosaic

/-- `v` times the logistic function of `v`. -/
def silu (v : EReal) : EReal := v * Ideal.div 1 (1 + Ideal.exp (-v))

/-- One entry of what one expert makes of one row `x`: the gated hidden row, weighted by the routing weight `g`, times one
    column of the expert's last matrix. -/
def rowOut (x : Fin 2048 → EReal) (wg wu : Fin 2048 → Fin 512 → EReal) (wd : Fin 512 → EReal) (g : EReal) : EReal :=
  ∑ f : Fin 512, ((silu (∑ k : Fin 2048, x k * wg k f) * ∑ k : Fin 2048, x k * wu k f) * g) * wd f

/-- With weight zero an expert adds nothing. -/
theorem rowOut_zero (x : Fin 2048 → EReal) (wg wu : Fin 2048 → Fin 512 → EReal) (wd : Fin 512 → EReal) : rowOut x wg wu wd 0 = 0 :=
  Finset.sum_eq_zero fun f _ => by rw [mul_zero, zero_mul]

/-- A sum over 128 lanes with one lane kept is that lane. -/
theorem sum_lane (v : Fin 128 → EReal) (e : Fin 128) : (∑ l : Fin 128, if l = e then v l else 0) = v e := by
  rw [Finset.sum_ite_eq' Finset.univ e v, if_pos (Finset.mem_univ e)]

/-- Eight experts of which only number `e` can have a weight: the sum is that expert's, if it is among them. -/
theorem sum_group (F : ℕ → EReal) (e o : ℕ) :
    (∑ q : Fin 8, if e = o + q.val then F (o + q.val) else 0) = if o ≤ e ∧ e < o + 8 then F e else 0 := by
  by_cases h : o ≤ e ∧ e < o + 8
  · rw [if_pos h, Finset.sum_eq_single (⟨e - o, by omega⟩ : Fin 8)]
    · have : o + (e - o) = e := by omega
      simp only [this, if_pos]
    · intro q _ hq
      rw [if_neg]
      intro he
      exact hq (Fin.ext (by simp only; omega))
    · intro hh; exact absurd (Finset.mem_univ _) hh
  · rw [if_neg h]
    refine Finset.sum_eq_zero fun q _ => if_neg ?_
    have := q.isLt
    omega

/-- The eight groups of eight experts added in order give the one expert with a weight. -/
theorem sum_groups (F : ℕ → EReal) (e : ℕ) (he : e < 64) :
    ((((((((0 + (if 0 ≤ e ∧ e < 0 + 8 then F e else 0)) + (if 8 ≤ e ∧ e < 8 + 8 then F e else 0)) + (if 16 ≤ e ∧ e < 16 + 8 then F e else 0))
      + (if 24 ≤ e ∧ e < 24 + 8 then F e else 0)) + (if 32 ≤ e ∧ e < 32 + 8 then F e else 0)) + (if 40 ≤ e ∧ e < 40 + 8 then F e else 0))
      + (if 48 ≤ e ∧ e < 48 + 8 then F e else 0)) + (if 56 ≤ e ∧ e < 56 + 8 then F e else 0) : EReal) = F e := by
  have h8 : e / 8 = 0 ∨ e / 8 = 1 ∨ e / 8 = 2 ∨ e / 8 = 3 ∨ e / 8 = 4 ∨ e / 8 = 5 ∨ e / 8 = 6 ∨ e / 8 = 7 := by omega
  rcases h8 with h | h | h | h | h | h | h | h
  · rw [if_pos (by omega), if_neg (by omega), if_neg (by omega), if_neg (by omega), if_neg (by omega), if_neg (by omega), if_neg (by omega), if_neg (by omega)]; simp only [add_zero, zero_add]
  · rw [if_neg (by omega), if_pos (by omega), if_neg (by omega), if_neg (by omega), if_neg (by omega), if_neg (by omega), if_neg (by omega), if_neg (by omega)]; simp only [add_zero, zero_add]
  · rw [if_neg (by omega), if_neg (by omega), if_pos (by omega), if_neg (by omega), if_neg (by omega), if_neg (by omega), if_neg (by omega), if_neg (by omega)]; simp only [add_zero, zero_add]
  · rw [if_neg (by omega), if_neg (by omega), if_neg (by omega), if_pos (by omega), if_neg (by omega), if_neg (by omega), if_neg (by omega), if_neg (by omega)]; simp only [add_zero, zero_add]
  · rw [if_neg (by omega), if_neg (by omega), if_neg (by omega), if_neg (by omega), if_pos (by omega), if_neg (by omega), if_neg (by omega), if_neg (by omega)]; simp only [add_zero, zero_add]
  · rw [if_neg (by omega), if_neg (by omega), if_neg (by omega), if_neg (by omega), if_neg (by omega), if_pos (by omega), if_neg (by omega), if_neg (by omega)]; simp only [add_zero, zero_add]
  · rw [if_neg (by omega), if_neg (by omega), if_neg (by omega), if_neg (by omega), if_neg (by omega), if_neg (by omega), if_pos (by omega), if_neg (by omega)]; simp only [add_zero, zero_add]
  · rw [if_neg (by omega), if_neg (by omega), if_neg (by omega), if_neg (by omega), if_neg (by omega), if_neg (by omega), if_neg (by omega), if_pos (by omega)]; simp only [add_zero, zero_add]

end Cert.Moe

end
-- ==== Proof.Step.lean ====
module

public import proofs.«01_k».proof.Proof.Row
public import Idealize.ShloMosaic.Lib.VecWindow
public import Idealize.ShloMosaic.Lib.Pipeline.FrameBody
public import proofs.«01_k».proof.Proof.FrameIdeal

@[expose] public section

set_option maxRecDepth 16384

noncomputable section

namespace Cert.ExpertsIdeal.Plan

open Cert.ExpertsIdeal Cert.ExpertsIdeal.Gen Cert.Moe
open Idealize.ShloMosaic Idealize.ShloMosaic.TcCoe
open Idealize.ShloMosaic.ValueIdx (eq_zero_of_ne_one select_one select_zero)

/-! # What one grid point leaves

The three paths of the kernel's body in closed form: what a point stores to its output block, and what it leaves in
the three scratch buffers that carry an expert's weights from one point to the next. -/

/-- The token columns of a block of the prepared array: its first 2048 columns. -/
def tokens (x0 : S256x2432.Idx → Elt Ideal .bf16) : Vec Ideal S256x2048 .bf16 := fun y =>
  x0 (ix2 (⟨(y 0).val, (y 0).isLt⟩ : Fin 256) (⟨(y 1).val, Nat.lt_of_lt_of_le (y 1).isLt (by decide)⟩ : Fin 2432))

/-- A group of 128 gate columns of a block of the prepared array, from column `o`. -/
def lanes (o : ℕ) (ho : o + 128 ≤ 2432) (x0 : S256x2432.Idx → Elt Ideal .bf16) : Vec Ideal S256x128 .bf16 := fun y =>
  x0 (ix2 (⟨(y 0).val, (y 0).isLt⟩ : Fin 256) (⟨o + (y 1).val, Nat.lt_of_lt_of_le (Nat.add_lt_add_left (y 1).isLt o) ho⟩ : Fin 2432))

/-- What the body stores to its output block: from the word that names the expert, the block of the prepared array
    and the three weight matrices it reads from the scratch buffers. -/
def stored (w : Elt Ideal .i32) (x0 : S256x2432.Idx → Elt Ideal .bf16) (w0 w1 : Vec Ideal S2048x512 .bf16) (w2 : Vec Ideal S512x2048 .bf16) :
    S256x2048.Idx → Elt Ideal .bf16 :=
  k0_pay1 (tokens x0) (k0_pay5 w (lanes 2048 (by decide) x0) (lanes 2176 (by decide) x0) (lanes 2304 (by decide) x0)) (k0_pay6 (tokens x0) w0) w1 w2

/-- The body's load of the token columns. -/
theorem load_tokens (v : View sig .tc .vmem S256x2432 .bf16) (x0 : S256x2432.Idx → Elt Ideal .bf16) :
    v.readAt (Elt Ideal) (Rect.unit (s := S256x2432) ![0, 0] S256x2048.size inb_S256x2432_S256x2048_0_0).toLoadRect (v.rep x0) = tokens x0 := by
  rw [View.readAt_rep]
  funext y
  refine congrArg x0 (funext fun a => ?_)
  fin_cases a
  · exact Fin.ext (show 0 + 1 * (y 0).val = (y 0).val by omega)
  · exact Fin.ext (show 0 + 1 * (y 1).val = (y 1).val by omega)

/-- The body's load of a group of gate columns. -/
theorem load_lanes (v : View sig .tc .vmem S256x2432 .bf16) (x0 : S256x2432.Idx → Elt Ideal .bf16) (o : ℕ) (ho : o + 128 ≤ 2432)
    (inb : ∀ a, (![0, o] : Fin 2 → ℕ) a + S256x128.size a ≤ S256x2432.size a) :
    v.readAt (Elt Ideal) (Rect.unit (s := S256x2432) ![0, o] S256x128.size inb).toLoadRect (v.rep x0) = lanes o ho x0 := by
  rw [View.readAt_rep]
  funext y
  refine congrArg x0 (funext fun a => ?_)
  fin_cases a
  · exact Fin.ext (show 0 + 1 * (y 0).val = (y 0).val by omega)
  · exact Fin.ext (show o + 1 * (y 1).val = o + (y 1).val by omega)

/-- The first scratch buffer after a store of all of it holds what was stored. -/
theorem fill0 (w : Vec Ideal S2048x512 .bf16) :
    (View.whole cc0_scratch0).writes (Elt Ideal) (View.whole cc0_scratch0).junk [⟨Rect.unit (s := S2048x512) ![0, 0] S2048x512.size inb_S2048x512_S2048x512_0_0, w⟩] = w :=
  (View.read_whole (Val := Elt Ideal) cc0_scratch0 _).symm.trans (View.read_writes_full (s := S2048x512) (e := .bf16) (View.whole cc0_scratch0) (View.whole cc0_scratch0).junk inb_S2048x512_S2048x512_0_0 w [])

/-- Likewise the second. -/
theorem fill1 (w : Vec Ideal S2048x512 .bf16) :
    (View.whole cc0_scratch1).writes (Elt Ideal) (View.whole cc0_scratch1).junk [⟨Rect.unit (s := S2048x512) ![0, 0] S2048x512.size inb_S2048x512_S2048x512_0_0, w⟩] = w :=
  (View.read_whole (Val := Elt Ideal) cc0_scratch1 _).symm.trans (View.read_writes_full (s := S2048x512) (e := .bf16) (View.whole cc0_scratch1) (View.whole cc0_scratch1).junk inb_S2048x512_S2048x512_0_0 w [])

/-- Likewise the third. -/
theorem fill2 (w : Vec Ideal S512x2048 .bf16) :
    (View.whole cc0_scratch2).writes (Elt Ideal) (View.whole cc0_scratch2).junk [⟨Rect.unit (s := S512x2048) ![0, 0] S512x2048.size inb_S512x2048_S512x2048_0_0, w⟩] = w :=
  (View.read_whole (Val := Elt Ideal) cc0_scratch2 _).symm.trans (View.read_writes_full (s := S512x2048) (e := .bf16) (View.whole cc0_scratch2) (View.whole cc0_scratch2).junk inb_S512x2048_S512x2048_0_0 w [])

/-- A store of a whole output block leaves what was stored. -/
theorem fillO (f : VO0_4.ty.Contents (Elt Ideal)) (w : S256x2048.Idx → Elt Ideal .bf16) :
    VO0_4.read (Elt Ideal) (VO0_4.writes (Elt Ideal) f [⟨Rect.unit (s := S256x2048) ![0, 0] S256x2048.size inb_S256x2048_S256x2048_0_0, w⟩]) = w :=
  View.read_writes_full VO0_4 f inb_S256x2048_S256x2048_0_0 w []

/-- Equal weights are used equally. -/
theorem stored_congr (w : Elt Ideal .i32) (x0 : S256x2432.Idx → Elt Ideal .bf16) {w0 v0 w1 v1 : Vec Ideal S2048x512 .bf16} {w2 v2 : Vec Ideal S512x2048 .bf16}
    (h0 : w0 = v0) (h1 : w1 = v1) (h2 : w2 = v2) : stored w x0 w0 w1 w2 = stored w x0 v0 v1 v2 := by
  subst h0 h1 h2; rfl

/-- What the body reads back from the first scratch buffer after filling it; -/
theorem back0 (x1 : S1x2048x512.Idx → Elt Ideal .f32) (v : View sig .tc .vmem S1x2048x512 .f32) :
    scM0_0.view.readCov (Val := Elt Ideal) [⟨Rect.unit (s := S2048x512) ![0, 0] S2048x512.size inb_S2048x512_S2048x512_0_0,
      k0_pay2 (View.readAt (Elt Ideal) v (Rect.unit (s := S1x2048x512) ![0, 0, 0] S1x2048x512.size inb_S1x2048x512_S1x2048x512_0_0_0).toLoadRect (v.rep x1))⟩]
      (Rect.unit (s := S2048x512) ![0, 0] S2048x512.size inb_S2048x512_S2048x512_0_0).toLoadRect = k0_pay2 x1 :=
  (View.readCov_full scM0_0.view inb_S2048x512_S2048x512_0_0 inb_S2048x512_S2048x512_0_0 _ []).trans (congrArg k0_pay2 (View.readAt_rep_full v x1 inb_S1x2048x512_S1x2048x512_0_0_0))

/-- from the second; -/
theorem back1 (x1 : S1x2048x512.Idx → Elt Ideal .f32) (v : View sig .tc .vmem S1x2048x512 .f32) :
    scM0_1.view.readCov (Val := Elt Ideal) [⟨Rect.unit (s := S2048x512) ![0, 0] S2048x512.size inb_S2048x512_S2048x512_0_0,
      k0_pay3 (View.readAt (Elt Ideal) v (Rect.unit (s := S1x2048x512) ![0, 0, 0] S1x2048x512.size inb_S1x2048x512_S1x2048x512_0_0_0).toLoadRect (v.rep x1))⟩]
      (Rect.unit (s := S2048x512) ![0, 0] S2048x512.size inb_S2048x512_S2048x512_0_0).toLoadRect = k0_pay3 x1 :=
  (View.readCov_full scM0_1.view inb_S2048x512_S2048x512_0_0 inb_S2048x512_S2048x512_0_0 _ []).trans (congrArg k0_pay3 (View.readAt_rep_full v x1 inb_S1x2048x512_S1x2048x512_0_0_0))

/-- and from the third. -/
theorem back2 (x1 : S1x512x2048.Idx → Elt Ideal .f32) (v : View sig .tc .vmem S1x512x2048 .f32) :
    scM0_2.view.readCov (Val := Elt Ideal) [⟨Rect.unit (s := S512x2048) ![0, 0] S512x2048.size inb_S512x2048_S512x2048_0_0,
      k0_pay4 (View.readAt (Elt Ideal) v (Rect.unit (s := S1x512x2048) ![0, 0, 0] S1x512x2048.size inb_S1x512x2048_S1x512x2048_0_0_0).toLoadRect (v.rep x1))⟩]
      (Rect.unit (s := S512x2048) ![0, 0] S512x2048.size inb_S512x2048_S512x2048_0_0).toLoadRect = k0_pay4 x1 :=
  (View.readCov_full scM0_2.view inb_S512x2048_S512x2048_0_0 inb_S512x2048_S512x2048_0_0 _ []).trans (congrArg k0_pay4 (View.readAt_rep_full v x1 inb_S1x512x2048_S1x512x2048_0_0_0))

/-- A load of the whole first scratch buffer reads what it holds; -/
theorem keep0 (w : Vec Ideal S2048x512 .bf16) :
    View.readAt (Elt Ideal) scM0_0.view (Rect.unit (s := S2048x512) ![0, 0] S2048x512.size inb_S2048x512_S2048x512_0_0).toLoadRect w = w :=
  View.readAt_full scM0_0.view w inb_S2048x512_S2048x512_0_0

/-- of the second; -/
theorem keep1 (w : Vec Ideal S2048x512 .bf16) :
    View.readAt (Elt Ideal) scM0_1.view (Rect.unit (s := S2048x512) ![0, 0] S2048x512.size inb_S2048x512_S2048x512_0_0).toLoadRect w = w :=
  View.readAt_full scM0_1.view w inb_S2048x512_S2048x512_0_0

/-- and of the third. -/
theorem keep2 (w : Vec Ideal S512x2048 .bf16) :
    View.readAt (Elt Ideal) scM0_2.view (Rect.unit (s := S512x2048) ![0, 0] S512x2048.size inb_S512x2048_S512x2048_0_0).toLoadRect w = w :=
  View.readAt_full scM0_2.view w inb_S512x2048_S512x2048_0_0

/-- On a point that loads its weights, the output block is computed from the weights just loaded. -/
theorem out_A (c : Dev nD) (i : grid0.Coords) (arg3 : Memref sig .tc .vmem S256x2432 .bf16) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .bf16) (harg7 : arg7.IsWhole) (T0 : (S380.Idx → Elt Ideal .i32)) (T1 : (S1.Idx → Elt Ideal .i32))
     (x0 : (S256x2432.Idx → Elt Ideal .bf16)) (x1 : (S1x2048x512.Idx → Elt Ideal .f32)) (x2 : (S1x2048x512.Idx → Elt Ideal .f32)) (x3 : (S1x512x2048.Idx → Elt Ideal .f32)) (k0_h1 : k0_cond1 i (View.readAt (Elt Ideal) (tbM0_1).view (Rect.unit (s := S1) ![0] S1.size inb_S1_S1_0).toLoadRect T1 (Shape.Idx.first (numel1_S1.symm ▸ Nat.one_pos))) = 1#1) (hc1 : (Scalar.cmpi .ne (Scalar.extui (Scalar.ori (Scalar.cmpi .eq (BitVec.ofNat 32 (i 0).val) 0#32) (Scalar.cmpi .ne (View.readAt (Elt Ideal) (tbM0_0).view (Rect.unit (s := S380) (k0_off2 i) S1.size (k0_off2_inb i)).toLoadRect T0 (Shape.Idx.first (numel1_S1.symm ▸ Nat.one_pos))) (View.readAt (Elt Ideal) (tbM0_0).view (Rect.unit (s := S380) (k0_off3 i) S1.size (k0_off3_inb i)).toLoadRect T0 (Shape.Idx.first (numel1_S1.symm ▸ Nat.one_pos)))))) 0#32) = 1#1) :
    out0_A_4 c i arg3 harg3 arg4 harg4 arg5 harg5 arg6 harg6 arg7 harg7 T0 T1 x0 x1 x2 x3 k0_h1 hc1 = stored (View.readAt (Elt Ideal) (tbM0_0).view (Rect.unit (s := S380) (k0_off2 i) S1.size (k0_off2_inb i)).toLoadRect T0 (Shape.Idx.first (numel1_S1.symm ▸ Nat.one_pos))) x0 (k0_pay2 x1) (k0_pay3 x2) (k0_pay4 x3) := by
  unfold out0_A_4 kernelRun0_A; dsimp only; unfold kernelRun0_A.sl.HO4_1 kernelRun0_A.sl.r_3 kernelRun0_A.sl.r_4 kernelRun0_A.sl.r_5 kernelRun0_A.sl.v41 kernelRun0_A.sl.v47 kernelRun0_A.sl.v31 kernelRun0_A.sl.HS0_1 kernelRun0_A.sl.HS1_1 kernelRun0_A.sl.HS2_1 kernelRun0_A.sl.r_1
  refine (fillO _ _).trans ?_
  rw [load_tokens, load_lanes _ _ 2048 (by decide), load_lanes _ _ 2176 (by decide), load_lanes _ _ 2304 (by decide)]
  exact stored_congr _ x0 (back0 x1 _) (back1 x2 _) (back2 x3 _)

/-- On a point that loads its weights, the first scratch buffer ends with the block loaded. -/
theorem scratch0_A (c : Dev nD) (i : grid0.Coords) (arg3 : Memref sig .tc .vmem S256x2432 .bf16) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .bf16) (harg7 : arg7.IsWhole) (T0 : (S380.Idx → Elt Ideal .i32)) (T1 : (S1.Idx → Elt Ideal .i32))
     (x0 : (S256x2432.Idx → Elt Ideal .bf16)) (x1 : (S1x2048x512.Idx → Elt Ideal .f32)) (x2 : (S1x2048x512.Idx → Elt Ideal .f32)) (x3 : (S1x512x2048.Idx → Elt Ideal .f32)) (k0_h1 : k0_cond1 i (View.readAt (Elt Ideal) (tbM0_1).view (Rect.unit (s := S1) ![0] S1.size inb_S1_S1_0).toLoadRect T1 (Shape.Idx.first (numel1_S1.symm ▸ Nat.one_pos))) = 1#1) (hc1 : (Scalar.cmpi .ne (Scalar.extui (Scalar.ori (Scalar.cmpi .eq (BitVec.ofNat 32 (i 0).val) 0#32) (Scalar.cmpi .ne (View.readAt (Elt Ideal) (tbM0_0).view (Rect.unit (s := S380) (k0_off2 i) S1.size (k0_off2_inb i)).toLoadRect T0 (Shape.Idx.first (numel1_S1.symm ▸ Nat.one_pos))) (View.readAt (Elt Ideal) (tbM0_0).view (Rect.unit (s := S380) (k0_off3 i) S1.size (k0_off3_inb i)).toLoadRect T0 (Shape.Idx.first (numel1_S1.symm ▸ Nat.one_pos)))))) 0#32) = 1#1) :
    (kernelRun0_A c i arg3 harg3 arg4 harg4 arg5 harg5 arg6 harg6 arg7 harg7 T0 T1 x0 x1 x2 x3 k0_h1 hc1).2.1 = k0_pay2 x1 := by
  unfold kernelRun0_A; dsimp only; unfold kernelRun0_A.sl.HS0_1
  refine (fill0 _).trans ?_
  exact congrArg k0_pay2 (View.readAt_rep_full _ _ _)

/-- On a point that loads its weights, the second scratch buffer ends with the block loaded. -/
theorem scratch1_A (c : Dev nD) (i : grid0.Coords) (arg3 : Memref sig .tc .vmem S256x2432 .bf16) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .bf16) (harg7 : arg7.IsWhole) (T0 : (S380.Idx → Elt Ideal .i32)) (T1 : (S1.Idx → Elt Ideal .i32))
     (x0 : (S256x2432.Idx → Elt Ideal .bf16)) (x1 : (S1x2048x512.Idx → Elt Ideal .f32)) (x2 : (S1x2048x512.Idx → Elt Ideal .f32)) (x3 : (S1x512x2048.Idx → Elt Ideal .f32)) (k0_h1 : k0_cond1 i (View.readAt (Elt Ideal) (tbM0_1).view (Rect.unit (s := S1) ![0] S1.size inb_S1_S1_0).toLoadRect T1 (Shape.Idx.first (numel1_S1.symm ▸ Nat.one_pos))) = 1#1) (hc1 : (Scalar.cmpi .ne (Scalar.extui (Scalar.ori (Scalar.cmpi .eq (BitVec.ofNat 32 (i 0).val) 0#32) (Scalar.cmpi .ne (View.readAt (Elt Ideal) (tbM0_0).view (Rect.unit (s := S380) (k0_off2 i) S1.size (k0_off2_inb i)).toLoadRect T0 (Shape.Idx.first (numel1_S1.symm ▸ Nat.one_pos))) (View.readAt (Elt Ideal) (tbM0_0).view (Rect.unit (s := S380) (k0_off3 i) S1.size (k0_off3_inb i)).toLoadRect T0 (Shape.Idx.first (numel1_S1.symm ▸ Nat.one_pos)))))) 0#32) = 1#1) :
    (kernelRun0_A c i arg3 harg3 arg4 harg4 arg5 harg5 arg6 harg6 arg7 harg7 T0 T1 x0 x1 x2 x3 k0_h1 hc1).2.2.1 = k0_pay3 x2 := by
  unfold kernelRun0_A; dsimp only; unfold kernelRun0_A.sl.HS1_1
  refine (fill1 _).trans ?_
  exact congrArg k0_pay3 (View.readAt_rep_full _ _ _)

/-- On a point that loads its weights, the third scratch buffer ends with the block loaded. -/
theorem scratch2_A (c : Dev nD) (i : grid0.Coords) (arg3 : Memref sig .tc .vmem S256x2432 .bf16) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .bf16) (harg7 : arg7.IsWhole) (T0 : (S380.Idx → Elt Ideal .i32)) (T1 : (S1.Idx → Elt Ideal .i32))
     (x0 : (S256x2432.Idx → Elt Ideal .bf16)) (x1 : (S1x2048x512.Idx → Elt Ideal .f32)) (x2 : (S1x2048x512.Idx → Elt Ideal .f32)) (x3 : (S1x512x2048.Idx → Elt Ideal .f32)) (k0_h1 : k0_cond1 i (View.readAt (Elt Ideal) (tbM0_1).view (Rect.unit (s := S1) ![0] S1.size inb_S1_S1_0).toLoadRect T1 (Shape.Idx.first (numel1_S1.symm ▸ Nat.one_pos))) = 1#1) (hc1 : (Scalar.cmpi .ne (Scalar.extui (Scalar.ori (Scalar.cmpi .eq (BitVec.ofNat 32 (i 0).val) 0#32) (Scalar.cmpi .ne (View.readAt (Elt Ideal) (tbM0_0).view (Rect.unit (s := S380) (k0_off2 i) S1.size (k0_off2_inb i)).toLoadRect T0 (Shape.Idx.first (numel1_S1.symm ▸ Nat.one_pos))) (View.readAt (Elt Ideal) (tbM0_0).view (Rect.unit (s := S380) (k0_off3 i) S1.size (k0_off3_inb i)).toLoadRect T0 (Shape.Idx.first (numel1_S1.symm ▸ Nat.one_pos)))))) 0#32) = 1#1) :
    (kernelRun0_A c i arg3 harg3 arg4 harg4 arg5 harg5 arg6 harg6 arg7 harg7 T0 T1 x0 x1 x2 x3 k0_h1 hc1).2.2.2.1 = k0_pay4 x3 := by
  unfold kernelRun0_A; dsimp only; unfold kernelRun0_A.sl.HS2_1
  refine (fill2 _).trans ?_
  exact congrArg k0_pay4 (View.readAt_rep_full _ _ _)

/-- On a used point that keeps its weights, the output block is computed from the weights the scratch buffers hold. -/
theorem out_B (c : Dev nD) (i : grid0.Coords) (arg3 : Memref sig .tc .vmem S256x2432 .bf16) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .bf16) (harg7 : arg7.IsWhole) (T0 : (S380.Idx → Elt Ideal .i32)) (T1 : (S1.Idx → Elt Ideal .i32))
     (x0 : (S256x2432.Idx → Elt Ideal .bf16)) (x1 : (S1x2048x512.Idx → Elt Ideal .f32)) (x2 : (S1x2048x512.Idx → Elt Ideal .f32)) (x3 : (S1x512x2048.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (k0_h1 : k0_cond1 i (View.readAt (Elt Ideal) (tbM0_1).view (Rect.unit (s := S1) ![0] S1.size inb_S1_S1_0).toLoadRect T1 (Shape.Idx.first (numel1_S1.symm ▸ Nat.one_pos))) = 1#1) (hc1 : ¬((Scalar.cmpi .ne (Scalar.extui (Scalar.ori (Scalar.cmpi .eq (BitVec.ofNat 32 (i 0).val) 0#32) (Scalar.cmpi .ne (View.readAt (Elt Ideal) (tbM0_0).view (Rect.unit (s := S380) (k0_off2 i) S1.size (k0_off2_inb i)).toLoadRect T0 (Shape.Idx.first (numel1_S1.symm ▸ Nat.one_pos))) (View.readAt (Elt Ideal) (tbM0_0).view (Rect.unit (s := S380) (k0_off3 i) S1.size (k0_off3_inb i)).toLoadRect T0 (Shape.Idx.first (numel1_S1.symm ▸ Nat.one_pos)))))) 0#32) = 1#1)) :
    out0_B_4 c i arg3 harg3 arg4 harg4 arg5 harg5 arg6 harg6 arg7 harg7 T0 T1 x0 x1 x2 x3 xa0 xa1 xa2 k0_h1 hc1 = stored (View.readAt (Elt Ideal) (tbM0_0).view (Rect.unit (s := S380) (k0_off2 i) S1.size (k0_off2_inb i)).toLoadRect T0 (Shape.Idx.first (numel1_S1.symm ▸ Nat.one_pos))) x0 xa0 xa1 xa2 := by
  unfold out0_B_4 kernelRun0_B; dsimp only; unfold kernelRun0_B.sl.HO4_1 kernelRun0_B.sl.r_3 kernelRun0_B.sl.r_4 kernelRun0_B.sl.r_5 kernelRun0_B.sl.r_1
  refine (fillO _ _).trans ?_
  rw [load_tokens, load_lanes _ _ 2048 (by decide), load_lanes _ _ 2176 (by decide), load_lanes _ _ 2304 (by decide)]
  exact stored_congr _ x0 (keep0 xa0) (keep1 xa1) (keep2 xa2)

/-- On a used point that keeps its weights, the first scratch buffer ends as it was. -/
theorem scratch0_B (c : Dev nD) (i : grid0.Coords) (arg3 : Memref sig .tc .vmem S256x2432 .bf16) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .bf16) (harg7 : arg7.IsWhole) (T0 : (S380.Idx → Elt Ideal .i32)) (T1 : (S1.Idx → Elt Ideal .i32))
     (x0 : (S256x2432.Idx → Elt Ideal .bf16)) (x1 : (S1x2048x512.Idx → Elt Ideal .f32)) (x2 : (S1x2048x512.Idx → Elt Ideal .f32)) (x3 : (S1x512x2048.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (k0_h1 : k0_cond1 i (View.readAt (Elt Ideal) (tbM0_1).view (Rect.unit (s := S1) ![0] S1.size inb_S1_S1_0).toLoadRect T1 (Shape.Idx.first (numel1_S1.symm ▸ Nat.one_pos))) = 1#1) (hc1 : ¬((Scalar.cmpi .ne (Scalar.extui (Scalar.ori (Scalar.cmpi .eq (BitVec.ofNat 32 (i 0).val) 0#32) (Scalar.cmpi .ne (View.readAt (Elt Ideal) (tbM0_0).view (Rect.unit (s := S380) (k0_off2 i) S1.size (k0_off2_inb i)).toLoadRect T0 (Shape.Idx.first (numel1_S1.symm ▸ Nat.one_pos))) (View.readAt (Elt Ideal) (tbM0_0).view (Rect.unit (s := S380) (k0_off3 i) S1.size (k0_off3_inb i)).toLoadRect T0 (Shape.Idx.first (numel1_S1.symm ▸ Nat.one_pos)))))) 0#32) = 1#1)) :
    (kernelRun0_B c i arg3 harg3 arg4 harg4 arg5 harg5 arg6 harg6 arg7 harg7 T0 T1 x0 x1 x2 x3 xa0 xa1 xa2 k0_h1 hc1).2.1 = xa0 := by
  rfl

/-- On a used point that keeps its weights, the second scratch buffer ends as it was. -/
theorem scratch1_B (c : Dev nD) (i : grid0.Coords) (arg3 : Memref sig .tc .vmem S256x2432 .bf16) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .bf16) (harg7 : arg7.IsWhole) (T0 : (S380.Idx → Elt Ideal .i32)) (T1 : (S1.Idx → Elt Ideal .i32))
     (x0 : (S256x2432.Idx → Elt Ideal .bf16)) (x1 : (S1x2048x512.Idx → Elt Ideal .f32)) (x2 : (S1x2048x512.Idx → Elt Ideal .f32)) (x3 : (S1x512x2048.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (k0_h1 : k0_cond1 i (View.readAt (Elt Ideal) (tbM0_1).view (Rect.unit (s := S1) ![0] S1.size inb_S1_S1_0).toLoadRect T1 (Shape.Idx.first (numel1_S1.symm ▸ Nat.one_pos))) = 1#1) (hc1 : ¬((Scalar.cmpi .ne (Scalar.extui (Scalar.ori (Scalar.cmpi .eq (BitVec.ofNat 32 (i 0).val) 0#32) (Scalar.cmpi .ne (View.readAt (Elt Ideal) (tbM0_0).view (Rect.unit (s := S380) (k0_off2 i) S1.size (k0_off2_inb i)).toLoadRect T0 (Shape.Idx.first (numel1_S1.symm ▸ Nat.one_pos))) (View.readAt (Elt Ideal) (tbM0_0).view (Rect.unit (s := S380) (k0_off3 i) S1.size (k0_off3_inb i)).toLoadRect T0 (Shape.Idx.first (numel1_S1.symm ▸ Nat.one_pos)))))) 0#32) = 1#1)) :
    (kernelRun0_B c i arg3 harg3 arg4 harg4 arg5 harg5 arg6 harg6 arg7 harg7 T0 T1 x0 x1 x2 x3 xa0 xa1 xa2 k0_h1 hc1).2.2.1 = xa1 := by
  rfl

/-- On a used point that keeps its weights, the third scratch buffer ends as it was. -/
theorem scratch2_B (c : Dev nD) (i : grid0.Coords) (arg3 : Memref sig .tc .vmem S256x2432 .bf16) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .bf16) (harg7 : arg7.IsWhole) (T0 : (S380.Idx → Elt Ideal .i32)) (T1 : (S1.Idx → Elt Ideal .i32))
     (x0 : (S256x2432.Idx → Elt Ideal .bf16)) (x1 : (S1x2048x512.Idx → Elt Ideal .f32)) (x2 : (S1x2048x512.Idx → Elt Ideal .f32)) (x3 : (S1x512x2048.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (k0_h1 : k0_cond1 i (View.readAt (Elt Ideal) (tbM0_1).view (Rect.unit (s := S1) ![0] S1.size inb_S1_S1_0).toLoadRect T1 (Shape.Idx.first (numel1_S1.symm ▸ Nat.one_pos))) = 1#1) (hc1 : ¬((Scalar.cmpi .ne (Scalar.extui (Scalar.ori (Scalar.cmpi .eq (BitVec.ofNat 32 (i 0).val) 0#32) (Scalar.cmpi .ne (View.readAt (Elt Ideal) (tbM0_0).view (Rect.unit (s := S380) (k0_off2 i) S1.size (k0_off2_inb i)).toLoadRect T0 (Shape.Idx.first (numel1_S1.symm ▸ Nat.one_pos))) (View.readAt (Elt Ideal) (tbM0_0).view (Rect.unit (s := S380) (k0_off3 i) S1.size (k0_off3_inb i)).toLoadRect T0 (Shape.Idx.first (numel1_S1.symm ▸ Nat.one_pos)))))) 0#32) = 1#1)) :
    (kernelRun0_B c i arg3 harg3 arg4 harg4 arg5 harg5 arg6 harg6 arg7 harg7 T0 T1 x0 x1 x2 x3 xa0 xa1 xa2 k0_h1 hc1).2.2.2.1 = xa2 := by
  rfl

/-- On an unused point the first scratch buffer ends as it was. -/
theorem scratch0_C (c : Dev nD) (i : grid0.Coords) (arg3 : Memref sig .tc .vmem S256x2432 .bf16) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .bf16) (harg7 : arg7.IsWhole) (T0 : (S380.Idx → Elt Ideal .i32)) (T1 : (S1.Idx → Elt Ideal .i32))
     (x0 : (S256x2432.Idx → Elt Ideal .bf16)) (x1 : (S1x2048x512.Idx → Elt Ideal .f32)) (x2 : (S1x2048x512.Idx → Elt Ideal .f32)) (x3 : (S1x512x2048.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (k0_h1 : ¬(k0_cond1 i (View.readAt (Elt Ideal) (tbM0_1).view (Rect.unit (s := S1) ![0] S1.size inb_S1_S1_0).toLoadRect T1 (Shape.Idx.first (numel1_S1.symm ▸ Nat.one_pos))) = 1#1)) :
    (kernelRun0_C c i arg3 harg3 arg4 harg4 arg5 harg5 arg6 harg6 arg7 harg7 T0 T1 x0 x1 x2 x3 xa0 xa1 xa2 k0_h1).1 = xa0 := by
  rfl

/-- On an unused point the second scratch buffer ends as it was. -/
theorem scratch1_C (c : Dev nD) (i : grid0.Coords) (arg3 : Memref sig .tc .vmem S256x2432 .bf16) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .bf16) (harg7 : arg7.IsWhole) (T0 : (S380.Idx → Elt Ideal .i32)) (T1 : (S1.Idx → Elt Ideal .i32))
     (x0 : (S256x2432.Idx → Elt Ideal .bf16)) (x1 : (S1x2048x512.Idx → Elt Ideal .f32)) (x2 : (S1x2048x512.Idx → Elt Ideal .f32)) (x3 : (S1x512x2048.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (k0_h1 : ¬(k0_cond1 i (View.readAt (Elt Ideal) (tbM0_1).view (Rect.unit (s := S1) ![0] S1.size inb_S1_S1_0).toLoadRect T1 (Shape.Idx.first (numel1_S1.symm ▸ Nat.one_pos))) = 1#1)) :
    (kernelRun0_C c i arg3 harg3 arg4 harg4 arg5 harg5 arg6 harg6 arg7 harg7 T0 T1 x0 x1 x2 x3 xa0 xa1 xa2 k0_h1).2.1 = xa1 := by
  rfl

/-- On an unused point the third scratch buffer ends as it was. -/
theorem scratch2_C (c : Dev nD) (i : grid0.Coords) (arg3 : Memref sig .tc .vmem S256x2432 .bf16) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S256x2048 .bf16) (harg7 : arg7.IsWhole) (T0 : (S380.Idx → Elt Ideal .i32)) (T1 : (S1.Idx → Elt Ideal .i32))
     (x0 : (S256x2432.Idx → Elt Ideal .bf16)) (x1 : (S1x2048x512.Idx → Elt Ideal .f32)) (x2 : (S1x2048x512.Idx → Elt Ideal .f32)) (x3 : (S1x512x2048.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (k0_h1 : ¬(k0_cond1 i (View.readAt (Elt Ideal) (tbM0_1).view (Rect.unit (s := S1) ![0] S1.size inb_S1_S1_0).toLoadRect T1 (Shape.Idx.first (numel1_S1.symm ▸ Nat.one_pos))) = 1#1)) :
    (kernelRun0_C c i arg3 harg3 arg4 harg4 arg5 harg5 arg6 harg6 arg7 harg7 T0 T1 x0 x1 x2 x3 xa0 xa1 xa2 k0_h1).2.2.1 = xa2 := by
  rfl

end Cert.ExpertsIdeal.Plan

end
-- ==== Proof.KPay.lean ====
module

public import proofs.«01_k».proof.Proof.Row
public import proofs.«01_k».proof.Proof.Gen.ExpertsIdeal.Skeleton
public import Idealize.ShloMosaic.Lib.Pointwise
public import Idealize.ShloMosaic.Lib.ValueLayout
public import Idealize.ShloMosaic.Lib.ValueLayoutCasts

@[expose] public section

set_option maxRecDepth 16384

noncomputable section

namespace Cert.ExpertsIdeal.Plan

open Cert.ExpertsIdeal Cert.ExpertsIdeal.Gen Cert.Moe
open Idealize.ShloMosaic Idealize.ShloMosaic.TcCoe
open Idealize.ShloMosaic.ValueIdx (eq_zero_of_ne_one select_one select_zero)

/-! # The payloads of the kernel's stores, entry by entry

On ideal scalars a rounding to bfloat16 is the identity and a product into a zero accumulator is a sum. -/

/-- The gate projection's weights as the scratch buffer keeps them: the block's only matrix. -/
theorem pay2_apply (v : Vec Ideal S1x2048x512 .f32) (k : Fin 2048) (f : Fin 512) :
    k0_pay2 v (ix2 k f) = v (ix3 (0 : Fin 1) k f) := by
  unfold k0_pay2
  simp only [pointwise]

/-- The up projection's weights, likewise. -/
theorem pay3_apply (v : Vec Ideal S1x2048x512 .f32) (k : Fin 2048) (f : Fin 512) :
    k0_pay3 v (ix2 k f) = v (ix3 (0 : Fin 1) k f) := by
  unfold k0_pay3
  simp only [pointwise]

/-- The down projection's weights, likewise. -/
theorem pay4_apply (v : Vec Ideal S1x512x2048 .f32) (k : Fin 512) (f : Fin 2048) :
    k0_pay4 v (ix2 k f) = v (ix3 (0 : Fin 1) k f) := by
  unfold k0_pay4
  simp only [pointwise]

/-- The hidden activation before the up projection multiplies it. -/
theorem pay6_apply (v15 : Vec Ideal S256x2048 .bf16) (w : Vec Ideal S2048x512 .bf16) (r : Fin 256) (f : Fin 512) :
    k0_pay6 v15 w (ix2 r f) = silu (∑ k : Fin 2048, v15 (ix2 r k) * w (ix2 k f)) := by
  unfold k0_pay6
  simp only [pointwise]
  rw [zero_add, zero_sub]
  rfl

/-- Two lane numbers below `2 ^ 32` are compared as words exactly as they are as numbers. -/
theorem lane_eq (l e : ℕ) (hl : l < 128) (he : e < 64) (x y : EReal) :
    Scalar.select (IntOp.cmpi CmpIPredicate.eq (BitVec.ofNat 32 l) (BitVec.ofNat 32 e)) x y = if l = e then x else y := by
  have h : (IntOp.cmpi CmpIPredicate.eq (BitVec.ofNat 32 l) (BitVec.ofNat 32 e)) = 1#1 ↔ l = e := by
    rw [IntOp.cmpi_eq, BitVec.toNat_inj.symm, BitVec.toNat_ofNat, BitVec.toNat_ofNat]
    omega
  by_cases hle : l = e
  · rw [if_pos hle, h.mpr hle]; exact select_one _ _
  · rw [if_neg hle, eq_zero_of_ne_one (fun hh => hle (h.mp hh))]; exact select_zero _ _

/-- The gate column: in each row the three parts of the gate of expert `e`, added. -/
theorem pay5_apply (e : ℕ) (he : e < 64) (a b c : Vec Ideal S256x128 .bf16) (r : Fin 256) :
    k0_pay5 (BitVec.ofNat 32 e) a b c (ix2 r (0 : Fin 1))
      = (fun x y z : EReal => x + y + z) (a (ix2 r (⟨e, by omega⟩ : Fin 128))) (b (ix2 r (⟨e, by omega⟩ : Fin 128))) (c (ix2 r (⟨e, by omega⟩ : Fin 128))) := by
  unfold k0_pay5
  simp only [pointwise]
  refine Eq.trans ?_ (sum_lane (fun l => (fun x y z : EReal => x + y + z) (a (ix2 r l)) (b (ix2 r l)) (c (ix2 r l))) ⟨e, by omega⟩)
  refine Finset.sum_congr rfl fun l _ => ?_
  have hl : List.foldl (fun n a => n * ![256, 128] a + ((ix2 r l : S256x128.Idx) a).val) 0 [(1 : Fin 2)] = l.val := by
    show 0 * 128 + l.val = l.val
    omega
  refine (congrArg (fun n => Scalar.select (IntOp.cmpi CmpIPredicate.eq (BitVec.ofNat 32 n) (BitVec.ofNat 32 e)) (a (ix2 r l) + b (ix2 r l) + c (ix2 r l)) 0) hl).trans ?_
  refine (lane_eq l.val e l.isLt he _ _).trans ?_
  simp only [Fin.ext_iff]

/-- What the body stores, from the gate column and the activation. -/
theorem pay1_apply (v15 : Vec Ideal S256x2048 .bf16) (g : FVec Ideal S256x1 .f32) (h : FVec Ideal S256x512 .f32) (w1 : Vec Ideal S2048x512 .bf16)
    (w2 : Vec Ideal S512x2048 .bf16) (r : Fin 256) (j : Fin 2048) :
    k0_pay1 v15 g h w1 w2 (ix2 r j) = ∑ f : Fin 512, ((h (ix2 r f) * ∑ k : Fin 2048, v15 (ix2 r k) * w1 (ix2 k f)) * g (ix2 r (0 : Fin 1))) * w2 (ix2 f j) := by
  unfold k0_pay1
  simp only [pointwise]
  rw [zero_add]
  refine Finset.sum_congr rfl fun f _ => ?_
  rw [zero_add]
  rfl

/-- THE BODY'S VALUE: an entry of the block it stores is the expert's output on the row, weighted by its gate. -/
theorem body_apply (e : ℕ) (he : e < 64) (x : Vec Ideal S256x2048 .bf16) (a b c : Vec Ideal S256x128 .bf16) (w0 w1 : Vec Ideal S2048x512 .bf16)
    (w2 : Vec Ideal S512x2048 .bf16) (r : Fin 256) (j : Fin 2048) :
    k0_pay1 x (k0_pay5 (BitVec.ofNat 32 e) a b c) (k0_pay6 x w0) w1 w2 (ix2 r j)
      = rowOut (fun k => x (ix2 r k)) (fun k f => w0 (ix2 k f)) (fun k f => w1 (ix2 k f)) (fun f => w2 (ix2 f j))
          ((fun x y z : EReal => x + y + z) (a (ix2 r (⟨e, by omega⟩ : Fin 128))) (b (ix2 r (⟨e, by omega⟩ : Fin 128))) (c (ix2 r (⟨e, by omega⟩ : Fin 128)))) := by
  rw [pay1_apply, pay5_apply e he]
  simp only [pay6_apply]
  rfl

end Cert.ExpertsIdeal.Plan

end
-- ==== Proof.Traj.lean ====
module

public import proofs.«01_k».proof.Proof.Step
public import proofs.«01_k».proof.Proof.KPay
public import Idealize.ShloMosaic.Lib.Pipeline.Value

@[expose] public section

set_option maxRecDepth 16384
set_option maxHeartbeats 1000000

noncomputable section

namespace Cert.ExpertsIdeal.Plan

open Cert.ExpertsIdeal Cert.ExpertsIdeal.Gen Cert.Moe
open Idealize.ShloMosaic Idealize.ShloMosaic.TcCoe
open Idealize.ShloMosaic.ValueIdx (eq_zero_of_ne_one select_one select_zero)

/-! # The result of the kernel, row by row -/

variable (pl : Cert.Moe.Plan)
variable (m : (ℓ : Loc nD τ sig) → Buf (Elt Ideal) ℓ) (ρ : Dev nD → PrngReg)

/-- The prepared array: the rows' tokens and gate columns. -/
def rows (c : Dev nD) : S97280x2432.Idx → Elt Ideal .bf16 := m ((c : Thread nD τ).loc main_arg2)
/-- The gate projections of all experts. -/
def wgs (c : Dev nD) : S64x2048x512.Idx → Elt Ideal .f32 := m ((c : Thread nD τ).loc main_arg3)
/-- The up projections of all experts. -/
def wus (c : Dev nD) : S64x2048x512.Idx → Elt Ideal .f32 := m ((c : Thread nD τ).loc main_arg4)
/-- The down projections of all experts. -/
def wds (c : Dev nD) : S64x512x2048.Idx → Elt Ideal .f32 := m ((c : Thread nD τ).loc main_arg5)

/-- One expert's matrix out of the stack. -/
def mat {a b : ℕ} (w : (⟨3, ![64, a, b]⟩ : Shape).Idx → EReal) (e : Fin 64) : (⟨2, ![a, b]⟩ : Shape).Idx → EReal := fun y => w (ix3 e (y 0) (y 1))

/-! ## The blocks of the windows at coordinates -/

/-- The block of rows at a point: the point itself, the last used block beyond. -/
theorem index0 (t : Fin (cfgA pl).N) : ((cfgA pl).win (0 : Fin 5)).index t = ![min t.val (pl.nb - 1), 0] := by
  have h := tr0 pl (crd pl t)
  rw [crd_val] at h
  exact h
/-- The block of gate projections at a point: the expert of the point's block. -/
theorem index1 (t : Fin (cfgA pl).N) : ((cfgA pl).win (1 : Fin 5)).index t = ![pl.e t.val, 0, 0] := by
  have h := tr1 pl (crd pl t)
  rw [crd_val] at h
  exact h
/-- The block of up projections at a point: the expert of the point's block. -/
theorem index2 (t : Fin (cfgA pl).N) : ((cfgA pl).win (2 : Fin 5)).index t = ![pl.e t.val, 0, 0] := by
  have h := tr2 pl (crd pl t)
  rw [crd_val] at h
  exact h
/-- The block of down projections at a point: the expert of the point's block. -/
theorem index3 (t : Fin (cfgA pl).N) : ((cfgA pl).win (3 : Fin 5)).index t = ![pl.e t.val, 0, 0] := by
  have h := tr3 pl (crd pl t)
  rw [crd_val] at h
  exact h

/-- Row `r` of the block of rows a used point sees. -/
theorem row_lt (t : Fin (cfgA pl).N) (r : Fin 256) : t.val * 256 + r.val < 97280 := by
  have := t_lt pl t; omega

/-- The block of rows at a used point. -/
theorem block0 (c : Dev nD) (t : Fin (cfgA pl).N) (ht : t.val < pl.nb) (r : Fin 256) (k : Fin 2432) :
    (iblk pl m ρ c (0 : Fin 5) t : S256x2432.Idx → Elt Ideal .bf16) (ix2 r k) = rows m c (ix2 ⟨t.val * 256 + r.val, row_lt pl t r⟩ k) := by
  show rows m c ((((cfgA pl).win (0 : Fin 5)).rect t).emb (ix2 r k)) = _
  refine congrArg (rows m c) (funext fun a => Fin.ext ?_)
  have h := Pipeline.Window.rect_emb_val ((cfgA pl).win (0 : Fin 5)) t (ix2 r k) a
  refine h.trans ?_
  rw [index0]
  fin_cases a
  · show min t.val (pl.nb - 1) * 256 + r.val = t.val * 256 + r.val
    rw [show min t.val (pl.nb - 1) = t.val by omega]
  · show 0 * 2432 + k.val = k.val
    omega

/-- The gate projection at a point: that of the block's expert. -/
theorem block1 (c : Dev nD) (t : Fin (cfgA pl).N) (k : Fin 2048) (f : Fin 512) :
    (iblk pl m ρ c (1 : Fin 5) t : S1x2048x512.Idx → Elt Ideal .f32) (ix3 (0 : Fin 1) k f) = wgs m c (ix3 ⟨pl.e t.val, pl.he _⟩ k f) := by
  show wgs m c ((((cfgA pl).win (1 : Fin 5)).rect t).emb (ix3 (0 : Fin 1) k f)) = _
  refine congrArg (wgs m c) (funext fun a => Fin.ext ?_)
  have h := Pipeline.Window.rect_emb_val ((cfgA pl).win (1 : Fin 5)) t (ix3 (0 : Fin 1) k f) a
  refine h.trans ?_
  rw [index1]
  fin_cases a
  · show pl.e t.val * 1 + 0 = pl.e t.val
    omega
  · show 0 * 2048 + k.val = k.val
    omega
  · show 0 * 512 + f.val = f.val
    omega

/-- The up projection at a point, likewise. -/
theorem block2 (c : Dev nD) (t : Fin (cfgA pl).N) (k : Fin 2048) (f : Fin 512) :
    (iblk pl m ρ c (2 : Fin 5) t : S1x2048x512.Idx → Elt Ideal .f32) (ix3 (0 : Fin 1) k f) = wus m c (ix3 ⟨pl.e t.val, pl.he _⟩ k f) := by
  show wus m c ((((cfgA pl).win (2 : Fin 5)).rect t).emb (ix3 (0 : Fin 1) k f)) = _
  refine congrArg (wus m c) (funext fun a => Fin.ext ?_)
  have h := Pipeline.Window.rect_emb_val ((cfgA pl).win (2 : Fin 5)) t (ix3 (0 : Fin 1) k f) a
  refine h.trans ?_
  rw [index2]
  fin_cases a
  · show pl.e t.val * 1 + 0 = pl.e t.val
    omega
  · show 0 * 2048 + k.val = k.val
    omega
  · show 0 * 512 + f.val = f.val
    omega

/-- The down projection at a point, likewise. -/
theorem block3 (c : Dev nD) (t : Fin (cfgA pl).N) (k : Fin 512) (f : Fin 2048) :
    (iblk pl m ρ c (3 : Fin 5) t : S1x512x2048.Idx → Elt Ideal .f32) (ix3 (0 : Fin 1) k f) = wds m c (ix3 ⟨pl.e t.val, pl.he _⟩ k f) := by
  show wds m c ((((cfgA pl).win (3 : Fin 5)).rect t).emb (ix3 (0 : Fin 1) k f)) = _
  refine congrArg (wds m c) (funext fun a => Fin.ext ?_)
  have h := Pipeline.Window.rect_emb_val ((cfgA pl).win (3 : Fin 5)) t (ix3 (0 : Fin 1) k f) a
  refine h.trans ?_
  rw [index3]
  fin_cases a
  · show pl.e t.val * 1 + 0 = pl.e t.val
    omega
  · show 0 * 512 + k.val = k.val
    omega
  · show 0 * 2048 + f.val = f.val
    omega

/-- An index of two axes is the pair of its coordinates. -/
theorem eta2 {a b : ℕ} (y : (⟨2, ![a, b]⟩ : Shape).Idx) : y = ix2 (y 0) (y 1) := by
  funext x; fin_cases x <;> rfl

/-- What a point loads for the gate projections is its expert's matrix. -/
theorem load1 (c : Dev nD) (t : Fin (cfgA pl).N) : k0_pay2 (iblk pl m ρ c (1 : Fin 5) t) = mat (wgs m c) ⟨pl.e t.val, pl.he _⟩ :=
  funext fun y => by
    refine (congrArg _ (eta2 y)).trans ?_
    exact (pay2_apply _ _ _).trans (block1 pl m ρ c t _ _)
/-- What a point loads for the up projections is its expert's matrix. -/
theorem load2 (c : Dev nD) (t : Fin (cfgA pl).N) : k0_pay3 (iblk pl m ρ c (2 : Fin 5) t) = mat (wus m c) ⟨pl.e t.val, pl.he _⟩ :=
  funext fun y => by
    refine (congrArg _ (eta2 y)).trans ?_
    exact (pay3_apply _ _ _).trans (block2 pl m ρ c t _ _)
/-- What a point loads for the down projections is its expert's matrix. -/
theorem load3 (c : Dev nD) (t : Fin (cfgA pl).N) : k0_pay4 (iblk pl m ρ c (3 : Fin 5) t) = mat (wds m c) ⟨pl.e t.val, pl.he _⟩ :=
  funext fun y => by
    refine (congrArg _ (eta2 y)).trans ?_
    exact (pay4_apply _ _ _).trans (block3 pl m ρ c t _ _)

/-! ## What the buffers hold after a point -/

/-- A used point whose block has the expert of the block before: it works with the weights the buffers hold. -/
theorem kept_weights (c : Dev nD) (t : Fin (cfgA pl).N) (prev : (S256x2048.Idx → Elt Ideal .bf16) × Buf (Elt Ideal) ((c : Thread nD τ).loc cc0_scratch0) × Buf (Elt Ideal) ((c : Thread nD τ).loc cc0_scratch1) × Buf (Elt Ideal) ((c : Thread nD τ).loc cc0_scratch2)) (q0 : P0_0 pl t) (q1 : ¬P0_1 pl t) :
    (step0 pl m ρ c t prev).1 = stored (BitVec.ofNat 32 (pl.e t.val)) (iblk pl m ρ c (0 : Fin 5) t) prev.2.1 prev.2.2.1 prev.2.2.2
    ∧ (step0 pl m ρ c t prev).2.1 = prev.2.1 ∧ (step0 pl m ρ c t prev).2.2.1 = prev.2.2.1 ∧ (step0 pl m ρ c t prev).2.2.2 = prev.2.2.2 := by
  rw [step0_B pl m ρ c t prev q0 q1]
  dsimp only
  refine ⟨?_, scratch0_B .., scratch1_B .., scratch2_B ..⟩
  rw [out_B, read_own]

/-- After a used point: its block's result, and the weights of its block's expert. -/
theorem used (c : Dev nD) : ∀ (n : ℕ) (h : n < (cfgA pl).N), n < pl.nb →
    (traj0 pl m ρ c n h).1 = stored (BitVec.ofNat 32 (pl.e n)) (iblk pl m ρ c (0 : Fin 5) ⟨n, h⟩) (mat (wgs m c) ⟨pl.e n, pl.he _⟩) (mat (wus m c) ⟨pl.e n, pl.he _⟩) (mat (wds m c) ⟨pl.e n, pl.he _⟩)
    ∧ (traj0 pl m ρ c n h).2.1 = mat (wgs m c) ⟨pl.e n, pl.he _⟩
    ∧ (traj0 pl m ρ c n h).2.2.1 = mat (wus m c) ⟨pl.e n, pl.he _⟩
    ∧ (traj0 pl m ρ c n h).2.2.2 = mat (wds m c) ⟨pl.e n, pl.he _⟩ := by
  intro n
  induction n with
  | zero =>
    intro h hn
    have q0 := (used_iff pl ⟨0, h⟩).mpr hn
    have q1 := (reload_iff pl ⟨0, h⟩).mpr (Or.inl rfl)
    have e := (traj0_eq pl m ρ c ⟨0, h⟩).trans (step0_A pl m ρ c ⟨0, h⟩ _ q0 q1)
    have e' : traj0 pl m ρ c 0 h = _ := e
    rw [e']
    dsimp only
    refine ⟨?_, ?_, ?_, ?_⟩
    · rw [out_A, read_own, load1, load2, load3]
    · exact (scratch0_A ..).trans (load1 pl m ρ c ⟨0, h⟩)
    · exact (scratch1_A ..).trans (load2 pl m ρ c ⟨0, h⟩)
    · exact (scratch2_A ..).trans (load3 pl m ρ c ⟨0, h⟩)
  | succ n ih =>
    intro h hn
    have q0 := (used_iff pl ⟨n + 1, h⟩).mpr hn
    by_cases hq : P0_1 pl ⟨n + 1, h⟩
    · have e := (traj0_eq pl m ρ c ⟨n + 1, h⟩).trans (step0_A pl m ρ c ⟨n + 1, h⟩ _ q0 hq)
      have e' : traj0 pl m ρ c (n + 1) h = _ := e
      rw [e']
      dsimp only
      refine ⟨?_, ?_, ?_, ?_⟩
      · rw [out_A, read_own, load1, load2, load3]
      · exact (scratch0_A ..).trans (load1 pl m ρ c ⟨n + 1, h⟩)
      · exact (scratch1_A ..).trans (load2 pl m ρ c ⟨n + 1, h⟩)
      · exact (scratch2_A ..).trans (load3 pl m ρ c ⟨n + 1, h⟩)
    · have hsame : pl.e (n + 1) = pl.e n := by
        by_contra hne
        exact hq ((reload_iff pl ⟨n + 1, h⟩).mpr (Or.inr hne))
      obtain ⟨-, h1, h2, h3⟩ := ih (Nat.lt_of_succ_lt h) (by omega)
      obtain ⟨b0, b1, b2, b3⟩ := kept_weights pl m ρ c ⟨n + 1, h⟩ (traj0 pl m ρ c n (Nat.lt_of_succ_lt h)) q0 hq
      have hf : (⟨pl.e (n + 1), pl.he _⟩ : Fin 64) = ⟨pl.e n, pl.he _⟩ := Fin.ext hsame
      rw [hf]
      exact ⟨b0.trans (stored_congr _ _ h1 h2 h3), b1.trans h1, b2.trans h2, b3.trans h3⟩

/-- From the last used block on the result's buffer does not change. -/
theorem unused (c : Dev nD) (hl : pl.nb - 1 < (cfgA pl).N) : ∀ (n : ℕ) (h : n < (cfgA pl).N), pl.nb - 1 ≤ n →
    (traj0 pl m ρ c n h).1 = (traj0 pl m ρ c (pl.nb - 1) hl).1 := by
  have hN : (cfgA pl).N = 380 := N_0
  intro n
  induction n with
  | zero => intro h hn; simp only [show pl.nb - 1 = 0 by omega]
  | succ n ih =>
    intro h hn
    by_cases hc : pl.nb - 1 = n + 1
    · simp only [hc]
    · have h1 := pl.h1
      have q0 : ¬P0_0 pl ⟨n + 1, h⟩ := fun hh => by
        have := (used_iff pl ⟨n + 1, h⟩).mp hh
        have : n + 1 < pl.nb := this
        omega
      have e := step0_C pl m ρ c ⟨n + 1, h⟩ (traj0 pl m ρ c n (Nat.lt_of_succ_lt h)) q0
      have e' : traj0 pl m ρ c (n + 1) h = _ := e
      rw [e']
      dsimp only
      have hfr := fresh4 pl (n + 1) (by omega) (by omega)
      rw [hfr]
      exact ih _ (by omega)

/-- After any point: the result of its block, or of the last used block. -/
theorem after_point (c : Dev nD) (t : Fin (cfgA pl).N) (u : Fin (cfgA pl).N) (hu : u.val = min t.val (pl.nb - 1)) :
    (traj0 pl m ρ c t.val t.isLt).1 = stored (BitVec.ofNat 32 (pl.e u.val)) (iblk pl m ρ c (0 : Fin 5) u) (mat (wgs m c) ⟨pl.e u.val, pl.he _⟩) (mat (wus m c) ⟨pl.e u.val, pl.he _⟩) (mat (wds m c) ⟨pl.e u.val, pl.he _⟩) := by
  have h1 := pl.h1
  obtain ⟨u, hu'⟩ := u
  obtain ⟨t, ht⟩ := t
  dsimp only at hu ⊢
  by_cases hc : t < pl.nb
  · have : u = t := by omega
    subst this
    exact (used pl m ρ c u ht hc).1
  · have : u = pl.nb - 1 := by omega
    subst this
    exact (unused pl m ρ c hu' t ht (by omega)).trans (used pl m ρ c _ hu' (by omega)).1

/-! ## The result array -/

/-- The result at a row and column, as a function of the arguments: the row's token through the expert of the row's
    block, weighted by the row's gate for that expert. -/
def rowVal (c : Dev nD) (i : Fin 97280) (j : Fin 2048) : EReal :=
  rowOut (fun k : Fin 2048 => rows m c (ix2 i (⟨k.val, by omega⟩ : Fin 2432)))
    (fun k f => wgs m c (ix3 (⟨pl.e (i.val / 256), pl.he _⟩ : Fin 64) k f))
    (fun k f => wus m c (ix3 (⟨pl.e (i.val / 256), pl.he _⟩ : Fin 64) k f))
    (fun f => wds m c (ix3 (⟨pl.e (i.val / 256), pl.he _⟩ : Fin 64) f j))
    ((fun x y z : EReal => x + y + z)
      (rows m c (ix2 i (⟨2048 + pl.e (i.val / 256), by have := pl.he (i.val / 256); omega⟩ : Fin 2432)))
      (rows m c (ix2 i (⟨2176 + pl.e (i.val / 256), by have := pl.he (i.val / 256); omega⟩ : Fin 2432)))
      (rows m c (ix2 i (⟨2304 + pl.e (i.val / 256), by have := pl.he (i.val / 256); omega⟩ : Fin 2432))))

/-- What a used block stores is the result on its rows. -/
theorem stored_apply (c : Dev nD) (u : Fin (cfgA pl).N) (hu : u.val < pl.nb) (r : Fin 256) (j : Fin 2048) :
    stored (BitVec.ofNat 32 (pl.e u.val)) (iblk pl m ρ c (0 : Fin 5) u) (mat (wgs m c) ⟨pl.e u.val, pl.he _⟩) (mat (wus m c) ⟨pl.e u.val, pl.he _⟩) (mat (wds m c) ⟨pl.e u.val, pl.he _⟩) (ix2 r j)
      = rowVal pl m c ⟨u.val * 256 + r.val, row_lt pl u r⟩ j := by
  have hd : (u.val * 256 + r.val) / 256 = u.val := by omega
  unfold stored
  rw [body_apply (pl.e u.val) (pl.he _)]
  have hl : ∀ (o : ℕ) (ho : o + 128 ≤ 2432) (q : Fin 128), lanes o ho (iblk pl m ρ c (0 : Fin 5) u) (ix2 r q)
      = rows m c (ix2 ⟨u.val * 256 + r.val, row_lt pl u r⟩ (⟨o + q.val, by omega⟩ : Fin 2432)) := fun o ho q => block0 pl m ρ c u hu r _
  have ht : ∀ k : Fin 2048, tokens (iblk pl m ρ c (0 : Fin 5) u) (ix2 r k)
      = rows m c (ix2 ⟨u.val * 256 + r.val, row_lt pl u r⟩ (⟨k.val, by omega⟩ : Fin 2432)) := fun k => block0 pl m ρ c u hu r _
  simp only [hl, ht]
  unfold rowVal
  simp only [hd]
  rfl

/-- THE RESULT: after the run, every row of a used block holds its value. -/
theorem final (c : Dev nD) (i : Fin 97280) (hi : i.val / 256 < pl.nb) (j : Fin 2048) :
    ((dats pl m ρ 0 c).arrAt (4 : Fin 5) (cfgA pl).N : S97280x2048.Idx → Elt Ideal .bf16) (ix2 i j) = rowVal pl m c i j := by
  have hN : (cfgA pl).N = 380 := N_0
  have h1 := pl.h1
  have h2 := pl.h2
  have key := Pipeline.Dat.arrAt_forall_of_flushed (dats pl m ρ 0 c) (4 : Fin 5)
    (fun x v => ∀ (i : Fin 97280) (j : Fin 2048), x = (ix2 i j : S97280x2048.Idx) → v = rowVal pl m c i j) (fun t hf y i j hx => by
      have hul : min t.val (pl.nb - 1) < (cfgA pl).N := by rw [hN]; omega
      have ha := after_point pl m ρ c t ⟨min t.val (pl.nb - 1), hul⟩ rfl
      have hb := stored_apply pl m ρ c ⟨min t.val (pl.nb - 1), hul⟩ (by show min t.val (pl.nb - 1) < pl.nb; omega) (y 0) (y 1)
      have h0 := Pipeline.Window.rect_emb_val ((cfgA pl).win (4 : Fin 5)) t y (0 : Fin 2)
      have h1 := Pipeline.Window.rect_emb_val ((cfgA pl).win (4 : Fin 5)) t y (1 : Fin 2)
      rw [index4] at h0 h1
      have e0 : min t.val (pl.nb - 1) * 256 + (y 0).val = i.val := by
        have := congrArg (fun x : S97280x2048.Idx => (x 0).val) hx
        exact h0.symm.trans this
      have e1 : 0 * 2048 + (y 1).val = j.val := by
        have := congrArg (fun x : S97280x2048.Idx => (x 1).val) hx
        exact h1.symm.trans this
      have hi : (⟨min t.val (pl.nb - 1) * 256 + (y 0).val, row_lt pl ⟨min t.val (pl.nb - 1), hul⟩ (y 0)⟩ : Fin 97280) = i := Fin.ext e0
      have hj : (y 1 : Fin 2048) = j := Fin.ext (by omega)
      show (traj0 pl m ρ c t.val t.isLt).1 y = _
      rw [ha, ← hi, ← hj, ← hb]
      exact congrArg _ (eta2 y))
  have hcov : ∃ t : Fin (cfgA pl).N, ((cfgA pl).win (4 : Fin 5)).flush t = true ∧ min t.val (pl.nb - 1) = i.val / 256 := by
    by_cases hb : i.val / 256 + 1 < pl.nb
    · exact ⟨⟨i.val / 256, by rw [hN]; omega⟩, by rw [flush4]; exact decide_eq_true (Or.inr hb), by show min (i.val / 256) (pl.nb - 1) = _; omega⟩
    · exact ⟨⟨379, by rw [hN]; omega⟩, by rw [flush4]; exact decide_eq_true (Or.inl rfl), by show min 379 (pl.nb - 1) = _; omega⟩
  obtain ⟨t, hf, hm⟩ := hcov
  have hmem : (ix2 i j : S97280x2048.Idx) ∈ (((cfgA pl).win (4 : Fin 5)).blk t).view.set := by
    have hy : (((cfgA pl).win (4 : Fin 5)).blk t).view.emb (ix2 (⟨i.val % 256, by omega⟩ : Fin 256) j) = (ix2 i j : S97280x2048.Idx) := by
      funext a
      refine Fin.ext ?_
      have h := Pipeline.Window.rect_emb_val ((cfgA pl).win (4 : Fin 5)) t (ix2 (⟨i.val % 256, by omega⟩ : Fin 256) j) a
      refine h.trans ?_
      rw [index4, hm]
      fin_cases a
      · show i.val / 256 * 256 + i.val % 256 = i.val
        omega
      · show 0 * 2048 + j.val = j.val
        omega
    rw [← hy]
    exact View.emb_mem_set _ _
  exact key (cfgA pl).N t (ix2 i j) t.isLt hf hmem i j rfl

end Cert.ExpertsIdeal.Plan

end
-- ==== Proof.RefRow.lean ====
module

public import proofs.«01_k».proof.Proof.Row
public import proofs.«01_k».proof.Proof.Gen.DenseIdeal.Run
public import Idealize.ShloMosaic.Lib.StableHlo.Predicate

@[expose] public section

set_option maxRecDepth 16384

noncomputable section

namespace Cert.DenseIdeal.Rows

open Cert.DenseIdeal Cert.DenseIdeal.Gen Cert.Moe
open Idealize.ShloMosaic Idealize.ShloMosaic.StableHlo
open Idealize.ShloMosaic.ValueIdx (eq_zero_of_ne_one select_one select_zero)

/-- The first contraction of a group of eight experts, entry by entry. -/
theorem proj_apply (t : FVec Ideal S97280x2048 .f32) (W : FVec Ideal S64x2048x512 .f32) (o : ℕ) (ho : o + 8 ≤ 64)
    (hs : S64x2048x512.Slices ![o, 0, 0] S8x2048x512) (i : Fin 97280) (q : Fin 8) (f : Fin 512) :
    Host.dotGeneral dot_S97280x2048_S8x2048x512_S97280x8x512_1_1_0_02_n_n none t (extractStridedSlice S8x2048x512 ![o, 0, 0] W hs) (ix3 i q f)
      = ∑ k : Fin 2048, t (ix2 i k) * W (ix3 ⟨o + q.val, by have := q.isLt; omega⟩ k f) := by
  simp only [pointwise]
  rw [zero_add]
  refine Finset.sum_congr rfl fun k _ => ?_
  congr 2
  funext a; fin_cases a <;> apply Fin.ext
  · rfl
  · exact Nat.zero_add _
  · exact Nat.zero_add _

/-- The routing weights of a group of eight experts, spread over the hidden units, entry by entry. -/
theorem gate_apply (G : FVec Ideal S97280x64 .f32) (o : ℕ) (ho : o + 8 ≤ 64)
    (hs : S97280x64.Slices ![0, o] S97280x8) (i : Fin 97280) (q : Fin 8) (f : Fin 512) :
    (broadcastInDim S97280x8x512 ![0, 1, 2] bcast_S97280x8x1_S97280x8x512_0_1_2 (broadcastInDim S97280x8x1 ![0, 1] bcast_S97280x8_S97280x8x1_0_1 (extractStridedSlice S97280x8 ![0, o] G hs))) (ix3 i q f)
      = G (ix2 i ⟨o + q.val, by have := q.isLt; omega⟩) := by
  simp only [pointwise]
  congr 1
  funext a; fin_cases a <;> apply Fin.ext
  · exact Nat.zero_add _
  · rfl

/-- The second contraction of a group of eight experts, entry by entry: a sum over the group's experts and their hidden units. -/
theorem down_apply (h : FVec Ideal S97280x8x512 .f32) (W : FVec Ideal S64x512x2048 .f32) (o : ℕ) (ho : o + 8 ≤ 64)
    (hs : S64x512x2048.Slices ![o, 0, 0] S8x512x2048) (i : Fin 97280) (j : Fin 2048) :
    Host.dotGeneral dot_S97280x8x512_S8x512x2048_S97280x2048_12_01_0_2_n_n none h (extractStridedSlice S8x512x2048 ![o, 0, 0] W hs) (ix2 i j)
      = ∑ q : Fin 8, ∑ f : Fin 512, h (ix3 i q f) * W (ix3 ⟨o + q.val, by have := q.isLt; omega⟩ f j) := by
  simp only [pointwise]
  rw [zero_add]
  refine Finset.sum_congr rfl fun q _ => Finset.sum_congr rfl fun f _ => ?_
  congr 2
  funext a; fin_cases a <;> apply Fin.ext
  · rfl
  · exact Nat.zero_add _
  · exact Nat.zero_add _

/-- The reference's activation, entry by entry. -/
theorem silu_apply (h : FVec Ideal S97280x8x512 .f32) (x : S97280x8x512.Idx) :
    mulf h (Host.divf (broadcastInDim S97280x8x512 ![] bcast_S_S97280x8x512 (constant S_ .f32 0x3F800000#32)) (addf (broadcastInDim S97280x8x512 ![] bcast_S_S97280x8x512 (constant S_ .f32 0x3F800000#32)) (Host.exp (Host.negf h)))) x
      = silu (h x) := by
  simp only [pointwise]
  rfl

/-- The reference's routing weights: at a row, only the expert of the row's block has a weight that is not zero. -/
theorem gates_apply (B : IVec S380 32) (X : FVec Ideal S97280x2432 .bf16) (i : Fin 97280) (n : Fin 64) :
    select (cmpi .eq (broadcastInDim S97280x64 ![0, 1] bcast_S97280x1_S97280x64_0_1 (broadcastInDim S97280x1 ![0] bcast_S97280_S97280x1_0 (shapeCast S97280 (broadcastInDim S380x256 ![0, 1] bcast_S380x1_S380x256_0_1 (broadcastInDim S380x1 ![0] bcast_S380_S380x1_0 B)) shapeCasts_S380x256_S97280))) (broadcastInDim S97280x64 ![0, 1] bcast_S1x64_S97280x64_0_1 (broadcastInDim S1x64 ![1] bcast_S64_S1x64_1 (iotaInDim S64 32 0)))) (addf (addf (extf .f32 (extractStridedSlice S97280x64 ![0, 2048] X slices_S97280x2432_S97280x64_0_2048) bitsLt_bf16_f32) (extf .f32 (extractStridedSlice S97280x64 ![0, 2176] X slices_S97280x2432_S97280x64_0_2176) bitsLt_bf16_f32)) (extf .f32 (extractStridedSlice S97280x64 ![0, 2304] X slices_S97280x2432_S97280x64_0_2304) bitsLt_bf16_f32)) (broadcastInDim S97280x64 ![] bcast_S_S97280x64 (id (constant (F := Ideal) S_ .f32 0x00000000#32))) (ix2 i n)
      = if B (ix1 ⟨i.val / 256, by have := i.isLt; omega⟩) = BitVec.ofNat 32 n.val then
          (X (ix2 i ⟨2048 + n.val, by have := n.isLt; omega⟩) + X (ix2 i ⟨2176 + n.val, by have := n.isLt; omega⟩)) + X (ix2 i ⟨2304 + n.val, by have := n.isLt; omega⟩)
        else (0 : EReal) := by
  simp only [pointwise]
  have e0 : (![0, 2048] : Fin 2 → ℕ) 0 + i.val = i.val := Nat.zero_add _
  by_cases h : B (ix1 ⟨i.val / 256, by have := i.isLt; omega⟩) = BitVec.ofNat 32 n.val
  · rw [if_pos h]
    have hc : IntOp.cmpi CmpIPredicate.eq (B (ix1 ⟨i.val / 256, by have := i.isLt; omega⟩)) (BitVec.ofNat 32 n.val) = 1#1 :=
      StableHlo.Predicate.cmpi_eq_iff.mpr h
    refine (congrArg (fun c => Scalar.select c _ _) hc).trans ?_
    rw [select_one]
    refine congrArg₂ (fun x y : EReal => x + y) (congrArg₂ (fun x y : EReal => x + y) (congrArg X ?_) (congrArg X ?_)) (congrArg X ?_)
    all_goals (funext a; fin_cases a <;> apply Fin.ext; exact Nat.zero_add _; rfl)
  · rw [if_neg h]
    have hc : IntOp.cmpi CmpIPredicate.eq (B (ix1 ⟨i.val / 256, by have := i.isLt; omega⟩)) (BitVec.ofNat 32 n.val) = 0#1 :=
      eq_zero_of_ne_one fun hh => h (StableHlo.Predicate.cmpi_eq_iff.mp hh)
    refine (congrArg (fun c => Scalar.select c _ _) hc).trans ?_
    rw [select_zero]
    exact Ideal.ofBits_zero_f32

/-- The routing weight of row `i` for expert `e`: the sum of the three numbers it is packed as. -/
def gateOf (X : FVec Ideal S97280x2432 .bf16) (i : Fin 97280) (e : ℕ) (he : e < 64) : EReal :=
  (X (ix2 i ⟨2048 + e, by omega⟩) + X (ix2 i ⟨2176 + e, by omega⟩)) + X (ix2 i ⟨2304 + e, by omega⟩)

/-- Expert `n`'s entry of row `i` at column `j` with the routing weight `g`. -/
def entry (t : FVec Ideal S97280x2048 .f32) (WG WU : FVec Ideal S64x2048x512 .f32) (WD : FVec Ideal S64x512x2048 .f32) (i : Fin 97280) (j : Fin 2048)
    (g : EReal) (n : ℕ) : EReal :=
  if h : n < 64 then rowOut (fun k => t (ix2 i k)) (fun k f => WG (ix3 ⟨n, h⟩ k f)) (fun k f => WU (ix3 ⟨n, h⟩ k f)) (fun f => WD (ix3 ⟨n, h⟩ f j)) g else 0

/-- What a group of eight experts adds at a row: the row's expert's entry if it is in the group, and zero otherwise. -/
theorem group_apply (t : FVec Ideal S97280x2048 .f32) (G : FVec Ideal S97280x64 .f32) (WG WU : FVec Ideal S64x2048x512 .f32) (WD : FVec Ideal S64x512x2048 .f32)
    (h : FVec Ideal S97280x8x512 .f32) (o : ℕ) (ho : o + 8 ≤ 64)
    (hs : S64x2048x512.Slices ![o, 0, 0] S8x2048x512) (hg : S97280x64.Slices ![0, o] S97280x8) (hd : S64x512x2048.Slices ![o, 0, 0] S8x512x2048)
    (hh : h = Host.dotGeneral dot_S97280x2048_S8x2048x512_S97280x8x512_1_1_0_02_n_n none t (extractStridedSlice S8x2048x512 ![o, 0, 0] WG hs))
    (i : Fin 97280) (j : Fin 2048) (e : ℕ) (g : EReal) (hG : ∀ n : Fin 64, G (ix2 i n) = if e = n.val then g else (0 : EReal)) :
    Host.dotGeneral dot_S97280x8x512_S8x512x2048_S97280x2048_12_01_0_2_n_n none (mulf (mulf (mulf h (Host.divf (broadcastInDim S97280x8x512 ![] bcast_S_S97280x8x512 (constant S_ .f32 0x3F800000#32)) (addf (broadcastInDim S97280x8x512 ![] bcast_S_S97280x8x512 (constant S_ .f32 0x3F800000#32)) (Host.exp (Host.negf h))))) (Host.dotGeneral dot_S97280x2048_S8x2048x512_S97280x8x512_1_1_0_02_n_n none t (extractStridedSlice S8x2048x512 ![o, 0, 0] WU hs))) (broadcastInDim S97280x8x512 ![0, 1, 2] bcast_S97280x8x1_S97280x8x512_0_1_2 (broadcastInDim S97280x8x1 ![0, 1] bcast_S97280x8_S97280x8x1_0_1 (extractStridedSlice S97280x8 ![0, o] G hg)))) (extractStridedSlice S8x512x2048 ![o, 0, 0] WD hd) (ix2 i j)
      = if o ≤ e ∧ e < o + 8 then entry t WG WU WD i j g e else 0 := by
  rw [down_apply _ _ o ho, ← sum_group (entry t WG WU WD i j g) e o]
  refine Finset.sum_congr rfl fun q _ => ?_
  have hq : o + q.val < 64 := by have := q.isLt; omega
  have key : ∀ f : Fin 512, (mulf (mulf (mulf h (Host.divf (broadcastInDim S97280x8x512 ![] bcast_S_S97280x8x512 (constant S_ .f32 0x3F800000#32)) (addf (broadcastInDim S97280x8x512 ![] bcast_S_S97280x8x512 (constant S_ .f32 0x3F800000#32)) (Host.exp (Host.negf h))))) (Host.dotGeneral dot_S97280x2048_S8x2048x512_S97280x8x512_1_1_0_02_n_n none t (extractStridedSlice S8x2048x512 ![o, 0, 0] WU hs))) (broadcastInDim S97280x8x512 ![0, 1, 2] bcast_S97280x8x1_S97280x8x512_0_1_2 (broadcastInDim S97280x8x1 ![0, 1] bcast_S97280x8_S97280x8x1_0_1 (extractStridedSlice S97280x8 ![0, o] G hg)))) (ix3 i q f)
      = (silu (∑ k : Fin 2048, t (ix2 i k) * WG (ix3 ⟨o + q.val, hq⟩ k f)) * ∑ k : Fin 2048, t (ix2 i k) * WU (ix3 ⟨o + q.val, hq⟩ k f)) * (if e = o + q.val then g else (0 : EReal)) := by
    intro f
    refine congrArg₂ (fun x y : EReal => x * y) (congrArg₂ (fun x y : EReal => x * y) ?_ ?_) ?_
    · refine (silu_apply h (ix3 i q f)).trans (congrArg silu ?_)
      rw [hh]; exact proj_apply t WG o ho hs i q f
    · exact proj_apply t WU o ho hs i q f
    · exact (gate_apply G o ho hg i q f).trans (hG ⟨o + q.val, hq⟩)
  simp only [key]
  by_cases he : e = o + q.val
  · simp only [if_pos he]
    rw [entry, dif_pos hq]; rfl
  · simp only [if_neg he]
    exact rowOut_zero _ _ _ _

/-- The reference's result at a row and a column: the entry of the row's expert. -/
theorem result_apply (V0 : Valuation τ sig (Elt Ideal)) (i : Fin 97280) (j : Fin 2048) (e : ℕ) (he : e < 64)
    (hB : (V0 (Proc.devRef .tc main_arg0) : IVec S380 32) (ix1 ⟨i.val / 256, by have := i.isLt; omega⟩) = BitVec.ofNat 32 e) (R : FVec Ideal S97280x2048 .bf16)
    (hR : R = Value.val3 V0 (Proc.devRef .tc main_v125)) :
    R (ix2 i j) = rowOut (fun k => (V0 (Proc.devRef .tc main_arg2) : FVec Ideal S97280x2432 .bf16) (ix2 i ⟨k.val, by have := k.isLt; omega⟩))
      (fun k f => (V0 (Proc.devRef .tc main_arg3) : FVec Ideal S64x2048x512 .f32) (ix3 ⟨e, he⟩ k f))
      (fun k f => (V0 (Proc.devRef .tc main_arg4) : FVec Ideal S64x2048x512 .f32) (ix3 ⟨e, he⟩ k f))
      (fun f => (V0 (Proc.devRef .tc main_arg5) : FVec Ideal S64x512x2048 .f32) (ix3 ⟨e, he⟩ f j))
      (gateOf (V0 (Proc.devRef .tc main_arg2)) i e he) := by
  rw [hR, Value.val3_main_v125]
  clear hR
  set g : EReal := gateOf (V0 (Proc.devRef .tc main_arg2)) i e he with hg
  have hG : ∀ n : Fin 64, (Value.res_main_v19 V0 : FVec Ideal S97280x64 .f32) (ix2 i n) = if e = n.val then g else (0 : EReal) := by
    intro n
    refine (gates_apply (V0 (Proc.devRef .tc main_arg0)) (V0 (Proc.devRef .tc main_arg2)) i n).trans ?_
    rw [hB]
    by_cases h : e = n.val
    · subst h; rw [if_pos rfl, if_pos rfl, hg]; rfl
    · rw [if_neg h, if_neg]
      intro hh
      have := congrArg BitVec.toNat hh
      simp only [BitVec.toNat_ofNat] at this
      have := n.isLt
      omega
  have hx : rowOut (fun k => (V0 (Proc.devRef .tc main_arg2) : FVec Ideal S97280x2432 .bf16) (ix2 i ⟨k.val, by have := k.isLt; omega⟩))
      (fun k f => (V0 (Proc.devRef .tc main_arg3) : FVec Ideal S64x2048x512 .f32) (ix3 ⟨e, he⟩ k f))
      (fun k f => (V0 (Proc.devRef .tc main_arg4) : FVec Ideal S64x2048x512 .f32) (ix3 ⟨e, he⟩ k f))
      (fun f => (V0 (Proc.devRef .tc main_arg5) : FVec Ideal S64x512x2048 .f32) (ix3 ⟨e, he⟩ f j)) g
      = entry (Value.res_main_v1 V0) (V0 (Proc.devRef .tc main_arg3)) (V0 (Proc.devRef .tc main_arg4)) (V0 (Proc.devRef .tc main_arg5)) i j g e := by
    rw [entry, dif_pos he]
    congr 1
    funext k
    refine congrArg (V0 (Proc.devRef .tc main_arg2) : FVec Ideal S97280x2432 .bf16) ?_
    funext a; fin_cases a <;> apply Fin.ext
    · exact (Nat.zero_add _).symm
    · exact (Nat.zero_add _).symm
  rw [hx, ← sum_groups (entry (Value.res_main_v1 V0) (V0 (Proc.devRef .tc main_arg3)) (V0 (Proc.devRef .tc main_arg4)) (V0 (Proc.devRef .tc main_arg5)) i j g) e he]
  refine congrArg₂ (fun x y : EReal => x + y) (congrArg₂ (fun x y : EReal => x + y) (congrArg₂ (fun x y : EReal => x + y) ?_ ?_) ?_) ?_
  · unfold Value.res_main_v85
    refine congrArg₂ (fun x y : EReal => x + y) (congrArg₂ (fun x y : EReal => x + y) (congrArg₂ (fun x y : EReal => x + y) (congrArg₂ (fun x y : EReal => x + y) (congrArg₂ (fun x y : EReal => x + y) ?_ ?_) ?_) ?_) ?_) ?_
    · exact Ideal.ofBits_zero_f32
    · exact group_apply _ _ _ _ _ _ 0 (by omega) _ _ _ rfl i j e g hG
    · exact group_apply _ _ _ _ _ _ 8 (by omega) _ _ _ rfl i j e g hG
    · exact group_apply _ _ _ _ _ _ 16 (by omega) _ _ _ rfl i j e g hG
    · exact group_apply _ _ _ _ _ _ 24 (by omega) _ _ _ rfl i j e g hG
    · exact group_apply _ _ _ _ _ _ 32 (by omega) _ _ _ rfl i j e g hG
  · exact group_apply _ _ _ _ _ _ 40 (by omega) _ _ _ rfl i j e g hG
  · exact group_apply _ _ _ _ _ _ 48 (by omega) _ _ _ rfl i j e g hG
  · exact group_apply _ _ _ _ _ _ 56 (by omega) _ _ _ rfl i j e g hG

end Cert.DenseIdeal.Rows

end
-- ==== Proof.InprojRun.lean ====
module

public import proofs.«01_k».proof.Proof.Gen.InprojIdeal.Frame
public import proofs.«01_k».proof.Proof.Gen.InprojIdeal.Skeleton
public import Idealize.ShloMosaic.Lib.Pipeline.Quiescent
public import Idealize.ShloMosaic.Lib.Claim
public import Idealize.ShloMosaic.Lib.VecWindow

@[expose] public section

set_option maxRecDepth 16384
set_option Elab.async false

noncomputable section

namespace Cert.InprojIdeal.Hand

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Equal operands give equal adjusted rows. -/
theorem rows_congr {x0 y0 : Vec F S1024x2048 .f32} {x1 y1 x2 y2 : Vec F S1x1x2048 .f32} (h0 : x0 = y0) (h1 : x1 = y1) (h2 : x2 = y2) :
    k0_pay3 x0 x1 x2 = k0_pay3 y0 y1 y2 := by
  subst h0 h1 h2; rfl

/-- Equal operands give equal tail blocks. -/
theorem tail_congr {x0 y0 : Vec F S1024x2048 .f32} {x1 y1 x2 y2 : Vec F S1x1x2048 .f32} {x4 y4 x5 y5 x6 y6 : Vec F S2048x384 .bf16}
    (h0 : x0 = y0) (h1 : x1 = y1) (h2 : x2 = y2) (h4 : x4 = y4) (h5 : x5 = y5) (h6 : x6 = y6) :
    k0_pay4 x0 x1 x2 x4 x5 x6 = k0_pay4 y0 y1 y2 y4 y5 y6 := by
  subst h0 h1 h2 h4 h5 h6; rfl

set_option maxHeartbeats 1600000 in
/-- The body where a new group of rows begins: it computes the adjusted rows, keeps them rounded in its scratch buffer,
    stores the tail columns' products, and stores the first block of the main columns' products. -/
theorem run_first (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S2048x512 .bf16) (harg5 : arg5.IsWhole) (arg6 : Memref sig .tc .vmem S2048x384 .bf16) (harg6 : arg6.IsWhole) (arg7 : Memref sig .tc .vmem S2048x384 .bf16) (harg7 : arg7.IsWhole) (arg8 : Memref sig .tc .vmem S1024x512 .f32) (harg8 : arg8.IsWhole) (arg9 : Memref sig .tc .vmem S1024x384 .f32) (harg9 : arg9.IsWhole) (arg10 : Memref sig .tc .vmem S1024x2048 .bf16) (harg10 : arg10.IsWhole)
    (hc0 : k0_cond1 i = 1#1) (x0 : Vec F S1024x2048 .f32) (x1 x2 : Vec F S1x1x2048 .f32) (x3 : Vec F S2048x512 .bf16) (x4 x5 : Vec F S2048x384 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k0_pay5 (k0_pay3 x0 x1 x2) x3) ∗ owns (c : Thread nD τ) arg9 fullShare (k0_pay4 x0 x1 x2 x4 x5 x4) ∗ owns (c : Thread nD τ) arg10 fullShare (k0_pay3 x0 x1 x2)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap
    · iexact H6
    · ipureintro
      refine (View.read_writes_full _ _ _ _ _).trans ?_
      refine congrArg₂ k0_pay5 ?_ ((View.readAt_full _ _ _).trans (harg5.read_unread _))
      refine (View.readCov_full arg10.view _ _ _ []).trans ?_
      exact rows_congr ((View.readAt_full _ _ _).trans (harg2.read_unread _)) ((View.readAt_full _ _ _).trans (harg3.read_unread _)) ((View.readAt_full _ _ _).trans (harg4.read_unread _))
  isplitl [H7]
  · iexists _; isplitr; swap
    · iexact H7
    · ipureintro
      refine (View.read_writes_full _ _ _ _ _).trans ?_
      exact tail_congr ((View.readAt_full _ _ _).trans (harg2.read_unread _)) ((View.readAt_full _ _ _).trans (harg3.read_unread _)) ((View.readAt_full _ _ _).trans (harg4.read_unread _))
        ((View.readAt_full _ _ _).trans (harg6.read_unread _)) ((View.readAt_full _ _ _).trans (harg7.read_unread _)) ((View.readAt_full _ _ _).trans (harg6.read_unread _))
  iexists _; isplitr; swap
  · iexact HS
  · ipureintro
    refine (View.read_writes_full _ _ _ _ _).trans ?_
    exact rows_congr ((View.readAt_full _ _ _).trans (harg2.read_unread _)) ((View.readAt_full _ _ _).trans (harg3.read_unread _)) ((View.readAt_full _ _ _).trans (harg4.read_unread _))

set_option maxHeartbeats 1600000 in
/-- The body at a later point of the group: it multiplies the rows kept in the scratch buffer by the point's columns and
    touches nothing else. -/
theorem run_next (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S2048x512 .bf16) (harg5 : arg5.IsWhole) (arg6 : Memref sig .tc .vmem S2048x384 .bf16) (harg6 : arg6.IsWhole) (arg7 : Memref sig .tc .vmem S2048x384 .bf16) (harg7 : arg7.IsWhole) (arg8 : Memref sig .tc .vmem S1024x512 .f32) (harg8 : arg8.IsWhole) (arg9 : Memref sig .tc .vmem S1024x384 .f32) (harg9 : arg9.IsWhole) (arg10 : Memref sig .tc .vmem S1024x2048 .bf16) (harg10 : arg10.IsWhole)
    (hc0 : ¬k0_cond1 i = 1#1) (x0 : Vec F S1024x2048 .f32) (x1 x2 : Vec F S1x1x2048 .f32) (x3 : Vec F S2048x512 .bf16) (x4 x5 : Vec F S2048x384 .bf16) (x7 : Vec F S1024x384 .f32) (xs : Vec F S1024x2048 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare x7 ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k0_pay5 xs x3) ∗ owns (c : Thread nD τ) arg9 fullShare x7 ∗ owns (c : Thread nD τ) arg10 fullShare xs) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap
    · iexact H6
    · ipureintro
      refine (View.read_writes_full _ _ _ _ _).trans ?_
      refine congrArg₂ k0_pay5 ?_ ((View.readAt_full _ _ _).trans (harg5.read_unread _))
      exact (View.readAt_full _ _ _).trans (harg10.read_unread _)
  isplitl [H7]
  · iexists _; isplitr; · ipureintro; exact harg9.read_unread _
    iexact H7
  iexists _; isplitr; · ipureintro; exact harg10.read_unread _
  iexact HS

end Cert.InprojIdeal.Hand

end
-- ==== Proof.InprojFrame.lean ====
module

public import proofs.«01_k».proof.Proof.InprojRun
public import Idealize.ShloMosaic.Lib.Pipeline.Quiescent
public import Idealize.ShloMosaic.Lib.Claim
public import Idealize.ShloMosaic.Lib.Pipeline.TableIdle
public import Idealize.ShloMosaic.Lib.VecWindow

@[expose] public section

set_option maxRecDepth 16384
set_option Elab.async false

noncomputable section

namespace Cert.InprojIdeal.Hand

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's branch holds exactly where a group of thirteen points begins. -/
theorem cond_iff (t : Fin cfg0.N) : k0_cond1 (grid0.coords t) = 1#1 ↔ t.val % 13 = 0 := by
  have ht : t.val < 104 := Nat.lt_of_lt_of_eq t.isLt N_0
  have e1 : (grid0.coords t 1).val = t.val / 1 % 13 := Pipeline.Grid.coords_val t 1 (by decide) rfl
  simp only [k0_cond1, e1]
  word_cmp

/-- The tail output is stored only where a group begins. -/
theorem idle7 (t : Fin cfg0.N) : cfg0.idle 7 (cfg0.grid.coords t) = !decide (t.val % 13 = 0) := by
  show (!(k0_cond1 (grid0.coords t) == 1#1)) = _
  by_cases h : t.val % 13 = 0
  · rw [(cond_iff t).mpr h, decide_eq_true h]; rfl
  · rw [decide_eq_false h, beq_eq_false_iff_ne.mpr (fun e => h ((cond_iff t).mp e))]

/-- The tail output's buffer holds nothing of use exactly where a group begins. -/
theorem fresh7 (n : ℕ) (h : n ≤ cfg0.N) : cfg0.fresh 7 n = decide (n % 13 = 0) := by
  refine cfg0.fresh_tab 7 (fun n => decide (n % 13 = 0)) rfl (fun t => ?_) n h
  rw [idle7 t]
  have hf := flush0_7 t
  by_cases h0 : t.val % 13 = 12
  · rw [hf.mpr h0, Bool.true_or]; exact decide_eq_true (by omega)
  · rw [Bool.eq_false_iff.mpr (fun e => h0 (hf.mp e)), Bool.false_or]
    rw [decide_eq_false (by omega : ¬(t.val + 1) % 13 = 0)]
    by_cases h1 : t.val % 13 = 0
    · simp [h1]
    · simp [h1]

/-- The point at which point `n`'s group began. -/
def base (n : ℕ) (h : n < cfg0.N) : Fin cfg0.N := ⟨n - n % 13, Nat.lt_of_le_of_lt (Nat.sub_le _ _) h⟩

/-- A point that begins a group is its own beginning. -/
theorem base_self (t : Fin cfg0.N) (h : t.val % 13 = 0) : base t.val t.isLt = t :=
  Fin.ext (by show t.val - t.val % 13 = t.val; omega)

/-- Another point's group began where the group of the point before it did. -/
theorem base_pred (n : ℕ) (h : n < cfg0.N) (h0 : ¬n % 13 = 0) : base n h = base (n - 1) (by omega) :=
  Fin.ext (by show n - n % 13 = n - 1 - (n - 1) % 13; omega)

/-- The adjusted rows of the group that begins at point `b`, rounded, as the scratch buffer keeps them. -/
def rows (c : Dev nD) (b : Fin cfg0.N) : Vec F S1024x2048 .bf16 := k0_pay3 (iblk m c 0 b) (iblk m c 1 b) (iblk m c 2 b)

/-- The tail columns' products of that group. -/
def tails (c : Dev nD) (b : Fin cfg0.N) : Vec F S1024x384 .f32 :=
  k0_pay4 (iblk m c 0 b) (iblk m c 1 b) (iblk m c 2 b) (iblk m c 4 b) (iblk m c 5 b) (iblk m c 4 b)

/-- The body's scratch buffer. -/
abbrev scM : Memref sig .tc .vmem S1024x2048 .bf16 := Memref.whole cc0_scratch0

/-- Before the first point the scratch buffer holds anything; later the rows of the group of the point before. -/
def Phi (c : Dev nD) : (n : ℕ) → n ≤ cfg0.N → sProp 𝕄
  | 0, _ => Pipeline.ΦA spec0 c
  | n + 1, hn => iprop(owns (c : Thread nD τ) scM fullShare (rows m c (base n hn)) ∗ (∃ r, prngReg c r))

/-- Before the first point. -/
theorem Phi_zero (c : Dev nD) (n : ℕ) (h : n ≤ cfg0.N) (hz : n = 0) : Phi m c n h = Pipeline.ΦA spec0 c := by
  subst hz; rfl

/-- Before a later point. -/
theorem Phi_pos (c : Dev nD) (n : ℕ) (h : n ≤ cfg0.N) (hz : n ≠ 0) :
    Phi m c n h = iprop(owns (c : Thread nD τ) scM fullShare (rows m c (base (n - 1) (by omega))) ∗ (∃ r, prngReg c r)) := by
  cases n with
  | zero => exact absurd rfl hz
  | succ n => rfl

/-- What the launch hands over, with the scratch buffer named. -/
theorem PhiA_eq (c : Dev nD) : (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- What the body leaves in every buffer at every point: each input's block in place, the products of the group's rows
    with the point's main columns, and the group's tail products. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay5 (rows m c (base t.val t.isLt)) (iblk m c 3 t)
    | ⟨7, _⟩ => tails m c (base t.val t.isLt)
    | ⟨_ + 8, h⟩ => absurd h (Nat.not_lt.2 (Nat.le_add_left _ _))
  Φ t := Phi m c t.val (Nat.le_of_lt_succ t.isLt)
  q w := Pipeline.shareOf spec0 w
  owed _ := 0

/-- The arrays as the region finds them. -/
theorem A_eq (c : Dev nD) (w : Fin cfg0.W) : (dats m 0 c).A w = V m c (Pipeline.arrRef spec0 w) := by
  dsimp only [dats]

/-- What the body leaves in window 0's buffer. -/
theorem after0 (c : Dev nD) (t : Fin cfg0.N) : (dats m 0 c).after 0 t = iblk m c 0 t := by dsimp only [dats]
/-- What it finds there. -/
theorem before0 (c : Dev nD) (t : Fin cfg0.N) (d) : (dats m 0 c).before 0 t d = iblk m c 0 t :=
  before0_0_of m (dats m 0 c) (A_eq m c 0) (after0 m c) t d
/-- What the body leaves in window 1's buffer. -/
theorem after1 (c : Dev nD) (t : Fin cfg0.N) : (dats m 0 c).after 1 t = iblk m c 1 t := by dsimp only [dats]
/-- What it finds there. -/
theorem before1 (c : Dev nD) (t : Fin cfg0.N) (d) : (dats m 0 c).before 1 t d = iblk m c 1 t :=
  before0_1_of m (dats m 0 c) (A_eq m c 1) (after1 m c) t d
/-- What the body leaves in window 2's buffer. -/
theorem after2 (c : Dev nD) (t : Fin cfg0.N) : (dats m 0 c).after 2 t = iblk m c 2 t := by dsimp only [dats]
/-- What it finds there. -/
theorem before2 (c : Dev nD) (t : Fin cfg0.N) (d) : (dats m 0 c).before 2 t d = iblk m c 2 t :=
  before0_2_of m (dats m 0 c) (A_eq m c 2) (after2 m c) t d
/-- What the body leaves in window 3's buffer. -/
theorem after3 (c : Dev nD) (t : Fin cfg0.N) : (dats m 0 c).after 3 t = iblk m c 3 t := by dsimp only [dats]
/-- What it finds there. -/
theorem before3 (c : Dev nD) (t : Fin cfg0.N) (d) : (dats m 0 c).before 3 t d = iblk m c 3 t :=
  before0_3_of m (dats m 0 c) (A_eq m c 3) (after3 m c) t d
/-- What the body leaves in window 4's buffer. -/
theorem after4 (c : Dev nD) (t : Fin cfg0.N) : (dats m 0 c).after 4 t = iblk m c 4 t := by dsimp only [dats]
/-- What it finds there. -/
theorem before4 (c : Dev nD) (t : Fin cfg0.N) (d) : (dats m 0 c).before 4 t d = iblk m c 4 t :=
  before0_4_of m (dats m 0 c) (A_eq m c 4) (after4 m c) t d
/-- What the body leaves in window 5's buffer. -/
theorem after5 (c : Dev nD) (t : Fin cfg0.N) : (dats m 0 c).after 5 t = iblk m c 5 t := by dsimp only [dats]
/-- What it finds there. -/
theorem before5 (c : Dev nD) (t : Fin cfg0.N) (d) : (dats m 0 c).before 5 t d = iblk m c 5 t :=
  before0_5_of m (dats m 0 c) (A_eq m c 5) (after5 m c) t d
/-- What the body leaves in the main output's buffer. -/
theorem after6 (c : Dev nD) (t : Fin cfg0.N) : (dats m 0 c).after 6 t = k0_pay5 (rows m c (base t.val t.isLt)) (iblk m c 3 t) := by dsimp only [dats]
/-- What it leaves in the tail output's. -/
theorem after7 (c : Dev nD) (t : Fin cfg0.N) : (dats m 0 c).after 7 t = tails m c (base t.val t.isLt) := by dsimp only [dats]

/-- Inside a group the tail output's buffer already holds the group's tail products. -/
theorem before7 (c : Dev nD) (t : Fin cfg0.N) (h0 : ¬t.val % 13 = 0) (d) : (dats m 0 c).before 7 t d = tails m c (base t.val t.isLt) := by
  rw [(dats m 0 c).before_out_traj 7 rfl (fun _ _ => rfl) (fun t ht hi _ => ?_) t.val t rfl d]
  · rw [fresh7 t.val t.isLt.le, decide_eq_false h0, if_neg Bool.false_ne_true, after7]
    exact congrArg (tails m c) (base_pred t.val t.isLt h0).symm
  · rw [idle7 t] at hi
    have h1 : ¬t.val % 13 = 0 := fun e => by rw [decide_eq_true e] at hi; exact Bool.false_ne_true hi
    rw [after7, after7]
    exact congrArg (tails m c) (base_pred t.val t.isLt h1)

/-- The invariant at a point's start. -/
theorem Phi_castSucc (c : Dev nD) (t : Fin cfg0.N) : (dats m 0 c).Φ t.castSucc = Phi m c t.val (Nat.le_of_lt t.isLt) := by
  dsimp only [dats]; exact Pipeline.Dat.Φ_castSucc (Phi m c) t

/-- The body table's row at point `t`'s slots is the body there. -/
theorem defs₀_row (t : Fin cfg0.N) : defs₀ (F := F) .tc cfg0.body (cfg0.bodyArgs t (cfg0.slots t)) = bodyAt0 t := by
  unfold defs₀; rw [Defs.onTc_tc]

set_option maxHeartbeats 4000000 in
/-- The body at a point that begins a group. -/
theorem sound_first (c : Dev nD) (t : Fin cfg0.N) (h0 : t.val % 13 = 0) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d))
        ∗ (∃ d, owns (c : Thread nD τ) (st0_5 t) fullShare ((dats m 0 c).before 5 t d))
        ∗ (∃ d, owns (c : Thread nD τ) (st0_6 t) fullShare ((dats m 0 c).before 6 t d))
        ∗ (∃ d, owns (c : Thread nD τ) (st0_7 t) fullShare ((dats m 0 c).before 7 t d)))
      ⊢ wp frame (wpE (defs₀ (F := F)) Variants.none c none) Set.univ (bodyAt0 t) fun _ =>
          iprop((dats m 0 c).Φ t.succ ∗ (dats m 0 c).owesAt () t.succ
            ∗ owns (c : Thread nD τ) (st0_0 t) fullShare ((dats m 0 c).after 0 t)
            ∗ owns (c : Thread nD τ) (st0_1 t) fullShare ((dats m 0 c).after 1 t)
            ∗ owns (c : Thread nD τ) (st0_2 t) fullShare ((dats m 0 c).after 2 t)
            ∗ owns (c : Thread nD τ) (st0_3 t) fullShare ((dats m 0 c).after 3 t)
            ∗ owns (c : Thread nD τ) (st0_4 t) fullShare ((dats m 0 c).after 4 t)
            ∗ owns (c : Thread nD τ) (st0_5 t) fullShare ((dats m 0 c).after 5 t)
            ∗ owns (c : Thread nD τ) (st0_6 t) fullShare ((dats m 0 c).after 6 t)
            ∗ owns (c : Thread nD τ) (st0_7 t) fullShare ((dats m 0 c).after 7 t)) := by
  simp only [before0, before1, before2, before3, before4, before5]
  rw [show (dats m 0 c).owesAt () t.succ = (dats m 0 c).owesAt () t.castSucc from rfl,
    after0, after1, after2, after3, after4, after5, after6, after7,
    show (dats m 0 c).Φ t.succ = iprop(owns (c : Thread nD τ) scM fullShare (rows m c (base t.val t.isLt)) ∗ (∃ r, prngReg c r)) from rfl, base_self t h0, Phi_castSucc]
  have hpre : Phi m c t.val (Nat.le_of_lt t.isLt) ⊢ iprop((∃ d, owns (c : Thread nD τ) scM fullShare d) ∗ (∃ r, prngReg c r)) := by
    by_cases hz : t.val = 0
    · rw [Phi_zero m c _ _ hz, PhiA_eq]
      try exact Idealize.SL.BI.Entails.refl _
    · rw [Phi_pos m c _ _ hz]
      iintro ⟨HS, Hg⟩
      isplitl [HS]
      · iexists _; iexact HS
      iexact Hg
  refine (Laws.sep_mono_left hpre).trans ?_
  iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_first c (grid0.coords t) _ _ _ _ _ _ _ _ _ _ _ _ _ _ _ _ scM (Memref.isWhole_whole _) ((cond_iff t).mpr h0) (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS]; · iexists _; iexact HS
  iintro ⟨H0, H1, H2, H3, H4, H5, H6, H7, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 4000000 in
/-- The body at any other point. -/
theorem sound_next (c : Dev nD) (t : Fin cfg0.N) (h0 : ¬t.val % 13 = 0) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d))
        ∗ (∃ d, owns (c : Thread nD τ) (st0_5 t) fullShare ((dats m 0 c).before 5 t d))
        ∗ (∃ d, owns (c : Thread nD τ) (st0_6 t) fullShare ((dats m 0 c).before 6 t d))
        ∗ (∃ d, owns (c : Thread nD τ) (st0_7 t) fullShare ((dats m 0 c).before 7 t d)))
      ⊢ wp frame (wpE (defs₀ (F := F)) Variants.none c none) Set.univ (bodyAt0 t) fun _ =>
          iprop((dats m 0 c).Φ t.succ ∗ (dats m 0 c).owesAt () t.succ
            ∗ owns (c : Thread nD τ) (st0_0 t) fullShare ((dats m 0 c).after 0 t)
            ∗ owns (c : Thread nD τ) (st0_1 t) fullShare ((dats m 0 c).after 1 t)
            ∗ owns (c : Thread nD τ) (st0_2 t) fullShare ((dats m 0 c).after 2 t)
            ∗ owns (c : Thread nD τ) (st0_3 t) fullShare ((dats m 0 c).after 3 t)
            ∗ owns (c : Thread nD τ) (st0_4 t) fullShare ((dats m 0 c).after 4 t)
            ∗ owns (c : Thread nD τ) (st0_5 t) fullShare ((dats m 0 c).after 5 t)
            ∗ owns (c : Thread nD τ) (st0_6 t) fullShare ((dats m 0 c).after 6 t)
            ∗ owns (c : Thread nD τ) (st0_7 t) fullShare (tails m c (base t.val t.isLt))) := by
  have hz : t.val ≠ 0 := fun e => h0 (by rw [e])
  simp only [before0, before1, before2, before3, before4, before5, before7 m c t h0]
  rw [show (dats m 0 c).owesAt () t.succ = (dats m 0 c).owesAt () t.castSucc from rfl,
    after0, after1, after2, after3, after4, after5, after6,
    show (dats m 0 c).Φ t.succ = iprop(owns (c : Thread nD τ) scM fullShare (rows m c (base t.val t.isLt)) ∗ (∃ r, prngReg c r)) from rfl, Phi_castSucc,
    Phi_pos m c _ _ hz, ← base_pred t.val t.isLt h0]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_next c (grid0.coords t) _ _ _ _ _ _ _ _ _ _ _ _ _ _ _ _ scM (Memref.isWhole_whole _) (fun h => h0 ((cond_iff t).mp h)) (iblk m c 0 t) (iblk m c 1 t) (iblk m c 2 t) (iblk m c 3 t) (iblk m c 4 t) (iblk m c 5 t) (tails m c (base t.val t.isLt)) (rows m c (base t.val t.isLt)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [HS]; · iexact HS
  iintro ⟨H0, H1, H2, H3, H4, H5, H6, H7, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- THE BODY OBLIGATION at every point. -/
theorem body_obligation (c : Dev nD) : BodyObligation (dats (F := F) m 0 c) (defs₀ (F := F)) Variants.none () Set.univ := fun t => by
  rw [bigSep_W0, bigSep_W0, defs₀_row]
  by_cases h0 : t.val % 13 = 0
  · have i7 : cfg0.idle 7 (cfg0.grid.coords t) = false := by rw [idle7 t, decide_eq_true h0]; rfl
    refine triple_restated (sound_first m c t h0) rfl .rfl fun _ => ?_
    rewrite [i7]
    exact .rfl
  · have i7 : cfg0.idle 7 (cfg0.grid.coords t) = true := by rw [idle7 t, decide_eq_false h0]; rfl
    refine triple_restated (sound_next m c t h0) rfl .rfl fun _ => ?_
    rewrite [i7]
    rcases Bool.eq_false_or_eq_true ((cfg0.win 7).flush t) with f7 | f7
    · rewrite [f7, after7]
      exact .rfl
    · rewrite [f7]
      simp only [before7 m c t h0]
      iintro ⟨HP, Ho, H0, H1, H2, H3, H4, H5, H6, H7⟩
      isplitl [HP]; · iexact HP
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists (tails m c (base t.val t.isLt)); iexact H7

/-- What the launch hands over is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last point the invariant gives the scratch buffer back. -/
theorem hout (c : Dev nD) : (dats m 0 c).Φ (Fin.last cfg0.N) ⊢ Pipeline.ΦA spec0 c := by
  have hN : cfg0.N ≠ 0 := by rw [show cfg0.N = 104 from N_0]; decide
  rw [show (dats m 0 c).Φ (Fin.last cfg0.N) = Phi m c cfg0.N (Nat.le_refl _) from rfl, Phi_pos m c _ _ hN, PhiA_eq]
  iintro ⟨HS, Hg⟩
  isplitl [HS]
  · iexists _; iexact HS
  iexact Hg

set_option backward.isDefEq.respectTransparency.types false in
/-- THE LAUNCH: every execution terminates; every array ends at what the data says, every other buffer as the region
    found it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch0.to₀ defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- THE FRAME, over any float values: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.InprojIdeal.Hand

end
-- ==== Proof.InprojHost.lean ====
module

public import proofs.«01_k».proof.Proof.InprojFrame
public import Idealize.ShloMosaic.Lib.Pipeline.ValueKit
public import Idealize.ShloMosaic.Lib.Pointwise
public import Idealize.ShloMosaic.Lib.Routing.Words
public import Idealize.ShloMosaic.Lib.Tactic.WordOmega
public import Idealize.ShloMosaic.Lib.StableHlo.ReadAt

@[expose] public section

set_option maxRecDepth 16384

noncomputable section

namespace Cert.Columns
open Idealize.ShloMosaic

/-- The column of the weights that stands at place `e` of the main result. -/
def mainCol (e : ℕ) : ℕ := if e < 2048 then e else if e < 6144 then e + 528 else e - 4096

/-- It is a column of the weights. -/
theorem mainCol_lt {e : ℕ} (h : e < 6656) : mainCol e < 6752 := by
  unfold mainCol; split_ifs <;> omega

/-- The tail result's places: three groups of columns, each followed by zeros up to 128 places. -/
def tailOf (f : Fin 6752 → EReal) (e : ℕ) : EReal :=
  if e < 128 then (if h : e < 16 then f ⟨2560 + e, by omega⟩ else 0)
  else if e < 256 then (if h : e - 128 < 64 then f ⟨6672 + (e - 128), by omega⟩ else 0)
  else (if h : e - 256 < 16 then f ⟨6736 + (e - 256), by omega⟩ else 0)

/-- Arranging columns of sums is summing arranged columns. -/
theorem tailOf_sum (u : Fin 2048 → EReal) (f : Fin 2048 → Fin 6752 → EReal) (e : ℕ) :
    ∑ k, u k * tailOf (f k) e = tailOf (fun j => ∑ k, u k * f k j) e := by
  unfold tailOf
  split_ifs <;> simp

/-- What holds of every column and of zero holds of every place. -/
theorem tailOf_prop (P : EReal → Prop) (h0 : P 0) (f : Fin 6752 → EReal) (hf : ∀ j, P (f j)) (e : ℕ) : P (tailOf f e) := by
  unfold tailOf
  split_ifs <;> first | exact h0 | exact hf _

end Cert.Columns

namespace Cert.InprojIdeal.Hand

open Cert.InprojIdeal Cert.InprojIdeal.Gen Cert.Columns
open Idealize.ShloMosaic Idealize.ShloMosaic.TcCoe
open Idealize.SL.Sem

variable (m : (ℓ : Loc nD τ sig) → Buf (Elt Ideal) ℓ)

/-- The rows the region reads are the argument's, flattened. -/
theorem host_rows (c : Dev nD) (r : Fin 8192) (k : Fin 2048) :
    (V m c main_v0 : S8192x2048.Idx → EReal) (ix2 r k)
      = (m ((c : Thread nD τ).loc main_arg0) : S2x4096x2048.Idx → EReal) (ix3 (⟨r.val / 4096, by omega⟩ : Fin 2) (⟨r.val % 4096, by omega⟩ : Fin 4096) k) := by
  unfold V
  after_reads_at

/-- The word zero, converted, is the number zero. -/
theorem zero_word : (FloatOps.sitofp (F := Ideal) FTy.f32 (0#32) : EReal) = 0 := by
  show (((0#32 : BitVec 32).toInt : ℝ) : EReal) = 0
  simp

/-- The argument's weights. -/
def wts (c : Dev nD) : S2048x6752.Idx → EReal := m ((c : Thread nD τ).loc main_arg3)

/-- The main weights are the argument's columns, rearranged. -/
theorem host_main (c : Dev nD) (k : Fin 2048) (e : Fin 6656) :
    (V m c main_v6 : S2048x6656.Idx → EReal) (ix2 k e) = wts m c (ix2 k (⟨mainCol e.val, mainCol_lt e.isLt⟩ : Fin 6752)) := by
  have hm : ∀ (j : Fin 6752), j.val = mainCol e.val → wts m c (ix2 k j) = wts m c (ix2 k (⟨mainCol e.val, mainCol_lt e.isLt⟩ : Fin 6752)) :=
    fun j hj => congrArg (fun x => wts m c (ix2 k x)) (Fin.ext hj)
  unfold mainCol at hm
  unfold V
  after_reads_at
  by_cases h1 : e.val < 1024
  · rw [dif_pos h1]
    after_reads_simp
    pointwise
    exact hm _ (by dsimp only; split_ifs <;> omega)
  by_cases h2 : e.val - 1024 < 1024
  · rw [dif_neg h1, dif_pos h2]
    after_reads_simp
    pointwise
    exact hm _ (by dsimp only; split_ifs <;> omega)
  by_cases h3 : e.val - 1024 - 1024 < 4096
  · rw [dif_neg h1, dif_neg h2, dif_pos h3]
    after_reads_simp
    pointwise
    exact hm _ (by dsimp only; split_ifs <;> omega)
  · rw [dif_neg h1, dif_neg h2, dif_neg h3]
    after_reads_simp
    pointwise
    exact hm _ (by dsimp only; split_ifs <;> omega)

/-- The leading part of the tail weights is the weights themselves: a rounding is the identity here. -/
theorem host_hi (c : Dev nD) (k : Fin 2048) (e : Fin 384) :
    (V m c main_v14 : S2048x384.Idx → EReal) (ix2 k e) = tailOf (fun j => wts m c (ix2 k j)) e.val := by
  unfold V tailOf
  after_reads_at
  by_cases h1 : e.val < 128
  · simp only [dif_pos h1, if_pos h1]
    after_reads_at
    by_cases h : e.val < 16
    · simp only [dif_pos h]
      first | rfl | simp only [zero_word]
    · simp only [dif_neg h]
      first | rfl | simp only [zero_word]
  by_cases h2 : e.val - 128 < 128
  · simp only [dif_neg h1, if_neg h1, dif_pos h2, if_pos (show e.val < 256 by omega)]
    after_reads_at
    by_cases h : e.val - 128 < 64
    · simp only [dif_pos h]
      first | rfl | simp only [zero_word]
    · simp only [dif_neg h]
      first | rfl | simp only [zero_word]
  · simp only [dif_neg h1, if_neg h1, dif_neg h2, if_neg (show ¬e.val < 256 by omega)]
    after_reads_at
    have e3 : e.val - 128 - 128 = e.val - 256 := by omega
    by_cases h : e.val - 256 < 16
    · simp only [e3, dif_pos h]
      first | rfl | simp only [zero_word]
    · simp only [e3, dif_neg h]
      first | rfl | simp only [zero_word]

/-- What the leading part leaves: each weight less itself. -/
theorem host_lo (c : Dev nD) (k : Fin 2048) (e : Fin 384) :
    (V m c main_v17 : S2048x384.Idx → EReal) (ix2 k e)
      = tailOf (fun j => wts m c (ix2 k j)) e.val - tailOf (fun j => wts m c (ix2 k j)) e.val := by
  unfold V tailOf
  after_reads_at
  by_cases h1 : e.val < 128
  · simp only [dif_pos h1, if_pos h1]
    after_reads_at
    by_cases h : e.val < 16
    · simp only [dif_pos h]
      first | rfl | simp only [zero_word]
    · simp only [dif_neg h]
      first | rfl | simp only [zero_word]
  by_cases h2 : e.val - 128 < 128
  · simp only [dif_neg h1, if_neg h1, dif_pos h2, if_pos (show e.val < 256 by omega)]
    after_reads_at
    by_cases h : e.val - 128 < 64
    · simp only [dif_pos h]
      first | rfl | simp only [zero_word]
    · simp only [dif_neg h]
      first | rfl | simp only [zero_word]
  · simp only [dif_neg h1, if_neg h1, dif_neg h2, if_neg (show ¬e.val < 256 by omega)]
    after_reads_at
    have e3 : e.val - 128 - 128 = e.val - 256 := by omega
    by_cases h : e.val - 256 < 16
    · simp only [e3, dif_pos h]
      first | rfl | simp only [zero_word]
    · simp only [e3, dif_neg h]
      first | rfl | simp only [zero_word]

end Cert.InprojIdeal.Hand

end
-- ==== Proof.InprojValue.lean ====
module

public import proofs.«01_k».proof.Proof.InprojHost

@[expose] public section

set_option maxRecDepth 16384

noncomputable section

namespace Cert.Columns
open Idealize.ShloMosaic

variable (X : (⟨3, ![2, 4096, 2048]⟩ : Shape).Idx → EReal) (S H : (⟨3, ![2, 1, 2048]⟩ : Shape).Idx → EReal) (W : (⟨2, ![2048, 6752]⟩ : Shape).Idx → EReal)

/-- A row of the modulated input: scaled by one plus the row's batch's scale, then shifted. -/
def unit (r : Fin 8192) (k : Fin 2048) : EReal :=
  X (ix3 (⟨r.val / 4096, by omega⟩ : Fin 2) (⟨r.val % 4096, by omega⟩ : Fin 4096) k) * (1 + S (ix3 (⟨r.val / 4096, by omega⟩ : Fin 2) (0 : Fin 1) k))
    + H (ix3 (⟨r.val / 4096, by omega⟩ : Fin 2) (0 : Fin 1) k)

/-- A column of the projection. -/
def proj (r : Fin 8192) (j : Fin 6752) : EReal := ∑ k : Fin 2048, unit X S H r k * W (ix2 k j)

/-- The main result: the projection's columns, rearranged. -/
def mainOut (i : (⟨2, ![8192, 6656]⟩ : Shape).Idx) : EReal := proj X S H W (i 0) ⟨mainCol (i 1).val, mainCol_lt (i 1).isLt⟩

/-- The tail result: three groups of the projection's columns, padded with zeros. -/
def tailOut (i : (⟨2, ![8192, 384]⟩ : Shape).Idx) : EReal := tailOf (fun j => proj X S H W (i 0) j) (i 1).val

/-- The tail result as the kernel adds it up: input and weights are each a leading part and a rest. -/
def tailRaw (i : (⟨2, ![8192, 384]⟩ : Shape).Idx) : EReal :=
  (∑ k : Fin 2048, unit X S H (i 0) k * tailOf (fun j => W (ix2 k j)) (i 1).val)
    + (∑ k : Fin 2048, unit X S H (i 0) k * (tailOf (fun j => W (ix2 k j)) (i 1).val - tailOf (fun j => W (ix2 k j)) (i 1).val))
    + ∑ k : Fin 2048, (unit X S H (i 0) k - unit X S H (i 0) k) * tailOf (fun j => W (ix2 k j)) (i 1).val

end Cert.Columns

namespace Cert.InprojIdeal.Hand

open Cert.InprojIdeal Cert.InprojIdeal.Gen Cert.Columns
open Idealize.ShloMosaic Idealize.ShloMosaic.TcCoe
open Idealize.SL.Sem
open Idealize.ShloMosaic.Pipeline (Dat)

variable (m : (ℓ : Loc nD τ sig) → Buf (Elt Ideal) ℓ)

/-- The block indices of every window at every grid point. -/
theorem idx : ∀ t : Fin cfg0.N, win0_0.index t = ![t.val / 13, 0] ∧ win0_1.index t = ![t.val / 52, 0, 0] ∧ win0_2.index t = ![t.val / 52, 0, 0]
    ∧ win0_3.index t = ![0, t.val % 13] ∧ win0_4.index t = ![0, 0] ∧ win0_5.index t = ![0, 0] ∧ win0_6.index t = ![t.val / 13, t.val % 13]
    ∧ win0_7.index t = ![t.val / 13, 0] :=
  (by decide +kernel : ∀ t : Fin grid0.N, _)

/-- The input, the scale and the shift as the argument arrays hold them. -/
def xs (c : Dev nD) : S2x4096x2048.Idx → EReal := m ((c : Thread nD τ).loc main_arg0)
/-- The scale. -/
def scs (c : Dev nD) : S2x1x2048.Idx → EReal := m ((c : Thread nD τ).loc main_arg1)
/-- The shift. -/
def shs (c : Dev nD) : S2x1x2048.Idx → EReal := m ((c : Thread nD τ).loc main_arg2)

/-- The modulated row of the program's arguments. -/
abbrev urow (c : Dev nD) (r : Fin 8192) (k : Fin 2048) : EReal := unit (xs m c) (scs m c) (shs m c) r k

/-- The scale the region reads is the argument. -/
theorem host_scale (c : Dev nD) : (V m c main_arg1 : S2x1x2048.Idx → EReal) = scs m c := by
  unfold V
  after_reads_simp
  first | done | rfl
/-- The shift the region reads is the argument. -/
theorem host_shift (c : Dev nD) : (V m c main_arg2 : S2x1x2048.Idx → EReal) = shs m c := by
  unfold V
  after_reads_simp
  first | done | rfl

/-- The block of input rows at a point. -/
theorem blk0 (c : Dev nD) (t : Fin cfg0.N) (ht : t.val < 104) (l : Fin 1024) (k : Fin 2048) :
    (iblk m c 0 t : S1024x2048.Idx → EReal) (ix2 l k) = (V m c main_v0 : S8192x2048.Idx → EReal) (ix2 (⟨1024 * (t.val / 13) + l.val, by omega⟩ : Fin 8192) k) := by
  blk_ext [iblk, idx t]
/-- The scale's block at a point: its batch. -/
theorem blk1 (c : Dev nD) (t : Fin cfg0.N) (ht : t.val < 104) (k : Fin 2048) :
    (iblk m c 1 t : S1x1x2048.Idx → EReal) (ix3 (0 : Fin 1) (0 : Fin 1) k) = (V m c main_arg1 : S2x1x2048.Idx → EReal) (ix3 (⟨t.val / 52, by omega⟩ : Fin 2) (0 : Fin 1) k) := by
  blk_ext [iblk, idx t]
/-- The shift's block at a point: its batch. -/
theorem blk2 (c : Dev nD) (t : Fin cfg0.N) (ht : t.val < 104) (k : Fin 2048) :
    (iblk m c 2 t : S1x1x2048.Idx → EReal) (ix3 (0 : Fin 1) (0 : Fin 1) k) = (V m c main_arg2 : S2x1x2048.Idx → EReal) (ix3 (⟨t.val / 52, by omega⟩ : Fin 2) (0 : Fin 1) k) := by
  blk_ext [iblk, idx t]
/-- The block of main weights at a point. -/
theorem blk3 (c : Dev nD) (t : Fin cfg0.N) (k : Fin 2048) (e : Fin 512) :
    (iblk m c 3 t : S2048x512.Idx → EReal) (ix2 k e) = (V m c main_v6 : S2048x6656.Idx → EReal) (ix2 k (⟨512 * (t.val % 13) + e.val, by omega⟩ : Fin 6656)) := by
  blk_ext [iblk, idx t]
/-- The leading part of the tail weights, whole at every point. -/
theorem blk4 (c : Dev nD) (t : Fin cfg0.N) (k : Fin 2048) (e : Fin 384) :
    (iblk m c 4 t : S2048x384.Idx → EReal) (ix2 k e) = (V m c main_v14 : S2048x384.Idx → EReal) (ix2 k e) := by
  blk_ext [iblk, idx t]
/-- What the leading part leaves, whole at every point. -/
theorem blk5 (c : Dev nD) (t : Fin cfg0.N) (k : Fin 2048) (e : Fin 384) :
    (iblk m c 5 t : S2048x384.Idx → EReal) (ix2 k e) = (V m c main_v17 : S2048x384.Idx → EReal) (ix2 k e) := by
  blk_ext [iblk, idx t]

/-- The modulated block, entry by entry. -/
theorem pay1_apply (x : Vec Ideal S1024x2048 .f32) (s h : Vec Ideal S1x1x2048 .f32) (l : Fin 1024) (k : Fin 2048) :
    k0_pay1 x s h (ix2 l k) = x (ix2 l k) * (1 + s (ix3 (0 : Fin 1) (0 : Fin 1) k)) + h (ix3 (0 : Fin 1) (0 : Fin 1) k) := by
  unfold k0_pay1
  simp only [pointwise]
  split_ifs with hh
  · exact absurd hh (by decide)
  · rfl

/-- The block of rows kept in the scratch buffer is the modulated block. -/
theorem pay3_apply (x : Vec Ideal S1024x2048 .f32) (s h : Vec Ideal S1x1x2048 .f32) (l : Fin 1024) (k : Fin 2048) :
    k0_pay3 x s h (ix2 l k) = k0_pay1 x s h (ix2 l k) := by
  unfold k0_pay3 k0_pay2
  simp only [pointwise]

/-- The main result's block: a product. -/
theorem pay5_apply (u : Vec Ideal S1024x2048 .bf16) (w : Vec Ideal S2048x512 .bf16) (l : Fin 1024) (e : Fin 512) :
    k0_pay5 u w (ix2 l e) = ∑ k : Fin 2048, u (ix2 l k) * w (ix2 k e) := by
  unfold k0_pay5
  simp only [pointwise]
  rw [zero_add]

/-- The tail result's block: three products added. -/
theorem pay4_apply (x : Vec Ideal S1024x2048 .f32) (s h : Vec Ideal S1x1x2048 .f32) (a b d : Vec Ideal S2048x384 .bf16) (l : Fin 1024) (e : Fin 384) :
    k0_pay4 x s h a b d (ix2 l e)
      = (∑ k : Fin 2048, k0_pay1 x s h (ix2 l k) * a (ix2 k e)) + (∑ k : Fin 2048, k0_pay1 x s h (ix2 l k) * b (ix2 k e))
        + ∑ k : Fin 2048, (k0_pay1 x s h (ix2 l k) - k0_pay1 x s h (ix2 l k)) * d (ix2 k e) := by
  unfold k0_pay4 k0_pay2
  simp only [pointwise]
  rw [zero_add, zero_add, zero_add]

/-- The modulated block at a point is the arguments' modulated rows. -/
theorem ublk (c : Dev nD) (t : Fin cfg0.N) (ht : t.val < 104) (l : Fin 1024) (k : Fin 2048) (r : Fin 8192) (hr : r.val = 1024 * (t.val / 13) + l.val) :
    k0_pay1 (iblk m c 0 t) (iblk m c 1 t) (iblk m c 2 t) (ix2 l k) = urow m c r k := by
  have hb : 1024 * (t.val / 13) + l.val < 8192 := by omega
  obtain rfl : r = ⟨1024 * (t.val / 13) + l.val, hb⟩ := Fin.ext hr
  refine (pay1_apply _ _ _ l k).trans ?_
  refine (congrArg₂ (fun a b : EReal => a + b) (congrArg₂ (fun a b : EReal => a * (1 + b)) (blk0 m c t ht l k) (blk1 m c t ht k)) (blk2 m c t ht k)).trans ?_
  rw [host_rows, host_scale, host_shift]
  have e : t.val / 52 = (1024 * (t.val / 13) + l.val) / 4096 := by omega
  simp only [e]
  rfl

/-- The number of grid points. -/
theorem lt_grid (t : Fin cfg0.N) : t.val < 104 := lt_of_lt_of_eq t.isLt N_0

/-- A point and the first point of its row of blocks name the same rows. -/
theorem base_div (t : Fin cfg0.N) : (base t.val t.isLt).val / 13 = t.val / 13 := by
  show (t.val - t.val % 13) / 13 = _
  omega

/-- What the main result's array ends holding. -/
def G6 (c : Dev nD) : S8192x6656.Idx → EReal := mainOut (xs m c) (scs m c) (shs m c) (wts m c)

/-- What the tail result's array ends holding. -/
def G7 (c : Dev nD) : S8192x384.Idx → EReal := tailRaw (xs m c) (scs m c) (shs m c) (wts m c)

/-- A point writes back its block of the main result. -/
theorem flushed6 (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after6]
  have ht := lt_grid t
  funext y
  have hy0 : (y 0).val < 1024 := (y 0).isLt
  have hy1 : (y 1).val < 512 := (y 1).isLt
  have i0 : win0_6.index t (0 : Fin 2) = t.val / 13 := congrFun (idx t).2.2.2.2.2.2.1 0
  have i1 : win0_6.index t (1 : Fin 2) = t.val % 13 := congrFun (idx t).2.2.2.2.2.2.1 1
  have hb0 : (((cfg0.win 6).blk t).view.emb y 0).val = win0_6.index t (0 : Fin 2) * 1024 + 1 * (y 0).val := rfl
  have hb1 : (((cfg0.win 6).blk t).view.emb y 1).val = win0_6.index t (1 : Fin 2) * 512 + 1 * (y 1).val := rfl
  have hr : 1024 * (t.val / 13) + (y 0).val < 8192 := by omega
  have hq : 512 * (t.val % 13) + (y 1).val < 6656 := by omega
  have he : ((cfg0.win 6).blk t).view.emb y = ix2 (⟨1024 * (t.val / 13) + (y 0).val, hr⟩ : Fin 8192) (⟨512 * (t.val % 13) + (y 1).val, hq⟩ : Fin 6656) := by
    funext a; apply Fin.ext
    match a with
    | ⟨0, _⟩ => show (((cfg0.win 6).blk t).view.emb y 0).val = 1024 * (t.val / 13) + (y 0).val; rw [hb0, i0]; omega
    | ⟨1, _⟩ => show (((cfg0.win 6).blk t).view.emb y 1).val = 512 * (t.val % 13) + (y 1).val; rw [hb1, i1]; omega
  have hl : (cfg0.win 6).xinj (grid0.coords t) y = ix2 (⟨(y 0).val, hy0⟩ : Fin 1024) (⟨(y 1).val, hy1⟩ : Fin 512) := by
    funext a; apply Fin.ext
    match a with
    | ⟨0, _⟩ => rfl
    | ⟨1, _⟩ => rfl
  show k0_pay5 (rows m c (base t.val t.isLt)) (iblk m c 3 t) ((cfg0.win 6).xinj (grid0.coords t) y) = G6 m c (((cfg0.win 6).blk t).view.emb y)
  rw [hl, he]
  refine (pay5_apply _ _ _ _).trans ?_
  show _ = ∑ k : Fin 2048, urow m c (⟨1024 * (t.val / 13) + (y 0).val, hr⟩ : Fin 8192) k
    * wts m c (ix2 k (⟨mainCol (512 * (t.val % 13) + (y 1).val), mainCol_lt hq⟩ : Fin 6752))
  refine Finset.sum_congr rfl fun k _ => ?_
  refine congrArg₂ (fun a b : EReal => a * b) ?_ ((blk3 m c t k _).trans (host_main m c k _))
  refine (pay3_apply _ _ _ _ k).trans (ublk m c _ (lt_grid _) _ k _ ?_)
  rw [base_div]

/-- A point that ends a row of blocks writes back the row's block of the tail result. -/
theorem flushed7 (c : Dev nD) (t : Fin cfg0.N) :
    (dats m 0 c).flushed 7 t = ((cfg0.win 7).blk t).view.read (Elt Ideal) (G7 m c) := by
  show (cfg0.win 7).cut (grid0.coords t) ((dats m 0 c).after 7 t) = _
  rw [after7]
  have ht := lt_grid t
  funext y
  have hy0 : (y 0).val < 1024 := (y 0).isLt
  have hy1 : (y 1).val < 384 := (y 1).isLt
  have i0 : win0_7.index t (0 : Fin 2) = t.val / 13 := congrFun (idx t).2.2.2.2.2.2.2 0
  have i1 : win0_7.index t (1 : Fin 2) = 0 := congrFun (idx t).2.2.2.2.2.2.2 1
  have hb0 : (((cfg0.win 7).blk t).view.emb y 0).val = win0_7.index t (0 : Fin 2) * 1024 + 1 * (y 0).val := rfl
  have hb1 : (((cfg0.win 7).blk t).view.emb y 1).val = win0_7.index t (1 : Fin 2) * 384 + 1 * (y 1).val := rfl
  have hr : 1024 * (t.val / 13) + (y 0).val < 8192 := by omega
  have he : ((cfg0.win 7).blk t).view.emb y = ix2 (⟨1024 * (t.val / 13) + (y 0).val, hr⟩ : Fin 8192) (⟨(y 1).val, hy1⟩ : Fin 384) := by
    funext a; apply Fin.ext
    match a with
    | ⟨0, _⟩ => show (((cfg0.win 7).blk t).view.emb y 0).val = 1024 * (t.val / 13) + (y 0).val; rw [hb0, i0]; omega
    | ⟨1, _⟩ => show (((cfg0.win 7).blk t).view.emb y 1).val = (y 1).val; rw [hb1, i1]; omega
  have hl : (cfg0.win 7).xinj (grid0.coords t) y = ix2 (⟨(y 0).val, hy0⟩ : Fin 1024) (⟨(y 1).val, hy1⟩ : Fin 384) := by
    funext a; apply Fin.ext
    match a with
    | ⟨0, _⟩ => rfl
    | ⟨1, _⟩ => rfl
  show tails m c (base t.val t.isLt) ((cfg0.win 7).xinj (grid0.coords t) y) = G7 m c (((cfg0.win 7).blk t).view.emb y)
  rw [hl, he]
  unfold tails
  refine (pay4_apply _ _ _ _ _ _ _ _).trans ?_
  have hu : ∀ k : Fin 2048, k0_pay1 (iblk m c 0 (base t.val t.isLt)) (iblk m c 1 (base t.val t.isLt)) (iblk m c 2 (base t.val t.isLt)) (ix2 (⟨(y 0).val, hy0⟩ : Fin 1024) k)
      = urow m c (⟨1024 * (t.val / 13) + (y 0).val, hr⟩ : Fin 8192) k := fun k => ublk m c _ (lt_grid _) _ k _ (by rw [base_div])
  have h4 : ∀ k : Fin 2048, (iblk m c 4 (base t.val t.isLt) : S2048x384.Idx → EReal) (ix2 k (⟨(y 1).val, hy1⟩ : Fin 384)) = tailOf (fun j => wts m c (ix2 k j)) (y 1).val :=
    fun k => (blk4 m c _ k _).trans (host_hi m c k _)
  have h5 : ∀ k : Fin 2048, (iblk m c 5 (base t.val t.isLt) : S2048x384.Idx → EReal) (ix2 k (⟨(y 1).val, hy1⟩ : Fin 384)) = tailOf (fun j => wts m c (ix2 k j)) (y 1).val - tailOf (fun j => wts m c (ix2 k j)) (y 1).val :=
    fun k => (blk5 m c _ k _).trans (host_lo m c k _)
  refine congrArg₂ (fun a b : EReal => a + b) (congrArg₂ (fun a b : EReal => a + b) ?_ ?_) ?_
  · exact Finset.sum_congr rfl fun k _ => congrArg₂ (fun a b : EReal => a * b) (hu k) (h4 k)
  · exact Finset.sum_congr rfl fun k _ => congrArg₂ (fun a b : EReal => a * b) (hu k) (h5 k)
  · exact Finset.sum_congr rfl fun k _ => congrArg₂ (fun a b : EReal => a * b) (congrArg₂ (fun a b : EReal => a - b) (hu k) (hu k)) (h4 k)

/-- An index is in a point's block of the main result iff each coordinate is in the block's range. -/
theorem mem6 (t : Fin cfg0.N) (i : S8192x6656.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v18_0).slice (win0_6.rect t)).set ↔ _
  rw [View.set_slice_whole, Rect.mem_set_unit]
  exact Iff.rfl

/-- The same of the tail result. -/
theorem mem7 (t : Fin cfg0.N) (i : S8192x384.Idx) :
    i ∈ ((cfg0.win 7).blk t).view.set ↔ ∀ a : Fin 2, win0_7.index t a * S1024x384.size a ≤ (i a).val ∧ (i a).val < win0_7.index t a * S1024x384.size a + S1024x384.size a := by
  show i ∈ ((View.whole main_v18_1).slice (win0_7.rect t)).set ↔ _
  rw [View.set_slice_whole, Rect.mem_set_unit]
  exact Iff.rfl

/-- THE MAIN RESULT after the run: the blocks tile it. -/
theorem final6 (c : Dev nD) : (dats m 0 c).arrAt 6 cfg0.N = G6 m c :=
  (dats m 0 c).arrAt_eq_of_cover 6 _ (fun t _ => flushed6 m c t) (fun i => by
    have h0 : (i 0).val < 8192 := (i 0).isLt
    have h1 : (i 1).val < 6656 := (i 1).isLt
    let t : Fin cfg0.N := ⟨13 * ((i 0).val / 1024) + (i 1).val / 512, lt_of_lt_of_eq (by omega) N_0.symm⟩
    have hv : t.val = 13 * ((i 0).val / 1024) + (i 1).val / 512 := rfl
    have i0 : win0_6.index t (0 : Fin 2) = t.val / 13 := congrFun (idx t).2.2.2.2.2.2.1 0
    have i1 : win0_6.index t (1 : Fin 2) = t.val % 13 := congrFun (idx t).2.2.2.2.2.2.1 1
    refine ⟨t, flush0_6 t, (mem6 t i).2 fun a => ?_⟩
    match a with
    | ⟨0, _⟩ => show win0_6.index t (0 : Fin 2) * 1024 ≤ (i 0).val ∧ (i 0).val < win0_6.index t (0 : Fin 2) * 1024 + 1024; omega
    | ⟨1, _⟩ => show win0_6.index t (1 : Fin 2) * 512 ≤ (i 1).val ∧ (i 1).val < win0_6.index t (1 : Fin 2) * 512 + 512; omega)

/-- THE TAIL RESULT after the run. -/
theorem final7 (c : Dev nD) : (dats m 0 c).arrAt 7 cfg0.N = G7 m c :=
  (dats m 0 c).arrAt_eq_of_cover 7 _ (fun t _ => flushed7 m c t) (fun i => by
    have h0 : (i 0).val < 8192 := (i 0).isLt
    have h1 : (i 1).val < 384 := (i 1).isLt
    let t : Fin cfg0.N := ⟨13 * ((i 0).val / 1024) + 12, lt_of_lt_of_eq (by omega) N_0.symm⟩
    have hv : t.val = 13 * ((i 0).val / 1024) + 12 := rfl
    have i0 : win0_7.index t (0 : Fin 2) = t.val / 13 := congrFun (idx t).2.2.2.2.2.2.2 0
    have i1 : win0_7.index t (1 : Fin 2) = 0 := congrFun (idx t).2.2.2.2.2.2.2 1
    refine ⟨t, (flush0_7 t).2 (by omega), (mem7 t i).2 fun a => ?_⟩
    match a with
    | ⟨0, _⟩ => show win0_7.index t (0 : Fin 2) * 1024 ≤ (i 0).val ∧ (i 0).val < win0_7.index t (0 : Fin 2) * 1024 + 1024; omega
    | ⟨1, _⟩ => show win0_7.index t (1 : Fin 2) * 384 ≤ (i 1).val ∧ (i 1).val < win0_7.index t (1 : Fin 2) * 384 + 384; omega)

variable (ρ : Dev nD → PrngReg)

/-- THE KERNEL'S RUN, read: both results' arrays and the unchanged arguments. -/
theorem run_read : θ_run defs (onTc (τ := τ) (main (F := Ideal))) ⟨m, fun _ => 0, ρ⟩ (fun r => ∀ c : Dev nD,
      r.2.mem ((c.tc : Thread nD τ).loc main_v18_0) = G6 m c
      ∧ r.2.mem ((c.tc : Thread nD τ).loc main_v18_1) = G7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 (6 : Fin 8)).trans (final6 m c), ((h.1 c).1 (7 : Fin 8)).trans (final7 m c), h.2.1 c⟩)
    (θ_run_and (run_main m ρ) (frame m ρ))

end Cert.InprojIdeal.Hand

end
-- ==== Proof.InprojPair.lean ====
module

public import proofs.«01_k».proof.Defs
public import proofs.«01_k».proof.Proof.InprojValue
public import proofs.«01_k».proof.Proof.Decode
public import proofs.«01_k».proof.Proof.Gen.ProjectionIdeal.Run
public import proofs.«01_k».proof.Proof.Gen.On_finite_tail

@[expose] public section

set_option maxRecDepth 16384

noncomputable section

namespace Cert.ProjectionIdeal.Columns

open Cert.ProjectionIdeal Cert.ProjectionIdeal.Gen Cert.Columns
open Idealize.ShloMosaic Idealize.ShloMosaic.StableHlo

/-- The reference's projection of every row, flattened. -/
def full (X : FVec Ideal S2x4096x2048 .f32) (S H : FVec Ideal S2x1x2048 .f32) (W : FVec Ideal S2048x6752 .f32) : FVec Ideal S8192x6752 .f32 :=
  shapeCast _ (Host.dotGeneral dot_S2x4096x2048_S2048x6752_S2x4096x6752_2_0_01_1_n_n none (addf (mulf X (broadcastInDim S2x4096x2048 ![0, 1, 2] bcast_S2x1x2048_S2x4096x2048_0_1_2 (addf (broadcastInDim S2x1x2048 ![] bcast_S_S2x1x2048 (constant S_ .f32 0x3F800000#32)) S))) (broadcastInDim S2x4096x2048 ![0, 1, 2] bcast_S2x1x2048_S2x4096x2048_0_1_2 H)) W) shapeCasts_S2x4096x6752_S8192x6752

/-- An entry of it. -/
theorem full_apply (X : FVec Ideal S2x4096x2048 .f32) (S H : FVec Ideal S2x1x2048 .f32) (W : FVec Ideal S2048x6752 .f32) (r : Fin 8192) (j : Fin 6752) :
    full X S H W (ix2 r j) = proj X S H W r j := by
  unfold full proj unit
  simp only [pointwise]
  rw [zero_add]
  refine Finset.sum_congr rfl fun k _ => ?_
  split_ifs with h1
  all_goals first | exact absurd h1 (by decide) | rfl

/-- The reference's main result, place by place. -/
theorem main_apply (P : FVec Ideal S8192x6752 .f32) (r : Fin 8192) (e : Fin 6656) :
    (concatenate S8192x6656 1 [⟨S8192x2048, (extractStridedSlice S8192x2048 ![0, 0] P slices_S8192x6752_S8192x2048_0_0)⟩, ⟨S8192x4096, (extractStridedSlice S8192x4096 ![0, 2576] P slices_S8192x6752_S8192x4096_0_2576)⟩, ⟨S8192x512, (extractStridedSlice S8192x512 ![0, 2048] P slices_S8192x6752_S8192x512_0_2048)⟩] concatenates_S8192x2048_S8192x4096_S8192x512_S8192x6656_d1) (ix2 r e)
      = P (ix2 r (⟨mainCol e.val, mainCol_lt e.isLt⟩ : Fin 6752)) := by
  have hm : ∀ (j : Fin 6752), j.val = mainCol e.val → P (ix2 r j) = P (ix2 r (⟨mainCol e.val, mainCol_lt e.isLt⟩ : Fin 6752)) :=
    fun j hj => congrArg (fun x => P (ix2 r x)) (Fin.ext hj)
  unfold mainCol at hm
  pointwise
  by_cases h1 : e.val < 2048
  · rw [dif_pos h1]
    exact hm _ (by dsimp only; split_ifs <;> omega)
  by_cases h2 : e.val - 2048 < 4096
  · rw [dif_neg h1, dif_pos h2]
    exact hm _ (by dsimp only; split_ifs <;> omega)
  · rw [dif_neg h1, dif_neg h2]
    exact hm _ (by dsimp only; split_ifs <;> omega)

/-- The reference's tail result, place by place. -/
theorem tail_apply (P : FVec Ideal S8192x6752 .f32) (r : Fin 8192) (e : Fin 384) :
    (concatenate S8192x384 1 [⟨S8192x128, (pad S8192x128 ![0, 0] ![0, 112] ![0, 0] (extractStridedSlice S8192x16 ![0, 2560] P slices_S8192x6752_S8192x16_0_2560) (sitofp .f32 (constantI S_ 32 0#32)) pads_S8192x16_S8192x128_000_01120 h_S_)⟩, ⟨S8192x128, (pad S8192x128 ![0, 0] ![0, 64] ![0, 0] (extractStridedSlice S8192x64 ![0, 6672] P slices_S8192x6752_S8192x64_0_6672) (sitofp .f32 (constantI S_ 32 0#32)) pads_S8192x64_S8192x128_000_0640 h_S_)⟩, ⟨S8192x128, (pad S8192x128 ![0, 0] ![0, 112] ![0, 0] (extractStridedSlice S8192x16 ![0, 6736] P slices_S8192x6752_S8192x16_0_6736) (sitofp .f32 (constantI S_ 32 0#32)) pads_S8192x16_S8192x128_000_01120 h_S_)⟩] concatenates_S8192x128_S8192x128_S8192x128_S8192x384_d1) (ix2 r e)
      = tailOf (fun j => P (ix2 r j)) e.val := by
  unfold tailOf
  pointwise
  have z : (FloatOps.sitofp (F := Ideal) FTy.f32 (0#32) : EReal) = 0 := Cert.InprojIdeal.Hand.zero_word
  by_cases h1 : e.val < 128
  · simp only [dif_pos h1, if_pos h1, z]
  by_cases h2 : e.val - 128 < 128
  · simp only [dif_neg h1, if_neg h1, dif_pos h2, if_pos (show e.val < 256 by omega), z]
  · have e3 : e.val - 128 - 128 = e.val - 256 := by omega
    simp only [dif_neg h1, if_neg h1, dif_neg h2, if_neg (show ¬e.val < 256 by omega), z, e3]

end Cert.ProjectionIdeal.Columns

namespace Cert.Columns
open Idealize.ShloMosaic

/-- A number whose size the mask finds below infinity is not infinite. -/
theorem lt_inf {x : EReal} (h : Ideal.cmp .olt (max x (-x)) (Scalar.ofBits (F := Ideal) .f32 0x7F800000#32) = 1#1) : x ≠ ⊤ ∧ x ≠ ⊥ := by
  have e : (Scalar.ofBits (F := Ideal) .f32 0x7F800000#32 : EReal) = ⊤ := by
    show Ideal.ofBits .f32 0x7F800000#32 = ⊤
    simp [Ideal.ofBits, Ideal.ieee]
  rw [e] at h
  constructor
  · rintro rfl
    simp [Ideal.cmp] at h
  · rintro rfl
    simp [Ideal.cmp] at h

/-- A finite number less itself is zero. -/
theorem sub_self_of_finite {x : EReal} (h : x ≠ ⊤ ∧ x ≠ ⊥) : x - x = 0 := EReal.sub_self h.1 h.2

/-- The mask of the tail result, decoded: it is set only where every argument is finite. -/
theorem mask_finite [Cert.On_finite_tail.Facts] (X : FVec Ideal Cert.On_finite_tail.S2x4096x2048 .f32) (S H : FVec Ideal Cert.On_finite_tail.S2x1x2048 .f32)
    (W : FVec Ideal Cert.On_finite_tail.S2048x6752 .f32) (i : Cert.On_finite_tail.S8192x384.Idx) (h : (Cert.On_finite_tail.fn (F := Ideal) X S H W).2 i = 1#1) :
    (∀ x, X x ≠ ⊤ ∧ X x ≠ ⊥) ∧ (∀ x, S x ≠ ⊤ ∧ S x ≠ ⊥) ∧ (∀ x, H x ≠ ⊤ ∧ H x ≠ ⊥) ∧ ∀ x, W x ≠ ⊤ ∧ W x ≠ ⊥ := by
  have : Subsingleton Cert.On_finite_tail.S_.Idx := ⟨fun a b => funext fun i => i.elim0⟩
  have h1 := Cert.Moe.and_flag (show _ &&& _ = 1#1 from h)
  have h2 := Cert.Moe.and_flag (show _ &&& _ = 1#1 from h1.1)
  have h3 := Cert.Moe.and_flag (show _ &&& _ = 1#1 from h2.1)
  exact ⟨fun x => lt_inf (Host.reduce_andi_all _ _ _ _ _ h3.1 x), fun x => lt_inf (Host.reduce_andi_all _ _ _ _ _ h3.2 x),
    fun x => lt_inf (Host.reduce_andi_all _ _ _ _ _ h2.2 x), fun x => lt_inf (Host.reduce_andi_all _ _ _ _ _ h1.2 x)⟩

/-- The modulation of a finite number by finite numbers is finite. -/
theorem modul_finite {x s h : EReal} (hx : x ≠ ⊤ ∧ x ≠ ⊥) (hs : s ≠ ⊤ ∧ s ≠ ⊥) (hh : h ≠ ⊤ ∧ h ≠ ⊥) : x * (1 + s) + h ≠ ⊤ ∧ x * (1 + s) + h ≠ ⊥ := by
  lift x to ℝ using hx
  lift s to ℝ using hs
  lift h to ℝ using hh
  have e : (x : EReal) * (1 + s) + h = ((x * (1 + s) + h : ℝ) : EReal) := by push_cast; rfl
  rw [e]
  exact ⟨EReal.coe_ne_top _, EReal.coe_ne_bot _⟩

/-- With finite arguments the rests vanish and the kernel's three sums are the projection. -/
theorem tailRaw_eq (X : (⟨3, ![2, 4096, 2048]⟩ : Shape).Idx → EReal) (S H : (⟨3, ![2, 1, 2048]⟩ : Shape).Idx → EReal) (W : (⟨2, ![2048, 6752]⟩ : Shape).Idx → EReal)
    (hX : ∀ x, X x ≠ ⊤ ∧ X x ≠ ⊥) (hS : ∀ x, S x ≠ ⊤ ∧ S x ≠ ⊥) (hH : ∀ x, H x ≠ ⊤ ∧ H x ≠ ⊥) (hW : ∀ x, W x ≠ ⊤ ∧ W x ≠ ⊥)
    (i : (⟨2, ![8192, 384]⟩ : Shape).Idx) : tailRaw X S H W i = tailOut X S H W i := by
  have hw : ∀ k : Fin 2048, tailOf (fun j => W (ix2 k j)) (i 1).val - tailOf (fun j => W (ix2 k j)) (i 1).val = 0 := fun k =>
    sub_self_of_finite (tailOf_prop (fun x => x ≠ ⊤ ∧ x ≠ ⊥) ⟨EReal.zero_ne_top, EReal.zero_ne_bot⟩ _ (fun j => hW _) _)
  have hu : ∀ k : Fin 2048, unit X S H (i 0) k - unit X S H (i 0) k = 0 := fun k => sub_self_of_finite (modul_finite (hX _) (hS _) (hH _))
  unfold tailRaw tailOut proj
  simp only [hw, hu, mul_zero, zero_mul, Finset.sum_const_zero, add_zero]
  exact tailOf_sum (fun k => unit X S H (i 0) k) (fun k j => W (ix2 k j)) (i 1).val

end Cert.Columns

namespace Cert.InprojIdeal.Pair

open Idealize.ShloMosaic Idealize.SL.Sem Idealize.ShloMosaic.StableHlo

/-- THE VALUE CLAIM of the input projection: the main results agree everywhere, the tail results wherever the arguments are finite. -/
theorem algebraic :
    Cert.algebraic_InprojIdeal_ProjectionIdeal_on_finite_tail (hInprojIdeal := Cert.InprojIdeal.Gen.facts) (hProjectionIdeal := Cert.ProjectionIdeal.Gen.facts)
      (hOn_finite_tail := Cert.On_finite_tail.Gen.facts) := by
  intro m g m' g' _ hagree
  refine ⟨fun c => Cert.InprojIdeal.Hand.G6 m c, fun c => Cert.InprojIdeal.Hand.G7 m c, ?_, ?_⟩
  · exact (θ_run (Cert.InprojIdeal.defs (F := Ideal)) _ _).mono
      (fun r h c => ⟨fun i _ => congrFun (h c).1 i, fun i _ => congrFun (h c).2.1 i, (h c).2.2⟩) (Cert.InprojIdeal.Hand.run_read m g)
  · refine (θ_run (Cert.ProjectionIdeal.defs (F := Ideal)) _ _).mono (fun r h c => ⟨fun i _ => ?_, fun i hi => ?_, (h c).2.2⟩) (Cert.ProjectionIdeal.Value.run m' g')
    · obtain ⟨h0, h1, h2, h3⟩ := hagree c
      have hx : i = ix2 (i 0) (i 1) := by funext k; fin_cases k <;> rfl
      refine (congrFun (h c).1 i).trans ?_
      rw [h0, h1, h2, h3]
      refine (congrArg _ hx).trans ((Cert.ProjectionIdeal.Columns.main_apply (Cert.ProjectionIdeal.Columns.full (Cert.InprojIdeal.Hand.xs m c) (Cert.InprojIdeal.Hand.scs m c) (Cert.InprojIdeal.Hand.shs m c) (Cert.InprojIdeal.Hand.wts m c)) (i 0) (i 1)).trans ?_)
      exact Cert.ProjectionIdeal.Columns.full_apply _ _ _ _ _ _
    · obtain ⟨h0, h1, h2, h3⟩ := hagree c
      have hx : i = ix2 (i 0) (i 1) := by funext k; fin_cases k <;> rfl
      obtain ⟨fX, fS, fH, fW⟩ := Cert.Columns.mask_finite _ _ _ _ i hi
      refine (congrFun (h c).2.1 i).trans ?_
      rw [h0, h1, h2, h3]
      refine Eq.trans ?_ (Cert.Columns.tailRaw_eq (Cert.InprojIdeal.Hand.xs m c) (Cert.InprojIdeal.Hand.scs m c) (Cert.InprojIdeal.Hand.shs m c) (Cert.InprojIdeal.Hand.wts m c) fX fS fH fW i).symm
      refine (congrArg _ hx).trans ((Cert.ProjectionIdeal.Columns.tail_apply (Cert.ProjectionIdeal.Columns.full (Cert.InprojIdeal.Hand.xs m c) (Cert.InprojIdeal.Hand.scs m c) (Cert.InprojIdeal.Hand.shs m c) (Cert.InprojIdeal.Hand.wts m c)) (i 0) (i 1)).trans ?_)
      exact congrArg (fun f => Cert.Columns.tailOf f (i 1).val) (funext fun j => Cert.ProjectionIdeal.Columns.full_apply _ _ _ _ _ _)

end Cert.InprojIdeal.Pair

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.SsdPair
public import proofs.«01_k».proof.Proof.Gen.Experts
public import proofs.«01_k».proof.Proof.Gen.Experts.Skeleton
public import proofs.«01_k».proof.Proof.Gen.Experts.Launch
public import proofs.«01_k».proof.Proof.Gen.Experts.Flash
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Flash
public import proofs.«01_k».proof.Proof.Gen.DenseIdeal
public import proofs.«01_k».proof.Proof.Gen.DenseIdeal.Run
public import proofs.«01_k».proof.Proof.Gen.Pre_moe_plan
public import proofs.«01_k».proof.Proof.Gen.On_blocks_used
public import proofs.«01_k».proof.Proof.Decode
public import proofs.«01_k».proof.Proof.FrameBits
public import proofs.«01_k».proof.Proof.FrameIdeal
public import proofs.«01_k».proof.Proof.Traj
public import proofs.«01_k».proof.Proof.RefRow
public import proofs.«01_k».proof.Proof.Gen.Inproj
public import proofs.«01_k».proof.Proof.Gen.ProjectionIdeal
public import proofs.«01_k».proof.Proof.Gen.ProjectionIdeal.Run
public import proofs.«01_k».proof.Proof.Gen.On_finite_tail
public import proofs.«01_k».proof.Proof.InprojPair
public import Idealize.ShloMosaic.Lib.Quiescent
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Idealize.ShloMosaic.StableHlo

/-- The precondition gives a plan that the kernel's tables hold (on words). -/
theorem plan_bits (m : (ℓ : Loc Cert.Experts.nD Cert.Experts.τ Cert.Experts.sig) → Buf (Elt Bits) ℓ) (h : Cert.Pre_Experts m) :
    ∃ pl : Cert.Moe.Plan, Cert.Experts.Plan.Pinned pl m := by
  have w := Cert.Moe.plan_words _ _ _ _ _ _ (h 0)
  refine ⟨Cert.Moe.planOf _ _ w, fun c => ?_, fun c => ?_⟩
  · obtain rfl : c = 0 := Subsingleton.elim (α := Fin 1) _ _
    exact Cert.Moe.planOf_e _ _ w
  · obtain rfl : c = 0 := Subsingleton.elim (α := Fin 1) _ _
    exact Cert.Moe.planOf_nb _ _ w

/-- The precondition gives a plan that the kernel's tables hold (with floats as extended reals). -/
theorem plan_ideal (m : (ℓ : Loc Cert.ExpertsIdeal.nD Cert.ExpertsIdeal.τ Cert.ExpertsIdeal.sig) → Buf (Elt Ideal) ℓ) (h : Cert.Pre_ExpertsIdeal m) :
    ∃ pl : Cert.Moe.Plan, Cert.ExpertsIdeal.Plan.Pinned pl m := by
  have w := Cert.Moe.plan_words _ _ _ _ _ _ (h 0)
  refine ⟨Cert.Moe.planOf _ _ w, fun c => ?_, fun c => ?_⟩
  · obtain rfl : c = 0 := Subsingleton.elim (α := Fin 1) _ _
    exact Cert.Moe.planOf_e _ _ w
  · obtain rfl : c = 0 := Subsingleton.elim (α := Fin 1) _ _
    exact Cert.Moe.planOf_nb _ _ w

/-- The reference runs, its arguments end unchanged and its counters at zero. -/
theorem dense_frame (m : (ℓ : Loc Cert.DenseIdeal.nD Cert.DenseIdeal.τ Cert.DenseIdeal.sig) → Buf (Elt Ideal) ℓ) (ρ : Dev Cert.DenseIdeal.nD → PrngReg) :
    θ_run (Cert.DenseIdeal.defs (F := Ideal)) (onTc (τ := Cert.DenseIdeal.τ) (Cert.DenseIdeal.main (F := Ideal))) ⟨m, fun _ => 0, ρ⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5))
      ∧ r.2.sem = fun _ => 0) :=
  (θ_run (Cert.DenseIdeal.defs (F := Ideal)) _ _).mono (fun r h => ⟨fun c => (h c).2, sem_eq_zero_of_no_sems rfl _⟩) (Cert.DenseIdeal.Value.run m ρ)

/-- The projection's reference runs, its arguments end unchanged and its counters at zero. -/
theorem projection_frame (m : (ℓ : Loc Cert.ProjectionIdeal.nD Cert.ProjectionIdeal.τ Cert.ProjectionIdeal.sig) → Buf (Elt Ideal) ℓ) (ρ : Dev Cert.ProjectionIdeal.nD → PrngReg) :
    θ_run (Cert.ProjectionIdeal.defs (F := Ideal)) (onTc (τ := Cert.ProjectionIdeal.τ) (Cert.ProjectionIdeal.main (F := Ideal))) ⟨m, fun _ => 0, ρ⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3))
      ∧ r.2.sem = fun _ => 0) :=
  (θ_run (Cert.ProjectionIdeal.defs (F := Ideal)) _ _).mono (fun r h => ⟨fun c => (h c).2.2, sem_eq_zero_of_no_sems rfl _⟩) (Cert.ProjectionIdeal.Value.run m ρ)

/-- On the rows of used blocks the reference's result is the kernel's value. -/
theorem rows_agree (pl : Cert.Moe.Plan) (m : (ℓ : Loc Cert.ExpertsIdeal.nD Cert.ExpertsIdeal.τ Cert.ExpertsIdeal.sig) → Buf (Elt Ideal) ℓ)
    (m' : (ℓ : Loc Cert.DenseIdeal.nD Cert.DenseIdeal.τ Cert.DenseIdeal.sig) → Buf (Elt Ideal) ℓ) (hp : Cert.ExpertsIdeal.Plan.Pinned pl m) (c : Dev Cert.ExpertsIdeal.nD)
    (h0 : m' ((c.tc : Thread Cert.DenseIdeal.nD Cert.DenseIdeal.τ).loc Cert.DenseIdeal.main_arg0) = m ((c.tc : Thread Cert.ExpertsIdeal.nD Cert.ExpertsIdeal.τ).loc Cert.ExpertsIdeal.main_arg0))
    (h2 : m' ((c.tc : Thread Cert.DenseIdeal.nD Cert.DenseIdeal.τ).loc Cert.DenseIdeal.main_arg2) = m ((c.tc : Thread Cert.ExpertsIdeal.nD Cert.ExpertsIdeal.τ).loc Cert.ExpertsIdeal.main_arg2))
    (h3 : m' ((c.tc : Thread Cert.DenseIdeal.nD Cert.DenseIdeal.τ).loc Cert.DenseIdeal.main_arg3) = m ((c.tc : Thread Cert.ExpertsIdeal.nD Cert.ExpertsIdeal.τ).loc Cert.ExpertsIdeal.main_arg3))
    (h4 : m' ((c.tc : Thread Cert.DenseIdeal.nD Cert.DenseIdeal.τ).loc Cert.DenseIdeal.main_arg4) = m ((c.tc : Thread Cert.ExpertsIdeal.nD Cert.ExpertsIdeal.τ).loc Cert.ExpertsIdeal.main_arg4))
    (h5 : m' ((c.tc : Thread Cert.DenseIdeal.nD Cert.DenseIdeal.τ).loc Cert.DenseIdeal.main_arg5) = m ((c.tc : Thread Cert.ExpertsIdeal.nD Cert.ExpertsIdeal.τ).loc Cert.ExpertsIdeal.main_arg5))
    (i : Fin 97280) (j : Fin 2048) (R : FVec Ideal Cert.DenseIdeal.S97280x2048 .bf16)
    (hR : R = Cert.DenseIdeal.Value.val3 (launchContents m' c) (Proc.devRef .tc Cert.DenseIdeal.main_v125)) :
    R (ix2 i j) = Cert.ExpertsIdeal.Plan.rowVal pl m c i j := by
  have hB : (launchContents m' c (Proc.devRef .tc Cert.DenseIdeal.main_arg0) : IVec Cert.DenseIdeal.S380 32) (ValueIdx.ix1 ⟨i.val / 256, by have := i.isLt; omega⟩)
      = BitVec.ofNat 32 (pl.e (i.val / 256)) := congrFun (h0.trans (hp.1 c)) _
  rw [Cert.DenseIdeal.Rows.result_apply (launchContents m' c) i j (pl.e (i.val / 256)) (pl.he _) hB R hR]
  have e2 : (launchContents m' c (Proc.devRef .tc Cert.DenseIdeal.main_arg2) : Cert.DenseIdeal.S97280x2432.Idx → EReal) = Cert.ExpertsIdeal.Plan.rows m c := h2
  have e3 : (launchContents m' c (Proc.devRef .tc Cert.DenseIdeal.main_arg3) : Cert.DenseIdeal.S64x2048x512.Idx → EReal) = Cert.ExpertsIdeal.Plan.wgs m c := h3
  have e4 : (launchContents m' c (Proc.devRef .tc Cert.DenseIdeal.main_arg4) : Cert.DenseIdeal.S64x2048x512.Idx → EReal) = Cert.ExpertsIdeal.Plan.wus m c := h4
  have e5 : (launchContents m' c (Proc.devRef .tc Cert.DenseIdeal.main_arg5) : Cert.DenseIdeal.S64x512x2048.Idx → EReal) = Cert.ExpertsIdeal.Plan.wds m c := h5
  rw [e2, e3, e4, e5]
  rfl

/-- The value claim: on the rows of used blocks the kernel and the reference compute the same numbers. -/
theorem algebraic :
    Cert.algebraic_ExpertsIdeal_DenseIdeal_on_blocks_used (hExpertsIdeal := Cert.ExpertsIdeal.Gen.facts) (hDenseIdeal := Cert.DenseIdeal.Gen.facts)
      (hPre_moe_plan := Cert.Pre_moe_plan.Gen.facts) (hOn_blocks_used := Cert.On_blocks_used.Gen.facts) := by
  intro m g m' g' hpre hagree
  obtain ⟨pl, hp⟩ := plan_ideal m hpre
  refine ⟨fun c => fun x => Cert.ExpertsIdeal.Plan.rowVal pl m c (x 0) (x 1), ?_, ?_⟩
  · refine (θ_run (Cert.ExpertsIdeal.defs (F := Ideal)) _ _).mono (fun r h c => ⟨fun i hi => ?_, h.2 c⟩)
      (θ_run_and (Cert.ExpertsIdeal.Plan.run_main pl m g hp) (Cert.ExpertsIdeal.Plan.unchanged pl m g hp))
    have hu := Cert.Moe.mask_rows pl _ _ _ _ _ _ (hp.2 c) i hi
    have e := congrFun ((h.1 c).1 (4 : Fin 5)) i
    refine e.trans ?_
    have hx : i = ix2 (i 0) (i 1) := by funext k; fin_cases k <;> rfl
    rw [hx]
    exact Cert.ExpertsIdeal.Plan.final pl m g c (i 0) hu (i 1)
  · refine (θ_run (Cert.DenseIdeal.defs (F := Ideal)) _ _).mono (fun r h c => ⟨fun i hi => ?_, (h c).2⟩) (Cert.DenseIdeal.Value.run m' g')
    obtain ⟨h0, h1, h2, h3, h4, h5⟩ := hagree c
    have hx : i = ix2 (i 0) (i 1) := by funext k; fin_cases k <;> rfl
    have key := rows_agree pl m m' hp c h0 h2 h3 h4 h5 (i 0) (i 1) _ ((h c).1.trans (Cert.DenseIdeal.Value.val3_main_v125 (launchContents m' c)).symm)
    exact (congrArg (r.2.mem ((c.tc : Thread Cert.DenseIdeal.nD Cert.DenseIdeal.τ).loc Cert.DenseIdeal.main_v125)) hx).trans key

/-- The two programs' kernel bodies are one text. -/
theorem inproj_bodies : (Cert.Inproj.defs₀ (F := Bits)) = (Cert.InprojIdeal.defs₀ (F := Bits)) := by
  unfold Cert.Inproj.defs₀ Cert.InprojIdeal.defs₀
  refine congrArg (Defs.onTc (nD := Cert.InprojIdeal.nD) (τ := Cert.InprojIdeal.τ) (sig := Cert.InprojIdeal.sig) (Λ := Cert.InprojIdeal.Λ₀)) ?_
  funext l a
  match l, a with
  | 0, (t, s) => rfl

/-- So are their body tables with the pipelines. -/
theorem inproj_defs : (Cert.Inproj.defs (F := Bits)) = (Cert.InprojIdeal.defs (F := Bits)) :=
  congrArg (Pipeline.defs (Cert.InprojIdeal.pcfgs (F := Bits))) inproj_bodies

/-- The input projection's frame on words: the two programs have one text, so the run written for the idealization is this program's too. -/
theorem inproj_frame (m : (ℓ : Loc Cert.Inproj.nD Cert.Inproj.τ Cert.Inproj.sig) → Buf (Elt Bits) ℓ) (ρ : Dev Cert.Inproj.nD → PrngReg) :
    θ_run (Cert.Inproj.defs (F := Bits)) (onTc (τ := Cert.Inproj.τ) (Cert.Inproj.main (F := Bits))) ⟨m, fun _ => 0, ρ⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0) := by
  rw [inproj_defs]
  exact Cert.InprojIdeal.Hand.frame (F := Bits) m ρ

/-- Every claim of the certificate: for the state-space call, the experts' call and the input projection the frames, the idealization without rewrites, the value claim. -/
theorem claim : Cert.Claim := ⟨Cert.Kernel.Gen.facts, Cert.KernelIdeal.Gen.facts, Cert.ReferenceIdeal.Gen.facts,
  Cert.Experts.Gen.facts, Cert.ExpertsIdeal.Gen.facts, Cert.DenseIdeal.Gen.facts, Cert.Inproj.Gen.facts, Cert.InprojIdeal.Gen.facts, Cert.ProjectionIdeal.Gen.facts,
  Cert.Pre_moe_plan.Gen.facts, Cert.On_blocks_used.Gen.facts, Cert.On_finite_tail.Gen.facts,
  fun m ρ _ => Cert.Kernel.Gen.frame m ρ,
  fun m ρ _ => Cert.KernelIdeal.Gen.frame m ρ,
  fun m ρ _ => (θ_run (Cert.ReferenceIdeal.defs (F := Ideal)) _ _).mono (fun _ h => ⟨fun c => (h.1 c).2, h.2⟩) (Cert.ReferenceIdeal.Value.run m ρ),
  fun m ρ h => (plan_bits m h).elim fun pl hp => Cert.Experts.Plan.frame pl m ρ hp,
  fun m ρ h => (plan_ideal m h).elim fun pl hp => Cert.ExpertsIdeal.Plan.frame pl m ρ hp,
  fun m ρ _ => dense_frame m ρ, fun m ρ _ => dense_frame m ρ,
  fun m ρ _ => inproj_frame m ρ, fun m ρ _ => Cert.InprojIdeal.Hand.frame m ρ, fun m ρ _ => projection_frame m ρ,
  trivial, Cert.Ssd.Pair.algebraic, trivial, algebraic, trivial, Cert.InprojIdeal.Pair.algebraic⟩

end Cert.Proof

end
